-- ==== Defs.lean ====
def Pre_Kernel [hPre_dest_in_rows : Cert.Pre_dest_in_rows.Facts] (m : (ℓ : Loc Cert.Kernel.nD Cert.Kernel.τ Cert.Kernel.sig) → Buf (Elt Bits) ℓ) : Prop :=
  ∀ c : Dev Cert.Kernel.nD,
    (Cert.Pre_dest_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dest_in_rows : Cert.Pre_dest_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_dest_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_dest_in_rows : Cert.Pre_dest_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_dest_in_rows : Cert.Pre_dest_in_rows.Facts] (m : (ℓ : Loc Cert.Reference.nD Cert.Reference.τ Cert.Reference.sig) → Buf (Elt Bits) ℓ) : Prop :=
  ∀ c : Dev Cert.Reference.nD,
    (Cert.Pre_dest_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_scores_finite [hPre_scores_finite : Cert.Pre_scores_finite.Facts] (m : (ℓ : Loc Cert.AttendIdeal.nD Cert.AttendIdeal.τ Cert.AttendIdeal.sig) → Buf (Elt Ideal) ℓ) : Prop :=
  ∀ c : Dev Cert.AttendIdeal.nD,
    (Cert.Pre_scores_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4))) = (fun _ => 1#1)

def Pre_AttendRefIdeal (m : (ℓ : Loc Cert.AttendRefIdeal.nD Cert.AttendRefIdeal.τ Cert.AttendRefIdeal.sig) → Buf (Elt Ideal) ℓ) : Prop :=
  True

def Pre_AttendRefIdeal_scores_finite [hPre_scores_finite : Cert.Pre_scores_finite.Facts] (m : (ℓ : Loc Cert.AttendRefIdeal.nD Cert.AttendRefIdeal.τ Cert.AttendRefIdeal.sig) → Buf (Elt Ideal) ℓ) : Prop :=
  ∀ c : Dev Cert.AttendRefIdeal.nD,
    (Cert.Pre_scores_finite.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_stream_finite [hPre_stream_finite : Cert.Pre_stream_finite.Facts] (m : (ℓ : Loc Cert.MergeIdeal.nD Cert.MergeIdeal.τ Cert.MergeIdeal.sig) → Buf (Elt Ideal) ℓ) : Prop :=
  ∀ c : Dev Cert.MergeIdeal.nD,
    (Cert.Pre_stream_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_stream_finite [hPre_stream_finite : Cert.Pre_stream_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_stream_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def quiescent_Kernel [hKernel : Cert.Kernel.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_dest_in_rows : Cert.Pre_dest_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_dest_in_rows : Cert.Pre_dest_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendIdeal_pre_scores_finite [hAttendIdeal : Cert.AttendIdeal.Facts] [hPre_scores_finite : Cert.Pre_scores_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_scores_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4))
      ∧ r.2.sem = fun _ => 0)

def quiescent_AttendRefIdeal_pre_scores_finite [hAttendRefIdeal : Cert.AttendRefIdeal.Facts] [hPre_scores_finite : Cert.Pre_scores_finite.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal_scores_finite m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeIdeal_pre_stream_finite [hMergeIdeal : Cert.MergeIdeal.Facts] [hPre_stream_finite : Cert.Pre_stream_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_stream_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_MergeRefIdeal_pre_stream_finite [hMergeRefIdeal : Cert.MergeRefIdeal.Facts] [hPre_stream_finite : Cert.Pre_stream_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_stream_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v12)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v12) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v13)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v23) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Attend_AttendIdeal : Prop :=
  True

def algebraic_AttendIdeal_AttendRefIdeal_pre_scores_finite [hAttendIdeal : Cert.AttendIdeal.Facts] [hAttendRefIdeal : Cert.AttendRefIdeal.Facts] [hPre_scores_finite : Cert.Pre_scores_finite.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal_scores_finite m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)
      ∧ m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1)
      ∧ m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2)
      ∧ m' ((c.tc : Thread Cert.AttendRefIdeal.nD Cert.AttendRefIdeal.τ).loc Cert.AttendRefIdeal.main_arg3) = m ((c.tc : Thread Cert.AttendIdeal.nD Cert.AttendIdeal.τ).loc Cert.AttendIdeal.main_arg3)
      ∧ m' ((c.tc : Thread Cert.AttendRefIdeal.nD Cert.AttendRefIdeal.τ).loc Cert.AttendRefIdeal.main_arg4) = m ((c.tc : Thread Cert.AttendIdeal.nD Cert.AttendIdeal.τ).loc Cert.AttendIdeal.main_arg4)) →
    ∃ (v0 : (c : Dev Cert.AttendIdeal.nD) → Buf (Elt Ideal) ((c.tc : Thread Cert.AttendIdeal.nD Cert.AttendIdeal.τ).loc Cert.AttendIdeal.main_v28)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v28) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v21) = v0 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2)
          ∧ r.2.mem ((c.tc : Thread Cert.AttendRefIdeal.nD Cert.AttendRefIdeal.τ).loc Cert.AttendRefIdeal.main_arg3) = m' ((c.tc : Thread Cert.AttendRefIdeal.nD Cert.AttendRefIdeal.τ).loc Cert.AttendRefIdeal.main_arg3)
          ∧ r.2.mem ((c.tc : Thread Cert.AttendRefIdeal.nD Cert.AttendRefIdeal.τ).loc Cert.AttendRefIdeal.main_arg4) = m' ((c.tc : Thread Cert.AttendRefIdeal.nD Cert.AttendRefIdeal.τ).loc Cert.AttendRefIdeal.main_arg4))

def preserves_Merge_MergeIdeal : Prop :=
  True

def algebraic_MergeIdeal_MergeRefIdeal_pre_stream_finite [hMergeIdeal : Cert.MergeIdeal.Facts] [hMergeRefIdeal : Cert.MergeRefIdeal.Facts] [hPre_stream_finite : Cert.Pre_stream_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_stream_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v16_1)) (v2 : (c : Dev Cert.MergeIdeal.nD) → Buf (Elt Ideal) ((c.tc : Thread Cert.MergeIdeal.nD Cert.MergeIdeal.τ).loc Cert.MergeIdeal.main_v16_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v16_1) = v1 c
          ∧ r.2.mem ((c.tc : Thread Cert.MergeIdeal.nD Cert.MergeIdeal.τ).loc Cert.MergeIdeal.main_v16_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_v59) = v1 c
          ∧ r.2.mem ((c.tc : Thread Cert.MergeRefIdeal.nD Cert.MergeRefIdeal.τ).loc Cert.MergeRefIdeal.main_v60) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v32) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def Claim : Prop :=
  ∃ (hKernel : Cert.Kernel.Facts) (hKernelIdeal : Cert.KernelIdeal.Facts) (hReferenceIdeal : Cert.ReferenceIdeal.Facts) (hReference : Cert.Reference.Facts) (hInProj : Cert.InProj.Facts) (hInProjIdeal : Cert.InProjIdeal.Facts) (hInProjRefIdeal : Cert.InProjRefIdeal.Facts) (hAttend : Cert.Attend.Facts) (hAttendIdeal : Cert.AttendIdeal.Facts) (hAttendRefIdeal : Cert.AttendRefIdeal.Facts) (hMerge : Cert.Merge.Facts) (hMergeIdeal : Cert.MergeIdeal.Facts) (hMergeRefIdeal : Cert.MergeRefIdeal.Facts) (hCombine : Cert.Combine.Facts) (hCombineIdeal : Cert.CombineIdeal.Facts) (hCombineRefIdeal : Cert.CombineRefIdeal.Facts) (hPre_dest_in_rows : Cert.Pre_dest_in_rows.Facts) (hPre_scores_finite : Cert.Pre_scores_finite.Facts) (hPre_stream_finite : Cert.Pre_stream_finite.Facts),
    quiescent_Kernel (hKernel := hKernel) (hPre_dest_in_rows := hPre_dest_in_rows)
    ∧ quiescent_KernelIdeal (hKernelIdeal := hKernelIdeal) (hPre_dest_in_rows := hPre_dest_in_rows)
    ∧ quiescent_ReferenceIdeal (hReferenceIdeal := hReferenceIdeal) (hPre_dest_in_rows := hPre_dest_in_rows)
    ∧ quiescent_Reference (hReference := hReference) (hPre_dest_in_rows := hPre_dest_in_rows)
    ∧ quiescent_InProj (hInProj := hInProj)
    ∧ quiescent_InProjIdeal (hInProjIdeal := hInProjIdeal)
    ∧ quiescent_InProjRefIdeal (hInProjRefIdeal := hInProjRefIdeal)
    ∧ quiescent_Attend (hAttend := hAttend)
    ∧ quiescent_AttendIdeal (hAttendIdeal := hAttendIdeal)
    ∧ quiescent_AttendIdeal_pre_scores_finite (hAttendIdeal := hAttendIdeal) (hPre_scores_finite := hPre_scores_finite)
    ∧ quiescent_AttendRefIdeal (hAttendRefIdeal := hAttendRefIdeal)
    ∧ quiescent_AttendRefIdeal_pre_scores_finite (hAttendRefIdeal := hAttendRefIdeal) (hPre_scores_finite := hPre_scores_finite)
    ∧ quiescent_Merge (hMerge := hMerge)
    ∧ quiescent_MergeIdeal (hMergeIdeal := hMergeIdeal)
    ∧ quiescent_MergeIdeal_pre_stream_finite (hMergeIdeal := hMergeIdeal) (hPre_stream_finite := hPre_stream_finite)
    ∧ quiescent_MergeRefIdeal (hMergeRefIdeal := hMergeRefIdeal)
    ∧ quiescent_MergeRefIdeal_pre_stream_finite (hMergeRefIdeal := hMergeRefIdeal) (hPre_stream_finite := hPre_stream_finite)
    ∧ quiescent_Combine (hCombine := hCombine)
    ∧ quiescent_CombineIdeal (hCombineIdeal := hCombineIdeal)
    ∧ quiescent_CombineRefIdeal (hCombineRefIdeal := hCombineRefIdeal)
    ∧ preserves_Kernel_KernelIdeal
    ∧ algebraic_KernelIdeal_ReferenceIdeal (hKernelIdeal := hKernelIdeal) (hReferenceIdeal := hReferenceIdeal) (hPre_dest_in_rows := hPre_dest_in_rows)
    ∧ bitexact_Kernel_Reference (hKernel := hKernel) (hReference := hReference) (hPre_dest_in_rows := hPre_dest_in_rows)
    ∧ preserves_InProj_InProjIdeal
    ∧ algebraic_InProjIdeal_InProjRefIdeal (hInProjIdeal := hInProjIdeal) (hInProjRefIdeal := hInProjRefIdeal)
    ∧ preserves_Attend_AttendIdeal
    ∧ algebraic_AttendIdeal_AttendRefIdeal_pre_scores_finite (hAttendIdeal := hAttendIdeal) (hAttendRefIdeal := hAttendRefIdeal) (hPre_scores_finite := hPre_scores_finite)
    ∧ preserves_Merge_MergeIdeal
    ∧ algebraic_MergeIdeal_MergeRefIdeal_pre_stream_finite (hMergeIdeal := hMergeIdeal) (hMergeRefIdeal := hMergeRefIdeal) (hPre_stream_finite := hPre_stream_finite)
    ∧ preserves_Combine_CombineIdeal
    ∧ algebraic_CombineIdeal_CombineRefIdeal (hCombineIdeal := hCombineIdeal) (hCombineRefIdeal := hCombineRefIdeal)
-- ==== Pre_dest_in_rows.lean ====
abbrev S4x155648x128 : Shape := ⟨3, ![4, 155648, 128]⟩
abbrev S69632 : Shape := ⟨1, ![69632]⟩
abbrev S_ : Shape := ⟨0, ![]⟩

class Facts : Prop where
  bcast_S_S69632 : S_.BroadcastsInDim S69632 (![] : Fin 0 → Fin S69632.rank)

variable [Facts]

def fn {F : FTy → Type} [FloatOps F] (main_arg0 : IVec S4x155648x128 32) (main_arg1 : IVec S69632 32) : IVec S69632 1 :=
  let main_c : IVec S_ 32 := constantI S_ 32 0#32
  let main_v0 : IVec S69632 32 := broadcastInDim S69632 ![] bcast_S_S69632 main_c
  let main_v1 : IVec S69632 1 := cmpi .sge main_arg1 main_v0
  let main_c_0 : IVec S_ 32 := constantI S_ 32 155648#32
  let main_v2 : IVec S69632 32 := broadcastInDim S69632 ![] bcast_S_S69632 main_c_0
  let main_v3 : IVec S69632 1 := cmpi .slt main_arg1 main_v2
  let main_v4 : IVec S69632 1 := andi main_v1 main_v3
  main_v4
-- ==== Pre_scores_finite.lean ====
abbrev S16x8x4096x64 : Shape := ⟨4, ![16, 8, 4096, 64]⟩
abbrev S16x2x256x64 : Shape := ⟨4, ![16, 2, 256, 64]⟩
abbrev S16x2x4096x64 : Shape := ⟨4, ![16, 2, 4096, 64]⟩
abbrev S_ : Shape := ⟨0, ![]⟩

class Facts : Prop where
  bcast_S_S16x8x4096x64 : S_.BroadcastsInDim S16x8x4096x64 (![] : Fin 0 → Fin S16x8x4096x64.rank)
  reducesTo_S16x8x4096x64_S_d0_1_2_3 : S16x8x4096x64.ReducesTo [0, 1, 2, 3] S_
  h_S_ : 0 < S_.numel
  bcast_S_S16x2x256x64 : S_.BroadcastsInDim S16x2x256x64 (![] : Fin 0 → Fin S16x2x256x64.rank)
  reducesTo_S16x2x256x64_S_d0_1_2_3 : S16x2x256x64.ReducesTo [0, 1, 2, 3] S_
  bcast_S_S16x2x4096x64 : S_.BroadcastsInDim S16x2x4096x64 (![] : Fin 0 → Fin S16x2x4096x64.rank)
  reducesTo_S16x2x4096x64_S_d0_1_2_3 : S16x2x4096x64.ReducesTo [0, 1, 2, 3] S_

variable [Facts]

def fn {F : FTy → Type} [FloatOps F] (main_arg0 : FVec F S16x8x4096x64 .f32) (main_arg1 : FVec F S16x2x256x64 .f32) (main_arg2 : FVec F S16x2x4096x64 .f32) (main_arg3 : FVec F S16x2x256x64 .f32) (main_arg4 : FVec F S16x2x4096x64 .f32) : IVec S_ 1 :=
  let main_v0 : FVec F S16x8x4096x64 .f32 := Host.absf main_arg0
  let main_cst : FVec F S_ .f32 := constant S_ .f32 0x7F800000#32
  let main_v1 : FVec F S16x8x4096x64 .f32 := broadcastInDim S16x8x4096x64 ![] bcast_S_S16x8x4096x64 main_cst
  let main_v2 : IVec S16x8x4096x64 1 := cmpf .olt main_v0 main_v1
  let main_c : IVec S_ 1 := constantI S_ 1 1#1
  let main_v3 : IVec S_ 1 := (fun x v => Host.reduce IntOp.andi x v reducesTo_S16x8x4096x64_S_d0_1_2_3 h_S_) main_v2 main_c
  let main_v4 : FVec F S16x2x256x64 .f32 := Host.absf main_arg1
  let main_cst_0 : FVec F S_ .f32 := constant S_ .f32 0x7F800000#32
  let main_v5 : FVec F S16x2x256x64 .f32 := broadcastInDim S16x2x256x64 ![] bcast_S_S16x2x256x64 main_cst_0
  let main_v6 : IVec S16x2x256x64 1 := cmpf .olt main_v4 main_v5
  let main_c_1 : IVec S_ 1 := constantI S_ 1 1#1
  let main_v7 : IVec S_ 1 := (fun x v => Host.reduce IntOp.andi x v reducesTo_S16x2x256x64_S_d0_1_2_3 h_S_) main_v6 main_c_1
  let main_v8 : IVec S_ 1 := andi main_v3 main_v7
  let main_v9 : FVec F S16x2x4096x64 .f32 := Host.absf main_arg2
  let main_cst_2 : FVec F S_ .f32 := constant S_ .f32 0x7F800000#32
  let main_v10 : FVec F S16x2x4096x64 .f32 := broadcastInDim S16x2x4096x64 ![] bcast_S_S16x2x4096x64 main_cst_2
  let main_v11 : IVec S16x2x4096x64 1 := cmpf .olt main_v9 main_v10
  let main_c_3 : IVec S_ 1 := constantI S_ 1 1#1
  let main_v12 : IVec S_ 1 := (fun x v => Host.reduce IntOp.andi x v reducesTo_S16x2x4096x64_S_d0_1_2_3 h_S_) main_v11 main_c_3
  let main_v13 : IVec S_ 1 := andi main_v8 main_v12
  main_v13
-- ==== Pre_stream_finite.lean ====
abbrev S16x4096x1024 : Shape := ⟨3, ![16, 4096, 1024]⟩
abbrev S16x4096x512 : Shape := ⟨3, ![16, 4096, 512]⟩
abbrev S16x4096x5376 : Shape := ⟨3, ![16, 4096, 5376]⟩
abbrev S512x1024 : Shape := ⟨2, ![512, 1024]⟩
abbrev S1024x1024 : Shape := ⟨2, ![1024, 1024]⟩
abbrev S16x1x1024 : Shape := ⟨3, ![16, 1, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x4096x512 : S_.BroadcastsInDim S16x4096x512 (![] : Fin 0 → Fin S16x4096x512.rank)
  reducesTo_S16x4096x512_S_d0_1_2 : S16x4096x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S16x1x1024 : S_.BroadcastsInDim S16x1x1024 (![] : Fin 0 → Fin S16x1x1024.rank)
  reducesTo_S16x1x1024_S_d0_1_2 : S16x1x1024.ReducesTo [0, 1, 2] S_
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part3 {F : FTy → Type} [FloatOps F] (main_arg13 : FVec F S1024x32 .f32) (main_v48 : IVec S_ 1) (main_v49 : FVec F S1024x4 .f32) (main_v50 : FVec F S1024x4 .f32) : IVec S_ 1 :=
  let main_v51 : IVec S1024x4 1 := cmpf .olt main_v49 main_v50
  let main_c_19 : IVec S_ 1 := constantI S_ 1 1#1
  let main_v52 : IVec S_ 1 := (fun x v => Host.reduce IntOp.andi x v reducesTo_S1024x4_S_d0_1 h_S_) main_v51 main_c_19
  let main_v53 : IVec S_ 1 := andi main_v48 main_v52
  let main_v54 : FVec F S1024x32 .f32 := Host.absf main_arg13
  let main_cst_20 : FVec F S_ .f32 := constant S_ .f32 0x7F800000#32
  let main_v55 : FVec F S1024x32 .f32 := broadcastInDim S1024x32 ![] bcast_S_S1024x32 main_cst_20
  let main_v56 : IVec S1024x32 1 := cmpf .olt main_v54 main_v55
  let main_c_21 : IVec S_ 1 := constantI S_ 1 1#1
  let main_v57 : IVec S_ 1 := (fun x v => Host.reduce IntOp.andi x v reducesTo_S1024x32_S_d0_1 h_S_) main_v56 main_c_21
  let main_v58 : IVec S_ 1 := andi main_v53 main_v57
  main_v58

def fn_part2 {F : FTy → Type} [FloatOps F] (main_arg8 : FVec F S1024 .f32) (main_arg9 : FVec F S16x1x1024 .f32) (main_arg10 : FVec F S16x1x1024 .f32) (main_arg11 : FVec F S1024x4 .f32) (main_arg13 : FVec F S1024x32 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S16x1x1024 .f32 := Host.absf main_arg9
  let main_cst_14 : FVec F S_ .f32 := constant S_ .f32 0x7F800000#32
  let main_v40 : FVec F S16x1x1024 .f32 := broadcastInDim S16x1x1024 ![] bcast_S_S16x1x1024 main_cst_14
  let main_v41 : IVec S16x1x1024 1 := cmpf .olt main_v39 main_v40
  let main_c_15 : IVec S_ 1 := constantI S_ 1 1#1
  let main_v42 : IVec S_ 1 := (fun x v => Host.reduce IntOp.andi x v reducesTo_S16x1x1024_S_d0_1_2 h_S_) main_v41 main_c_15
  let main_v43 : IVec S_ 1 := andi main_v38 main_v42
  let main_v44 : FVec F S16x1x1024 .f32 := Host.absf main_arg10
  let main_cst_16 : FVec F S_ .f32 := constant S_ .f32 0x7F800000#32
  let main_v45 : FVec F S16x1x1024 .f32 := broadcastInDim S16x1x1024 ![] bcast_S_S16x1x1024 main_cst_16
  let main_v46 : IVec S16x1x1024 1 := cmpf .olt main_v44 main_v45
  let main_c_17 : IVec S_ 1 := constantI S_ 1 1#1
  let main_v47 : IVec S_ 1 := (fun x v => Host.reduce IntOp.andi x v reducesTo_S16x1x1024_S_d0_1_2 h_S_) main_v46 main_c_17
  let main_v48 : IVec S_ 1 := andi main_v43 main_v47
  let main_v49 : FVec F S1024x4 .f32 := Host.absf main_arg11
  let main_cst_18 : FVec F S_ .f32 := constant S_ .f32 0x7F800000#32
  let main_v50 : FVec F S1024x4 .f32 := broadcastInDim S1024x4 ![] bcast_S_S1024x4 main_cst_18
  fn_part3 (F := F) main_arg13 main_v48 main_v49 main_v50

def fn_part1 {F : FTy → Type} [FloatOps F] (main_arg5 : FVec F S512x1024 .f32) (main_arg6 : FVec F S1024x1024 .f32) (main_arg7 : FVec F S16x1x1024 .f32) (main_arg8 : FVec F S1024 .f32) (main_arg9 : FVec F S16x1x1024 .f32) (main_arg10 : FVec F S16x1x1024 .f32) (main_arg11 : FVec F S1024x4 .f32) (main_arg13 : FVec F S1024x32 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512x1024 .f32 := Host.absf main_arg5
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S16x1x1024 .f32 := Host.absf main_arg7
  let main_cst_10 : FVec F S_ .f32 := constant S_ .f32 0x7F800000#32
  let main_v30 : FVec F S16x1x1024 .f32 := broadcastInDim S16x1x1024 ![] bcast_S_S16x1x1024 main_cst_10
  let main_v31 : IVec S16x1x1024 1 := cmpf .olt main_v29 main_v30
  let main_c_11 : IVec S_ 1 := constantI S_ 1 1#1
  let main_v32 : IVec S_ 1 := (fun x v => Host.reduce IntOp.andi x v reducesTo_S16x1x1024_S_d0_1_2 h_S_) main_v31 main_c_11
  let main_v33 : IVec S_ 1 := andi main_v28 main_v32
  fn_part2 (F := F) main_arg8 main_arg9 main_arg10 main_arg11 main_arg13 main_v33

def fn {F : FTy → Type} [FloatOps F] (main_arg0 : FVec F S16x4096x1024 .f32) (main_arg1 : FVec F S16x4096x512 .bf16) (main_arg2 : FVec F S16x4096x512 .bf16) (main_arg3 : FVec F S16x4096x5376 .bf16) (main_arg4 : FVec F S512x1024 .f32) (main_arg5 : FVec F S512x1024 .f32) (main_arg6 : FVec F S1024x1024 .f32) (main_arg7 : FVec F S16x1x1024 .f32) (main_arg8 : FVec F S1024 .f32) (main_arg9 : FVec F S16x1x1024 .f32) (main_arg10 : FVec F S16x1x1024 .f32) (main_arg11 : FVec F S1024x4 .f32) (main_arg12 : FVec F S4 .f32) (main_arg13 : FVec F S1024x32 .f32) (main_arg14 : FVec F S32 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x4096x512 .bf16 := Host.absf main_arg1
  let main_cst_0 : FVec F S_ .bf16 := constant S_ .bf16 0x7F80#16
  let main_v5 : FVec F S16x4096x512 .bf16 := broadcastInDim S16x4096x512 ![] bcast_S_S16x4096x512 main_cst_0
  let main_v6 : IVec S16x4096x512 1 := cmpf .olt main_v4 main_v5
  let main_c_1 : IVec S_ 1 := constantI S_ 1 1#1
  let main_v7 : IVec S_ 1 := (fun x v => Host.reduce IntOp.andi x v reducesTo_S16x4096x512_S_d0_1_2 h_S_) main_v6 main_c_1
  let main_v8 : IVec S_ 1 := andi main_v3 main_v7
  let main_v9 : FVec F S16x4096x512 .bf16 := Host.absf main_arg2
  let main_cst_2 : FVec F S_ .bf16 := constant S_ .bf16 0x7F80#16
  let main_v10 : FVec F S16x4096x512 .bf16 := broadcastInDim S16x4096x512 ![] bcast_S_S16x4096x512 main_cst_2
  let main_v11 : IVec S16x4096x512 1 := cmpf .olt main_v9 main_v10
  let main_c_3 : IVec S_ 1 := constantI S_ 1 1#1
  let main_v12 : IVec S_ 1 := (fun x v => Host.reduce IntOp.andi x v reducesTo_S16x4096x512_S_d0_1_2 h_S_) main_v11 main_c_3
  let main_v13 : IVec S_ 1 := andi main_v8 main_v12
  let main_v14 : FVec F S512x1024 .f32 := Host.absf main_arg4
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg5 main_arg6 main_arg7 main_arg8 main_arg9 main_arg10 main_arg11 main_arg13 main_v13 main_v16
-- ==== Kernel.lean ====
abbrev S4x155648x128 : Shape := ⟨3, ![4, 155648, 128]⟩
abbrev S69632 : Shape := ⟨1, ![69632]⟩
abbrev S4 : Shape := ⟨1, ![4]⟩
abbrev S_ : Shape := ⟨0, ![]⟩
abbrev S4x1 : Shape := ⟨2, ![4, 1]⟩
abbrev S1x69632 : Shape := ⟨2, ![1, 69632]⟩
abbrev S4x69632 : Shape := ⟨2, ![4, 69632]⟩
abbrev S278528 : Shape := ⟨1, ![278528]⟩
abbrev S622592x128 : Shape := ⟨2, ![622592, 128]⟩
abbrev S1x278528 : Shape := ⟨2, ![1, 278528]⟩
abbrev S278528x128 : Shape := ⟨2, ![278528, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S4x69632x128 : Shape := ⟨3, ![4, 69632, 128]⟩

abbrev nBuf : Table → Nat
  | .hbm => 16
  | .local .scVector .vmem => 2
  | _ => 0

abbrev bufTy : (tb : Table) → Fin (nBuf tb) → BufTy
  | .hbm, ⟨0, _⟩ => ⟨S4x155648x128, .i32⟩
  | .hbm, ⟨1, _⟩ => ⟨S69632, .i32⟩
  | .hbm, ⟨2, _⟩ => ⟨S4, .i32⟩
  | .hbm, ⟨3, _⟩ => ⟨S_, .i32⟩
  | .hbm, ⟨4, _⟩ => ⟨S4, .i32⟩
  | .hbm, ⟨5, _⟩ => ⟨S4, .i32⟩
  | .hbm, ⟨6, _⟩ => ⟨S4x1, .i32⟩
  | .hbm, ⟨7, _⟩ => ⟨S1x69632, .i32⟩
  | .hbm, ⟨8, _⟩ => ⟨S4x69632, .i32⟩
  | .hbm, ⟨9, _⟩ => ⟨S4x69632, .i32⟩
  | .hbm, ⟨10, _⟩ => ⟨S4x69632, .i32⟩
  | .hbm, ⟨11, _⟩ => ⟨S278528, .i32⟩
  | .hbm, ⟨12, _⟩ => ⟨S622592x128, .i32⟩
  | .hbm, ⟨13, _⟩ => ⟨S1x278528, .i32⟩
  | .hbm, ⟨14, _⟩ => ⟨S278528x128, .i32⟩
  | .hbm, ⟨15, _⟩ => ⟨S4x69632x128, .i32⟩
  | .local .scVector .vmem, ⟨0, _⟩ => ⟨S2x1x128, .i32⟩
  | .local .scVector .vmem, ⟨1, _⟩ => ⟨S2x128x128, .i32⟩
  | _, _ => ⟨S4x155648x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v9_scv : Ref sig .scVector := ⟨.hbm, 12, rfl⟩
abbrev main_v10_scv : Ref sig .scVector := ⟨.hbm, 13, rfl⟩
abbrev main_v11_scv : Ref sig .scVector := ⟨.hbm, 14, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c68_i32_27_r0 : BitVec 32 := 68#32
  let v32_r0 : BitVec 32 := Scalar.addi c0_i32_26_r0 c68_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c68_i32_62_r0 : BitVec 32 := 68#32
  let v74_r0 : BitVec 1 := Scalar.cmpi .eq v73_r0 c68_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c67_i32_68_r0 : BitVec 32 := 67#32
  let v83_r0 : BitVec 1 := Scalar.cmpi .sge arg5_r0 c67_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c68_i32_62_r0 : BitVec 32 := 68#32
  let v74_r0 : BitVec 1 := Scalar.cmpi .eq v73_r0 c68_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c67_i32_59_r0 : BitVec 32 := 67#32
  let v70_r0 : BitVec 32 := Scalar.select v69_r0 c67_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c68_i32_62_r0 : BitVec 32 := 68#32
  let v74_r0 : BitVec 1 := Scalar.cmpi .eq v73_r0 c68_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c67_i32_55_r0 : BitVec 32 := 67#32
  let v65_r0 : BitVec 1 := Scalar.cmpi .eq arg5_r0 c67_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c67_i32_59_r0 : BitVec 32 := 67#32
  let v70_r0 : BitVec 32 := Scalar.select v69_r0 c67_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c67_i32_59_r0 : BitVec 32 := 67#32
  let v70_r0 : BitVec 32 := Scalar.select v69_r0 c67_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x278528.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x278528.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S278528x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S278528x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x278528.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x278528.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S278528x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S278528x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c67_i32_33_r0 : BitVec 32 := 67#32
  let v37_r0 : BitVec 32 := Scalar.select v36_r0 c67_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S278528x128.size a)
theorem k0_off19_inb : ∀ (i : grid0.Coords) (v33_4_r0 : BitVec 32) (k0_hw5 : k0_chk5 i v33_4_r0), ∀ a, (k0_off19 i v33_4_r0) a + S128x128.size a ≤ S278528x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x155648x128 : Shape := ⟨3, ![4, 155648, 128]⟩
abbrev S69632 : Shape := ⟨1, ![69632]⟩
abbrev S_ : Shape := ⟨0, ![]⟩
abbrev S69632x1 : Shape := ⟨2, ![69632, 1]⟩
abbrev S1 : Shape := ⟨1, ![1]⟩
abbrev S1x1 : Shape := ⟨2, ![1, 1]⟩
abbrev S4x69632x128 : Shape := ⟨3, ![4, 69632, 128]⟩

abbrev nBuf : Space → Nat
  | .hbm => 25
  | .vmem => 0
  | .smem => 0
  | _ => 0

abbrev bufTy : (tb : Table) → Fin (tcTables nBuf tb) → BufTy
  | .hbm, ⟨0, _⟩ => ⟨S4x155648x128, .i32⟩
  | .hbm, ⟨1, _⟩ => ⟨S69632, .i32⟩
  | .hbm, ⟨2, _⟩ => ⟨S_, .i32⟩
  | .hbm, ⟨3, _⟩ => ⟨S69632, .i32⟩
  | .hbm, ⟨4, _⟩ => ⟨S69632, .i1⟩
  | .hbm, ⟨5, _⟩ => ⟨S_, .i32⟩
  | .hbm, ⟨6, _⟩ => ⟨S69632, .i32⟩
  | .hbm, ⟨7, _⟩ => ⟨S69632, .i32⟩
  | .hbm, ⟨8, _⟩ => ⟨S69632, .i32⟩
  | .hbm, ⟨9, _⟩ => ⟨S69632x1, .i32⟩
  | .hbm, ⟨10, _⟩ => ⟨S1, .i32⟩
  | .hbm, ⟨11, _⟩ => ⟨S_, .i32⟩
  | .hbm, ⟨12, _⟩ => ⟨S69632x1, .i32⟩
  | .hbm, ⟨13, _⟩ => ⟨S69632x1, .i1⟩
  | .hbm, ⟨14, _⟩ => ⟨S1x1, .i32⟩
  | .hbm, ⟨15, _⟩ => ⟨S69632x1, .i32⟩
  | .hbm, ⟨16, _⟩ => ⟨S69632x1, .i1⟩
  | .hbm, ⟨17, _⟩ => ⟨S69632x1, .i1⟩
  | .hbm, ⟨18, _⟩ => ⟨S_, .i1⟩
  | .hbm, ⟨19, _⟩ => ⟨S69632, .i1⟩
  | .hbm, ⟨20, _⟩ => ⟨S4x69632x128, .i32⟩
  | .hbm, ⟨21, _⟩ => ⟨S4x69632x128, .i1⟩
  | .hbm, ⟨22, _⟩ => ⟨S_, .i32⟩
  | .hbm, ⟨23, _⟩ => ⟨S4x69632x128, .i32⟩
  | .hbm, ⟨24, _⟩ => ⟨S4x69632x128, .i32⟩
  | _, _ => ⟨S4x155648x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_c_4 : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== InProj.lean ====
abbrev S16x4096x1024 : Shape := ⟨3, ![16, 4096, 1024]⟩
abbrev S1024 : Shape := ⟨1, ![1024]⟩
abbrev S16x1x1024 : Shape := ⟨3, ![16, 1, 1024]⟩
abbrev S1024x5376 : Shape := ⟨2, ![1024, 5376]⟩
abbrev S1024x512 : Shape := ⟨2, ![1024, 512]⟩
abbrev S1024x128 : Shape := ⟨2, ![1024, 128]⟩
abbrev S1024x2048 : Shape := ⟨2, ![1024, 2048]⟩
abbrev S1024x0 : Shape := ⟨2, ![1024, 0]⟩
abbrev S1x1024 : Shape := ⟨2, ![1, 1024]⟩
abbrev S16x4096x5376 : Shape := ⟨3, ![16, 4096, 5376]⟩
abbrev S1x512x1024 : Shape := ⟨3, ![1, 512, 1024]⟩
abbrev S1x1x1024 : Shape := ⟨3, ![1, 1, 1024]⟩
abbrev S1x512x5376 : Shape := ⟨3, ![1, 512, 5376]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1x512x768 : Shape := ⟨3, ![1, 512, 768]⟩

abbrev nBuf : Space → Nat
  | .hbm => 19
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x5376, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x128, .f32⟩
  | .hbm, ⟨12, _⟩ => ⟨S1024x128, .f32⟩
  | .hbm, ⟨13, _⟩ => ⟨S1024x2048, .f32⟩
  | .hbm, ⟨14, _⟩ => ⟨S1024x0, .f32⟩
  | .hbm, ⟨15, _⟩ => ⟨S1024x5376, .f32⟩
  | .hbm, ⟨16, _⟩ => ⟨S1024x5376, .bf16⟩
  | .hbm, ⟨17, _⟩ => ⟨S1x1024, .f32⟩
  | .hbm, ⟨18, _⟩ => ⟨S16x4096x5376, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x5376, .bf16⟩
  | .local _ .vmem, ⟨8, _⟩ => ⟨S1x512x5376, .bf16⟩
  | .local _ .vmem, ⟨9, _⟩ => ⟨S1x512x5376, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x5376 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S16x4096x1024 : Shape := ⟨3, ![16, 4096, 1024]⟩
abbrev S1024 : Shape := ⟨1, ![1024]⟩
abbrev S16x1x1024 : Shape := ⟨3, ![16, 1, 1024]⟩
abbrev S1024x5376 : Shape := ⟨2, ![1024, 5376]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5376 : Shape := ⟨3, ![16, 4096, 5376]⟩
abbrev S16x4096x2048 : Shape := ⟨3, ![16, 4096, 2048]⟩
abbrev S16x4096x3328 : Shape := ⟨3, ![16, 4096, 3328]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x5376, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x1x1024, .f32⟩
  | .hbm, ⟨23, _⟩ => ⟨S16x1x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x5376, .f32⟩
  | .hbm, ⟨29, _⟩ => ⟨S16x4096x2048, .f32⟩
  | .hbm, ⟨30, _⟩ => ⟨S16x4096x3328, .f32⟩
  | .hbm, ⟨31, _⟩ => ⟨S16x4096x5376, .f32⟩
  | .hbm, ⟨32, _⟩ => ⟨S16x4096x5376, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Attend.lean ====
abbrev S16x8x4096x64 : Shape := ⟨4, ![16, 8, 4096, 64]⟩
abbrev S16x2x256x64 : Shape := ⟨4, ![16, 2, 256, 64]⟩
abbrev S16x2x4096x64 : Shape := ⟨4, ![16, 2, 4096, 64]⟩
abbrev S16x256x2x64 : Shape := ⟨4, ![16, 256, 2, 64]⟩
abbrev S16x256x128 : Shape := ⟨3, ![16, 256, 128]⟩
abbrev S16x4096x2x64 : Shape := ⟨4, ![16, 4096, 2, 64]⟩
abbrev S16x4096x128 : Shape := ⟨3, ![16, 4096, 128]⟩
abbrev S_ : Shape := ⟨0, ![]⟩
abbrev S16x4x4096x64 : Shape := ⟨4, ![16, 4, 4096, 64]⟩
abbrev S16x4x4096x128 : Shape := ⟨4, ![16, 4, 4096, 128]⟩
abbrev S16x8x4096x128 : Shape := ⟨4, ![16, 8, 4096, 128]⟩
abbrev S16x4352x128 : Shape := ⟨3, ![16, 4352, 128]⟩
abbrev S16x4096x512 : Shape := ⟨3, ![16, 4096, 512]⟩
abbrev S1x8x128x128 : Shape := ⟨4, ![1, 8, 128, 128]⟩
abbrev S1x4352x128 : Shape := ⟨3, ![1, 4352, 128]⟩
abbrev S1x128x512 : Shape := ⟨3, ![1, 128, 512]⟩
abbrev S4352x128 : Shape := ⟨2, ![4352, 128]⟩
abbrev S128x128 : Shape := ⟨2, ![128, 128]⟩
abbrev S8x128x128 : Shape := ⟨3, ![8, 128, 128]⟩
abbrev S1024x128 : Shape := ⟨2, ![1024, 128]⟩
abbrev S1024x4352 : Shape := ⟨2, ![1024, 4352]⟩
abbrev S512x4352 : Shape := ⟨2, ![512, 4352]⟩
abbrev S512 : Shape := ⟨1, ![512]⟩
abbrev S512x1 : Shape := ⟨2, ![512, 1]⟩
abbrev S512x128 : Shape := ⟨2, ![512, 128]⟩
abbrev S1x128x128 : Shape := ⟨3, ![1, 128, 128]⟩

abbrev nBuf : Space → Nat
  | .hbm => 37
  | .vmem => 8
  | .smem => 0
  | _ => 0

abbrev bufTy : (tb : Table) → Fin (tcTables nBuf tb) → BufTy
  | .hbm, ⟨0, _⟩ => ⟨S16x8x4096x64, .f32⟩
  | .hbm, ⟨1, _⟩ => ⟨S16x2x256x64, .f32⟩
  | .hbm, ⟨2, _⟩ => ⟨S16x2x4096x64, .f32⟩
  | .hbm, ⟨3, _⟩ => ⟨S16x2x256x64, .f32⟩
  | .hbm, ⟨4, _⟩ => ⟨S16x2x4096x64, .f32⟩
  | .hbm, ⟨5, _⟩ => ⟨S16x256x2x64, .f32⟩
  | .hbm, ⟨6, _⟩ => ⟨S16x256x128, .f32⟩
  | .hbm, ⟨7, _⟩ => ⟨S16x256x128, .bf16⟩
  | .hbm, ⟨8, _⟩ => ⟨S16x4096x2x64, .f32⟩
  | .hbm, ⟨9, _⟩ => ⟨S16x4096x128, .f32⟩
  | .hbm, ⟨10, _⟩ => ⟨S16x4096x128, .bf16⟩
  | .hbm, ⟨11, _⟩ => ⟨S16x256x2x64, .f32⟩
  | .hbm, ⟨12, _⟩ => ⟨S16x256x128, .f32⟩
  | .hbm, ⟨13, _⟩ => ⟨S16x256x128, .bf16⟩
  | .hbm, ⟨14, _⟩ => ⟨S16x4096x2x64, .f32⟩
  | .hbm, ⟨15, _⟩ => ⟨S16x4096x128, .f32⟩
  | .hbm, ⟨16, _⟩ => ⟨S16x4096x128, .bf16⟩
  | .hbm, ⟨17, _⟩ => ⟨S_, .f32⟩
  | .hbm, ⟨18, _⟩ => ⟨S16x8x4096x64, .f32⟩
  | .hbm, ⟨19, _⟩ => ⟨S16x8x4096x64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x8x4096x64, .f32⟩
  | .hbm, ⟨24, _⟩ => ⟨S16x8x4096x64, .f32⟩
  | .hbm, ⟨25, _⟩ => ⟨S16x4x4096x64, .f32⟩
  | .hbm, ⟨26, _⟩ => ⟨S_, .f32⟩
  | .hbm, ⟨27, _⟩ => ⟨S16x4x4096x64, .f32⟩
  | .hbm, ⟨28, _⟩ => ⟨S16x4x4096x64, .f32⟩
  | .hbm, ⟨29, _⟩ => ⟨S16x4x4096x128, .f32⟩
  | .hbm, ⟨30, _⟩ => ⟨S16x4x4096x64, .f32⟩
  | .hbm, ⟨31, _⟩ => ⟨S16x4x4096x128, .f32⟩
  | .hbm, ⟨32, _⟩ => ⟨S16x8x4096x128, .f32⟩
  | .hbm, ⟨33, _⟩ => ⟨S16x8x4096x128, .bf16⟩
  | .hbm, ⟨34, _⟩ => ⟨S16x4352x128, .bf16⟩
  | .hbm, ⟨35, _⟩ => ⟨S16x4352x128, .bf16⟩
  | .hbm, ⟨36, _⟩ => ⟨S16x4096x512, .bf16⟩
  | .local _ .vmem, ⟨0, _⟩ => ⟨S1x8x128x128, .bf16⟩
  | .local _ .vmem, ⟨1, _⟩ => ⟨S1x8x128x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x128x512, .bf16⟩
  | .local _ .vmem, ⟨7, _⟩ => ⟨S1x128x512, .bf16⟩
  | _, _ => ⟨S16x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttendRefIdeal.lean ====
abbrev S16x8x4096x64 : Shape := ⟨4, ![16, 8, 4096, 64]⟩
abbrev S16x2x256x64 : Shape := ⟨4, ![16, 2, 256, 64]⟩
abbrev S16x2x4096x64 : Shape := ⟨4, ![16, 2, 4096, 64]⟩
abbrev S16x2x4352x64 : Shape := ⟨4, ![16, 2, 4352, 64]⟩
abbrev S16x2x4x4096x64 : Shape := ⟨5, ![16, 2, 4, 4096, 64]⟩
abbrev S16x2x4x4096x4352 : Shape := ⟨5, ![16, 2, 4, 4096, 4352]⟩
abbrev S_ : Shape := ⟨0, ![]⟩
abbrev S16x2x4x4096 : Shape := ⟨4, ![16, 2, 4, 4096]⟩
abbrev S16x2x4x4096x1 : Shape := ⟨5, ![16, 2, 4, 4096, 1]⟩
abbrev S16x4096x8x64 : Shape := ⟨4, ![16, 4096, 8, 64]⟩
abbrev S16x4096x512 : Shape := ⟨3, ![16, 4096, 512]⟩

abbrev nBuf : Space → Nat
  | .hbm => 31
  | .vmem => 0
  | .smem => 0
  | _ => 0

abbrev bufTy : (tb : Table) → Fin (tcTables nBuf tb) → BufTy
  | .hbm, ⟨0, _⟩ => ⟨S16x8x4096x64, .f32⟩
  | .hbm, ⟨1, _⟩ => ⟨S16x2x256x64, .f32⟩
  | .hbm, ⟨2, _⟩ => ⟨S16x2x4096x64, .f32⟩
  | .hbm, ⟨3, _⟩ => ⟨S16x2x256x64, .f32⟩
  | .hbm, ⟨4, _⟩ => ⟨S16x2x4096x64, .f32⟩
  | .hbm, ⟨5, _⟩ => ⟨S16x2x4352x64, .f32⟩
  | .hbm, ⟨6, _⟩ => ⟨S16x2x4352x64, .f32⟩
  | .hbm, ⟨7, _⟩ => ⟨S16x2x4x4096x64, .f32⟩
  | .hbm, ⟨8, _⟩ => ⟨S16x2x4x4096x4352, .f32⟩
  | .hbm, ⟨9, _⟩ => ⟨S_, .f32⟩
  | .hbm, ⟨10, _⟩ => ⟨S16x2x4x4096x4352, .f32⟩
  | .hbm, ⟨11, _⟩ => ⟨S16x2x4x4096x4352, .f32⟩
  | .hbm, ⟨12, _⟩ => ⟨S_, .f32⟩
  | .hbm, ⟨13, _⟩ => ⟨S16x2x4x4096, .f32⟩
  | .hbm, ⟨14, _⟩ => ⟨S_, .f32⟩
  | .hbm, ⟨15, _⟩ => ⟨S16x2x4x4096, .f32⟩
  | .hbm, ⟨16, _⟩ => ⟨S16x2x4x4096, .f32⟩
  | .hbm, ⟨17, _⟩ => ⟨S16x2x4x4096x1, .f32⟩
  | .hbm, ⟨18, _⟩ => ⟨S16x2x4x4096x4352, .f32⟩
  | .hbm, ⟨19, _⟩ => ⟨S16x2x4x4096x4352, .f32⟩
  | .hbm, ⟨20, _⟩ => ⟨S16x2x4x4096x4352, .f32⟩
  | .hbm, ⟨21, _⟩ => ⟨S_, .f32⟩
  | .hbm, ⟨22, _⟩ => ⟨S16x2x4x4096, .f32⟩
  | .hbm, ⟨23, _⟩ => ⟨S16x2x4x4096x1, .f32⟩
  | .hbm, ⟨24, _⟩ => ⟨S16x2x4x4096x4352, .f32⟩
  | .hbm, ⟨25, _⟩ => ⟨S16x2x4x4096x4352, .f32⟩
  | .hbm, ⟨26, _⟩ => ⟨S16x2x4x4096x64, .f32⟩
  | .hbm, ⟨27, _⟩ => ⟨S16x8x4096x64, .f32⟩
  | .hbm, ⟨28, _⟩ => ⟨S16x4096x8x64, .f32⟩
  | .hbm, ⟨29, _⟩ => ⟨S16x4096x512, .f32⟩
  | .hbm, ⟨30, _⟩ => ⟨S16x4096x512, .bf16⟩
  | _, _ => ⟨S16x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Merge.lean ====
abbrev S16x4096x1024 : Shape := ⟨3, ![16, 4096, 1024]⟩
abbrev S16x4096x512 : Shape := ⟨3, ![16, 4096, 512]⟩
abbrev S16x4096x5376 : Shape := ⟨3, ![16, 4096, 5376]⟩
abbrev S512x1024 : Shape := ⟨2, ![512, 1024]⟩
abbrev S1024x1024 : Shape := ⟨2, ![1024, 1024]⟩
abbrev S16x1x1024 : Shape := ⟨3, ![16, 1, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S1x1024x128 : Shape := ⟨3, ![1, 1024, 128]⟩
abbrev S2x1024x128 : Shape := ⟨3, ![2, 1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S4x65536x256 : Shape := ⟨3, ![4, 65536, 256]⟩
abbrev S65536x128 : Shape := ⟨2, ![65536, 128]⟩
abbrev S1x512x1024 : Shape := ⟨3, ![1, 512, 1024]⟩
abbrev S1x512x512 : Shape := ⟨3, ![1, 512, 512]⟩
abbrev S1x512x2048 : Shape := ⟨3, ![1, 512, 2048]⟩
abbrev S1x1x1024 : Shape := ⟨3, ![1, 1, 1024]⟩
abbrev S4x512x256 : Shape := ⟨3, ![4, 512, 256]⟩
abbrev S512x128 : Shape := ⟨2, ![512, 128]⟩
abbrev S1x128x512 : Shape := ⟨3, ![1, 128, 512]⟩
abbrev S128x512 : Shape := ⟨2, ![128, 512]⟩
abbrev S128x1024 : Shape := ⟨2, ![128, 1024]⟩
abbrev S1x128x1024 : Shape := ⟨3, ![1, 128, 1024]⟩
abbrev S128x1 : Shape := ⟨2, ![128, 1]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 36
  | .vmem => 26
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S16x4096x5376, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S16x1x1024, .f32⟩
  | .hbm, ⟨8, _⟩ => ⟨S1024, .f32⟩
  | .hbm, ⟨9, _⟩ => ⟨S16x1x1024, .f32⟩
  | .hbm, ⟨10, _⟩ => ⟨S16x1x1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S_, .f32⟩
  | .hbm, ⟨16, _⟩ => ⟨S1024x92, .f32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S1x1024x128, .bf16⟩
  | .hbm, ⟨23, _⟩ => ⟨S1x1024x128, .bf16⟩
  | .hbm, ⟨24, _⟩ => ⟨S2x1024x128, .bf16⟩
  | .hbm, ⟨25, _⟩ => ⟨S_, .f32⟩
  | .hbm, ⟨26, _⟩ => ⟨S92, .f32⟩
  | .hbm, ⟨27, _⟩ => ⟨S128, .f32⟩
  | .hbm, ⟨28, _⟩ => ⟨S512x1024, .bf16⟩
  | .hbm, ⟨29, _⟩ => ⟨S512x1024, .bf16⟩
  | .hbm, ⟨30, _⟩ => ⟨S1024x1024, .bf16⟩
  | .hbm, ⟨31, _⟩ => ⟨S1x128, .f32⟩
  | .hbm, ⟨32, _⟩ => ⟨S1x1024, .f32⟩
  | .hbm, ⟨33, _⟩ => ⟨S16x4096x1024, .f32⟩
  | .hbm, ⟨34, _⟩ => ⟨S4x65536x256, .bf16⟩
  | .hbm, ⟨35, _⟩ => ⟨S65536x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S2x1024x128, .bf16⟩
  | .local _ .vmem, ⟨19, _⟩ => ⟨S1x128, .f32⟩
  | .local _ .vmem, ⟨20, _⟩ => ⟨S1x512x1024, .f32⟩
  | .local _ .vmem, ⟨21, _⟩ => ⟨S1x512x1024, .f32⟩
  | .local _ .vmem, ⟨22, _⟩ => ⟨S4x512x256, .bf16⟩
  | .local _ .vmem, ⟨23, _⟩ => ⟨S4x512x256, .bf16⟩
  | .local _ .vmem, ⟨24, _⟩ => ⟨S512x128, .f32⟩
  | .local _ .vmem, ⟨25, _⟩ => ⟨S512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2x1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S4x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeRefIdeal.lean ====
abbrev S16x4096x1024 : Shape := ⟨3, ![16, 4096, 1024]⟩
abbrev S16x4096x512 : Shape := ⟨3, ![16, 4096, 512]⟩
abbrev S16x4096x5376 : Shape := ⟨3, ![16, 4096, 5376]⟩
abbrev S512x1024 : Shape := ⟨2, ![512, 1024]⟩
abbrev S1024x1024 : Shape := ⟨2, ![1024, 1024]⟩
abbrev S16x1x1024 : Shape := ⟨3, ![16, 1, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩
abbrev S65536x4 : Shape := ⟨2, ![65536, 4]⟩
abbrev S1x4 : Shape := ⟨2, ![1, 4]⟩
abbrev S65536x32 : Shape := ⟨2, ![65536, 32]⟩
abbrev S1x32 : Shape := ⟨2, ![1, 32]⟩
abbrev S65536x92 : Shape := ⟨2, ![65536, 92]⟩
abbrev S65536x2x4x128 : Shape := ⟨4, ![65536, 2, 4, 128]⟩
abbrev S4x65536x2x128 : Shape := ⟨4, ![4, 65536, 2, 128]⟩
abbrev S4x65536x256 : Shape := ⟨3, ![4, 65536, 256]⟩
abbrev S65536x128 : Shape := ⟨2, ![65536, 128]⟩

abbrev nBuf : Space → Nat
  | .hbm => 85
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S16x4096x5376, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S16x1x1024, .f32⟩
  | .hbm, ⟨8, _⟩ => ⟨S1024, .f32⟩
  | .hbm, ⟨9, _⟩ => ⟨S16x1x1024, .f32⟩
  | .hbm, ⟨10, _⟩ => ⟨S16x1x1024, .f32⟩
  | .hbm, ⟨11, _⟩ => ⟨S1024x4, .f32⟩
  | .hbm, ⟨12, _⟩ => ⟨S4, .f32⟩
  | .hbm, ⟨13, _⟩ => ⟨S1024x32, .f32⟩
  | .hbm, ⟨14, _⟩ => ⟨S32, .f32⟩
  | .hbm, ⟨15, _⟩ => ⟨S16x4096x1024, .bf16⟩
  | .hbm, ⟨16, _⟩ => ⟨S16x4096x1024, .bf16⟩
  | .hbm, ⟨17, _⟩ => ⟨S16x4096x512, .f32⟩
  | .hbm, ⟨18, _⟩ => ⟨S16x4096x512, .f32⟩
  | .hbm, ⟨19, _⟩ => ⟨S16x4096x1024, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S_, .f32⟩
  | .hbm, ⟨24, _⟩ => ⟨S16x4096x1024, .f32⟩
  | .hbm, ⟨25, _⟩ => ⟨S16x4096x1024, .f32⟩
  | .hbm, ⟨26, _⟩ => ⟨S_, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S_, .f32⟩
  | .hbm, ⟨34, _⟩ => ⟨S16x4096x1024, .f32⟩
  | .hbm, ⟨35, _⟩ => ⟨S16x4096x1024, .f32⟩
  | .hbm, ⟨36, _⟩ => ⟨S_, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S16x4096x1024, .f32⟩
  | .hbm, ⟨43, _⟩ => ⟨S16x4096x1024, .f32⟩
  | .hbm, ⟨44, _⟩ => ⟨S16x4096x1024, .f32⟩
  | .hbm, ⟨45, _⟩ => ⟨S16x4096x1024, .f32⟩
  | .hbm, ⟨46, _⟩ => ⟨S16x4096x1024, .f32⟩
  | .hbm, ⟨47, _⟩ => ⟨S_, .f32⟩
  | .hbm, ⟨48, _⟩ => ⟨S16x4096, .f32⟩
  | .hbm, ⟨49, _⟩ => ⟨S16x4096x1, .f32⟩
  | .hbm, ⟨50, _⟩ => ⟨S_, .f32⟩
  | .hbm, ⟨51, _⟩ => ⟨S16x4096x1, .f32⟩
  | .hbm, ⟨52, _⟩ => ⟨S16x4096x1, .f32⟩
  | .hbm, ⟨53, _⟩ => ⟨S_, .f32⟩
  | .hbm, ⟨54, _⟩ => ⟨S16x4096x1, .f32⟩
  | .hbm, ⟨55, _⟩ => ⟨S16x4096x1, .f32⟩
  | .hbm, ⟨56, _⟩ => ⟨S16x4096x1, .f32⟩
  | .hbm, ⟨57, _⟩ => ⟨S16x4096x1024, .f32⟩
  | .hbm, ⟨58, _⟩ => ⟨S16x4096x1024, .f32⟩
  | .hbm, ⟨59, _⟩ => ⟨S1x1x1024, .f32⟩
  | .hbm, ⟨60, _⟩ => ⟨S16x4096x1024, .f32⟩
  | .hbm, ⟨61, _⟩ => ⟨S16x4096x1024, .f32⟩
  | .hbm, ⟨62, _⟩ => ⟨S_, .f32⟩
  | .hbm, ⟨63, _⟩ => ⟨S16x1x1024, .f32⟩
  | .hbm, ⟨64, _⟩ => ⟨S16x1x1024, .f32⟩
  | .hbm, ⟨65, _⟩ => ⟨S16x4096x1024, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | .hbm, ⟨69, _⟩ => ⟨S65536x1024, .f32⟩
  | .hbm, ⟨70, _⟩ => ⟨S65536x4, .f32⟩
  | .hbm, ⟨71, _⟩ => ⟨S1x4, .f32⟩
  | .hbm, ⟨72, _⟩ => ⟨S65536x4, .f32⟩
  | .hbm, ⟨73, _⟩ => ⟨S65536x4, .f32⟩
  | .hbm, ⟨74, _⟩ => ⟨S65536x32, .f32⟩
  | .hbm, ⟨75, _⟩ => ⟨S1x32, .f32⟩
  | .hbm, ⟨76, _⟩ => ⟨S65536x32, .f32⟩
  | .hbm, ⟨77, _⟩ => ⟨S65536x32, .f32⟩
  | .hbm, ⟨78, _⟩ => ⟨S_, .f32⟩
  | .hbm, ⟨79, _⟩ => ⟨S65536x92, .f32⟩
  | .hbm, ⟨80, _⟩ => ⟨S65536x2x4x128, .f32⟩
  | .hbm, ⟨81, _⟩ => ⟨S4x65536x2x128, .f32⟩
  | .hbm, ⟨82, _⟩ => ⟨S4x65536x256, .f32⟩
  | .hbm, ⟨83, _⟩ => ⟨S4x65536x256, .bf16⟩
  | .hbm, ⟨84, _⟩ => ⟨S65536x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Combine.lean ====
abbrev S16x4096x1024 : Shape := ⟨3, ![16, 4096, 1024]⟩
abbrev S4x65536x256 : Shape := ⟨3, ![4, 65536, 256]⟩
abbrev S65536x128 : Shape := ⟨2, ![65536, 128]⟩
abbrev S16x1x1024 : Shape := ⟨3, ![16, 1, 1024]⟩
abbrev S1024 : Shape := ⟨1, ![1024]⟩
abbrev S1x1024 : Shape := ⟨2, ![1, 1024]⟩
abbrev S1x512x1024 : Shape := ⟨3, ![1, 512, 1024]⟩
abbrev S4x512x256 : Shape := ⟨3, ![4, 512, 256]⟩
abbrev S512x128 : Shape := ⟨2, ![512, 128]⟩
abbrev S1x1x1024 : Shape := ⟨3, ![1, 1, 1024]⟩
abbrev S512x1 : Shape := ⟨2, ![512, 1]⟩
abbrev S1x512x128 : Shape := ⟨3, ![1, 512, 128]⟩
abbrev S512x1024 : Shape := ⟨2, ![512, 1024]⟩
abbrev S512 : Shape := ⟨1, ![512]⟩

abbrev nBuf : Space → Nat
  | .hbm => 8
  | .vmem => 13
  | .smem => 0
  | _ => 0

abbrev bufTy : (tb : Table) → Fin (tcTables nBuf tb) → BufTy
  | .hbm, ⟨0, _⟩ => ⟨S16x4096x1024, .f32⟩
  | .hbm, ⟨1, _⟩ => ⟨S4x65536x256, .bf16⟩
  | .hbm, ⟨2, _⟩ => ⟨S4x65536x256, .bf16⟩
  | .hbm, ⟨3, _⟩ => ⟨S65536x128, .f32⟩
  | .hbm, ⟨4, _⟩ => ⟨S16x1x1024, .f32⟩
  | .hbm, ⟨5, _⟩ => ⟨S1024, .f32⟩
  | .hbm, ⟨6, _⟩ => ⟨S1x1024, .f32⟩
  | .hbm, ⟨7, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S4x512x256, .bf16⟩
  | .local _ .vmem, ⟨3, _⟩ => ⟨S4x512x256, .bf16⟩
  | .local _ .vmem, ⟨4, _⟩ => ⟨S4x512x256, .bf16⟩
  | .local _ .vmem, ⟨5, _⟩ => ⟨S4x512x256, .bf16⟩
  | .local _ .vmem, ⟨6, _⟩ => ⟨S512x128, .f32⟩
  | .local _ .vmem, ⟨7, _⟩ => ⟨S512x128, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CombineRefIdeal.lean ====
abbrev S16x4096x1024 : Shape := ⟨3, ![16, 4096, 1024]⟩
abbrev S4x65536x256 : Shape := ⟨3, ![4, 65536, 256]⟩
abbrev S65536x128 : Shape := ⟨2, ![65536, 128]⟩
abbrev S16x1x1024 : Shape := ⟨3, ![16, 1, 1024]⟩
abbrev S1024 : Shape := ⟨1, ![1024]⟩
abbrev S65536x2 : Shape := ⟨2, ![65536, 2]⟩
abbrev S16x4096x2 : Shape := ⟨3, ![16, 4096, 2]⟩
abbrev S4x65536x2x128 : Shape := ⟨4, ![4, 65536, 2, 128]⟩
abbrev S65536x2x4x128 : Shape := ⟨4, ![65536, 2, 4, 128]⟩
abbrev S16x4096x1 : Shape := ⟨3, ![16, 4096, 1]⟩
abbrev S_ : Shape := ⟨0, ![]⟩
abbrev S16x4096 : Shape := ⟨2, ![16, 4096]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S4x65536x256, .bf16⟩
  | .hbm, ⟨2, _⟩ => ⟨S4x65536x256, .bf16⟩
  | .hbm, ⟨3, _⟩ => ⟨S65536x128, .f32⟩
  | .hbm, ⟨4, _⟩ => ⟨S16x1x1024, .f32⟩
  | .hbm, ⟨5, _⟩ => ⟨S1024, .f32⟩
  | .hbm, ⟨6, _⟩ => ⟨S65536x2, .f32⟩
  | .hbm, ⟨7, _⟩ => ⟨S16x4096x2, .f32⟩
  | .hbm, ⟨8, _⟩ => ⟨S4x65536x256, .f32⟩
  | .hbm, ⟨9, _⟩ => ⟨S4x65536x2x128, .f32⟩
  | .hbm, ⟨10, _⟩ => ⟨S65536x2x4x128, .f32⟩
  | .hbm, ⟨11, _⟩ => ⟨S16x4096x1024, .f32⟩
  | .hbm, ⟨12, _⟩ => ⟨S16x4096x1, .f32⟩
  | .hbm, ⟨13, _⟩ => ⟨S16x4096x1024, .f32⟩
  | .hbm, ⟨14, _⟩ => ⟨S16x4096x1024, .f32⟩
  | .hbm, ⟨15, _⟩ => ⟨S4x65536x256, .f32⟩
  | .hbm, ⟨16, _⟩ => ⟨S4x65536x2x128, .f32⟩
  | .hbm, ⟨17, _⟩ => ⟨S65536x2x4x128, .f32⟩
  | .hbm, ⟨18, _⟩ => ⟨S16x4096x1024, .f32⟩
  | .hbm, ⟨19, _⟩ => ⟨S16x4096x1, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S_, .f32⟩
  | .hbm, ⟨28, _⟩ => ⟨S16x4096, .f32⟩
  | .hbm, ⟨29, _⟩ => ⟨S16x4096x1, .f32⟩
  | .hbm, ⟨30, _⟩ => ⟨S_, .f32⟩
  | .hbm, ⟨31, _⟩ => ⟨S16x4096x1, .f32⟩
  | .hbm, ⟨32, _⟩ => ⟨S16x4096x1, .f32⟩
  | .hbm, ⟨33, _⟩ => ⟨S_, .f32⟩
  | .hbm, ⟨34, _⟩ => ⟨S16x4096x1, .f32⟩
  | .hbm, ⟨35, _⟩ => ⟨S16x4096x1, .f32⟩
  | .hbm, ⟨36, _⟩ => ⟨S16x4096x1, .f32⟩
  | .hbm, ⟨37, _⟩ => ⟨S16x4096x1024, .f32⟩
  | .hbm, ⟨38, _⟩ => ⟨S16x4096x1024, .f32⟩
  | .hbm, ⟨39, _⟩ => ⟨S1x1x1024, .f32⟩
  | .hbm, ⟨40, _⟩ => ⟨S16x4096x1024, .f32⟩
  | .hbm, ⟨41, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Proof.Gather.Words.lean ====
/-
  The integers of the tile's loop. The pipeline carries five counters through its 68 trips; before trip `k` they are
  `k+1`, `k`, `k`, `k-1` (0 at the first trip) and `k` (0 after the last). At those values the four guards and the
  offsets of every slice of a trip are what this file says: block `68·w + k` of the tile with number `w`, in bank `k % 2`.
-/
module

public import proofs.«01_k».proof.Proof.Gen.KernelIdeal
public import proofs.«01_k».proof.Proof.Gen.KernelIdeal.Skeleton
public import Idealize.ShloMosaic.Lib.Ring

@[expose] public section

namespace Cert.Proof.Gather

open Cert.KernelIdeal Cert.KernelIdeal.Gen
open Idealize.ShloMosaic

/-- The grid point of subcore `s` on SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (i : grid0.Coords) : coordsV (i 0) (i 1) = i := by
  funext a; match a with | 0 => rfl | 1 => rfl

/-- The tile's number, 16 per SparseCore, and the first of its 68 blocks. -/
def base (i : grid0.Coords) : Nat := 68 * ((i 1).val + 16 * (i 0).val)

/-- A counter's value as a word. -/
abbrev wd (n : Nat) : BitVec 32 := BitVec.ofNat 32 n

theorem trips_eq : k0_t1_loop.trips = 68 := by decide +kernel

/-- What holds of every trip's guards and offsets, at the carried values. -/
def TripFacts (i : grid0.Coords) (k : Fin k0_t1_loop.trips) : Prop :=
  ((k0_cond1 i k (wd k.val) = 1#1) ↔ k.val < 67)
  ∧ k0_cond2 i k (wd k.val) = 1#1
  ∧ k0_cond5 i k (wd k.val) = 1#1
  ∧ ((k0_cond7 i k (wd k.val) = 1#1) ↔ 0 < k.val)
  ∧ (k.val < 67 → k0_off5 i (wd k.val) = ![0, 128 * (base i + (k.val + 1))])
  ∧ k0_off8 i (wd k.val) = ![0, 128 * (base i + k.val)]
  ∧ k0_off13 i (wd k.val) = ![128 * (base i + k.val), 0]
  ∧ (0 < k.val → k0_off16 i (wd k.val) = ![128 * (base i + (k.val - 1)), 0])

instance (i : grid0.Coords) (k : Fin k0_t1_loop.trips) : Decidable (TripFacts i k) := by unfold TripFacts; infer_instance

theorem tripFacts_all : ∀ (c : Fin (grid0.bound 0)) (s : Fin (grid0.bound 1)) (k : Fin k0_t1_loop.trips), TripFacts (coordsV c s) k := by
  decide +kernel

theorem tripFacts (i : grid0.Coords) (k : Fin k0_t1_loop.trips) : TripFacts i k := coordsV_eta i ▸ tripFacts_all (i 0) (i 1) k

/-! ## Banks -/

theorem bank_all : ∀ n : Fin 70,
    (k0_off4 (wd n.val) = ![(Ring.sl 2 n.val).val, 0, 0] ∧ k0_off6 (wd n.val) = ![(Ring.sl 2 n.val).val])
    ∧ (k0_off7 (wd n.val) = ![(Ring.sl 2 n.val).val, 0, 0] ∧ k0_off9 (wd n.val) = ![(Ring.sl 2 n.val).val])
    ∧ (k0_off10 (wd n.val) = ![(Ring.sl 2 n.val).val, 0, 0] ∧ k0_off11 (wd n.val) = ![(Ring.sl 2 n.val).val, 0, 0])
    ∧ (k0_off12 (wd n.val) = ![(Ring.sl 2 n.val).val, 0, 0] ∧ k0_off14 (wd n.val) = ![(Ring.sl 2 n.val).val])
    ∧ (k0_off15 (wd n.val) = ![(Ring.sl 2 n.val).val, 0, 0] ∧ k0_off17 (wd n.val) = ![(Ring.sl 2 n.val).val])
    ∧ (k0_off20 (wd n.val) = ![(Ring.sl 2 n.val).val] ∧ k0_off21 (wd n.val) = ![(Ring.sl 2 n.val).val, 0, 0])
    ∧ (k0_chk2 (wd n.val) ∧ k0_chk3 (wd n.val) ∧ k0_chk4 (wd n.val)) := by
  decide +kernel

/-- Every slice into a two-bank buffer (and into its pair of semaphores), at a counter's value `n`, is of bank `n % 2`. -/
theorem bank {n : ℕ} (h : n < 70) :
    (k0_off4 (wd n) = ![(Ring.sl 2 n).val, 0, 0] ∧ k0_off6 (wd n) = ![(Ring.sl 2 n).val])
    ∧ (k0_off7 (wd n) = ![(Ring.sl 2 n).val, 0, 0] ∧ k0_off9 (wd n) = ![(Ring.sl 2 n).val])
    ∧ (k0_off10 (wd n) = ![(Ring.sl 2 n).val, 0, 0] ∧ k0_off11 (wd n) = ![(Ring.sl 2 n).val, 0, 0])
    ∧ (k0_off12 (wd n) = ![(Ring.sl 2 n).val, 0, 0] ∧ k0_off14 (wd n) = ![(Ring.sl 2 n).val])
    ∧ (k0_off15 (wd n) = ![(Ring.sl 2 n).val, 0, 0] ∧ k0_off17 (wd n) = ![(Ring.sl 2 n).val])
    ∧ (k0_off20 (wd n) = ![(Ring.sl 2 n).val] ∧ k0_off21 (wd n) = ![(Ring.sl 2 n).val, 0, 0])
    ∧ (k0_chk2 (wd n) ∧ k0_chk3 (wd n) ∧ k0_chk4 (wd n)) := bank_all ⟨n, h⟩

/-! ## The counters from trip to trip -/

/-- The five counters before trip `k`, the first of them standing still at the last trip. -/
abbrev carry (k : ℕ) : BitVec 32 × BitVec 32 × BitVec 32 × BitVec 32 × BitVec 32 :=
  (wd (min k 67 + 1), wd k, wd k, wd (k - 1), wd (k % 68))

/-- The word of the tile's first block. -/
def first (i : grid0.Coords) : BitVec 32 :=
  Scalar.muli (Scalar.addi (Scalar.addi 0#32 (Scalar.muli (BitVec.ofNat 32 (i 1).val) 1#32)) (Scalar.muli (BitVec.ofNat 32 (i 0).val) 16#32)) 68#32

/-- The five counters a trip hands on, as the trip computes them from the tile's first block `v`, the trip's number `n`
    and the counters `a … e` that it was given: each advances when the block after (or before) is another one. -/
def after (v n a b c d e : BitVec 32) : BitVec 32 × BitVec 32 × BitVec 32 × BitVec 32 × BitVec 32 :=
  let isFirst := Scalar.cmpi .eq n 0#32
  let isLast := Scalar.cmpi .eq n 67#32
  let here := Scalar.addi e v
  let back := Scalar.select 1#1 (Scalar.subi e 1#32) e
  let before := Scalar.addi (Scalar.select (Scalar.cmpi .eq back 4294967295#32) 67#32 back) v
  let fwd := Scalar.select 1#1 (Scalar.addi e 1#32) e
  let wrapped := Scalar.select (Scalar.cmpi .eq fwd 68#32) 0#32 fwd
  let next := Scalar.addi wrapped v
  let fetch := Scalar.andi (Scalar.andi (Scalar.cmpi .ne here next) (Scalar.xori (Scalar.cmpi .sge n 67#32) 1#1)) 1#1
  let leave := Scalar.ori (Scalar.cmpi .ne here next) isLast
  let waited := Scalar.andi (Scalar.andi (Scalar.cmpi .ne here before) (Scalar.xori isFirst 1#1)) 1#1
  (Scalar.select fetch (Scalar.addi a 1#32) a, Scalar.select leave (Scalar.addi b 1#32) b,
    Scalar.select (Scalar.andi leave 1#1) (Scalar.addi c 1#32) c, Scalar.select waited (Scalar.addi d 1#32) d, wrapped)

/-- What else holds of every trip: the checks, and the counters it hands on. -/
def TripNext (i : grid0.Coords) (k : Fin k0_t1_loop.trips) : Prop :=
  k0_chk1 i k (wd (k.val + 1)) (wd k.val) (wd k.val) (wd (k.val - 1)) (wd k.val)
  ∧ after (first i) (Scf.iv 0#32 1#32 k) (wd (k.val + 1)) (wd k.val) (wd k.val) (wd (k.val - 1)) (wd k.val) = carry (k.val + 1)

instance (i : grid0.Coords) (k : Fin k0_t1_loop.trips) : Decidable (TripNext i k) := by unfold TripNext; infer_instance

theorem tripNext_all : ∀ (c : Fin (grid0.bound 0)) (s : Fin (grid0.bound 1)) (k : Fin k0_t1_loop.trips), TripNext (coordsV c s) k := by
  decide +kernel

theorem tripNext (i : grid0.Coords) (k : Fin k0_t1_loop.trips) : TripNext i k := coordsV_eta i ▸ tripNext_all (i 0) (i 1) k

theorem exit_all : ∀ (c : Fin (grid0.bound 0)) (s : Fin (grid0.bound 1)),
    k0_chk5 (coordsV c s) (wd 0) ∧ k0_off19 (coordsV c s) (wd 0) = ![128 * (base (coordsV c s) + 67), 0]
    ∧ k0_off2 (coordsV c s) = ![0, 128 * base (coordsV c s)] := by
  decide +kernel

/-- Before the first trip the tile fetches its block 0, after the last it waits for its block 67. -/
theorem exit_facts (i : grid0.Coords) :
    k0_chk5 i (wd 0) ∧ k0_off19 i (wd 0) = ![128 * (base i + 67), 0] ∧ k0_off2 i = ![0, 128 * base i] :=
  coordsV_eta i ▸ exit_all (i 0) (i 1)

end Cert.Proof.Gather

end
-- ==== Proof.Gather.Base.lean ====
/-
  The gather call as its proof sees it: the launch's set-up, the arrays of the call, their blocks and banks, what the
  call computes (`OUT`), and the states that one bank of the tile's two rings goes through.
-/
module

public import proofs.«01_k».proof.Proof.Gather.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, their blocks and banks -/

abbrev tLoc (d : Dev nD) : Loc nD τ sig := (SparseCore.T d).loc main_v9
abbrev iLoc (d : Dev nD) : Loc nD τ sig := (SparseCore.T d).loc main_v10
abbrev oLoc (d : Dev nD) : Loc nD τ sig := (SparseCore.T d).loc main_v11

/-- The table of rows, the list of row numbers, the output; a tile's two index banks and two row banks. -/
abbrev tV : Memref sig .scVector .hbm S622592x128 .i32 := Memref.whole main_v9_scv
abbrev iV : Memref sig .scVector .hbm S1x278528 .i32 := Memref.whole main_v10_scv
abbrev oV : Memref sig .scVector .hbm S278528x128 .i32 := Memref.whole main_v11_scv
abbrev sV : Memref sig .scVector .vmem S2x1x128 .i32 := Memref.whole cc0_scoped0
abbrev rV : Memref sig .scVector .vmem S2x128x128 .i32 := Memref.whole cc0_scoped2

theorem iBlk_inb (g : Fin 2176) : ∀ a, (![0, 128 * g.val] : Fin 2 → ℕ) a + S1x128.size a ≤ S1x278528.size a := by
  have := g.isLt; intro a; match a with | 0 => simp | 1 => simp; omega
theorem oBlk_inb (g : Fin 2176) : ∀ a, (![128 * g.val, 0] : Fin 2 → ℕ) a + S128x128.size a ≤ S278528x128.size a := by
  have := g.isLt; intro a; match a with | 0 => simp; omega | 1 => simp
theorem sSlot_inb (j : Fin 2) : ∀ a, (![j.val, 0, 0] : Fin 3 → ℕ) a + S1x1x128.size a ≤ S2x1x128.size a := by
  have := j.isLt; intro a; match a with | 0 => simp; omega | 1 => simp | 2 => simp
theorem rSlot_inb (j : Fin 2) : ∀ a, (![j.val, 0, 0] : Fin 3 → ℕ) a + S1x128x128.size a ≤ S2x128x128.size a := by
  have := j.isLt; intro a; match a with | 0 => simp; omega | 1 => simp | 2 => simp
theorem cell_inb (j : Fin 2) : ∀ a, (![j.val] : Fin 1 → ℕ) a + S1.size a ≤ S2.size a := by
  have := j.isLt; intro a; match a with | 0 => simp; omega

/-- All of the table. -/
abbrev tAll : Memref sig .scVector .hbm S622592x128 .i32 :=
  tV.slice (Rect.unit (s := S622592x128) ![0, 0] S622592x128.size inb_S622592x128_S622592x128_0_0) (fun _ => rfl)
/-- Block `g` of the list: its 128 row numbers. -/
abbrev iBlk (g : Fin 2176) : Memref sig .scVector .hbm S1x128 .i32 :=
  iV.slice (Rect.unit (s := S1x278528) ![0, 128 * g.val] S1x128.size (iBlk_inb g)) (fun _ => rfl)
/-- Block `g` of the output: its 128 rows. -/
abbrev oBlk (g : Fin 2176) : Memref sig .scVector .hbm S128x128 .i32 :=
  oV.slice (Rect.unit (s := S278528x128) ![128 * g.val, 0] S128x128.size (oBlk_inb g)) (fun _ => rfl)
/-- Index bank `j`, -/
abbrev sSlot (j : Fin 2) : Memref sig .scVector .vmem S1x128 .i32 :=
  (sV.slice (Rect.unit (s := S2x1x128) ![j.val, 0, 0] S1x1x128.size (sSlot_inb j)) (fun _ => rfl)).squeeze S1x128 squeezes_S1x1x128_S1x128
/-- the same as the list of 128 numbers that the gather reads, -/
abbrev sList (j : Fin 2) : Memref sig .scVector .vmem S128 .i32 :=
  ((sSlot j).slice (Rect.unit (s := S1x128) ![0, 0] S1x128.size inb_S1x128_S1x128_0_0) (fun _ => rfl)).squeeze S128 squeezes_S1x128_S128
/-- and row bank `j`. -/
abbrev rSlot (j : Fin 2) : Memref sig .scVector .vmem S128x128 .i32 :=
  (rV.slice (Rect.unit (s := S2x128x128) ![j.val, 0, 0] S1x128x128.size (rSlot_inb j)) (fun _ => rfl)).squeeze S128x128 squeezes_S1x128x128_S128x128
/-- The semaphores of the two rings' banks, and the gather's. -/
abbrev inCell (j : Fin 2) : DmaSem sig := ((cc0_scoped1.slice (Rect.unit (s := S2) ![j.val] S1.size (cell_inb j))).squeeze S_ squeezes_S1_S_).sem
abbrev outCell (j : Fin 2) : DmaSem sig := ((cc0_scoped3.slice (Rect.unit (s := S2) ![j.val] S1.size (cell_inb j))).squeeze S_ squeezes_S1_S_).sem
abbrev gCell : DmaSem sig := cc0_scoped4.sem

/-! ## What the call computes -/

/-- Row `n` of the table, any `n` (past the end it wraps: no such row number occurs). -/
def tRow (n : ℕ) (l : Fin 128) : S622592x128.Idx := fun | 0 => ⟨n % 622592, Nat.mod_lt _ (by decide)⟩ | 1 => l
/-- Entry `r` of the list. -/
def iEnt (r : Fin 278528) : S1x278528.Idx := fun | 0 => ⟨0, Nat.one_pos⟩ | 1 => r

/-- The output: row `r` is the table's row whose number is the list's entry `r`. -/
def OUT {d : Dev nD} (tab : Buf (Elt F) (tLoc d)) (ix : Buf (Elt F) (iLoc d)) : Buf (Elt F) (oLoc d) :=
  fun p : S278528x128.Idx => tab (tRow (ix (iEnt (p 0))).toNat (p 1))

/-! ## A tile -/

abbrev cV (L : grid0.Coords) : Fin τ.nSC := (L 0).castLE hcore0
abbrev jV (L : grid0.Coords) : Fin τ.nSub := (L 1).castLE hsub0
/-- The thread of the tile at grid point `L`. -/
abbrev th (d : Dev nD) (L : grid0.Coords) : Thread nD τ := V d (cV L) (jV L)

theorem num_lt (L : grid0.Coords) : (L 1).val + 16 * (L 0).val < 32 := by
  have h0 : (L 0).val < 2 := (L 0).isLt
  have h1 : (L 1).val < 16 := (L 1).isLt
  omega
/-- The tile's number. -/
def num (L : grid0.Coords) : Fin 32 := ⟨(L 1).val + 16 * (L 0).val, num_lt L⟩
/-- Block `k` of the tile. -/
def bk (L : grid0.Coords) (k : ℕ) : Fin 2176 := Fin.ofNat 2176 (base L + k)

theorem bk_val (L : grid0.Coords) {k : ℕ} (h : k < 68) : (bk L k).val = base L + k := by
  have := num_lt L
  show (base L + k) % 2176 = _
  unfold base; rw [Nat.mod_eq_of_lt]; omega

/-- Each tile reads the table at a 32nd of the full share, and the list at two 64ths, one for each index bank. -/
abbrev tq (w : Fin 32) : PosShare TreeShare := ShareLeaves.leaf 5 fullShare w
abbrev iq (w : Fin 32) (j : Fin 2) : PosShare TreeShare := if j = 0 then (ShareLeaves.leaf 5 fullShare w).left else (ShareLeaves.leaf 5 fullShare w).right

section States

variable (d : Dev nD) (L : grid0.Coords) (tab : Buf (Elt F) (tLoc d)) (ix : Buf (Elt F) (iLoc d))

abbrev sPts (j : Fin 2) (f : Buf (Elt F) ((sSlot j).view.loc (th d L))) : sProp 𝕄 := (sSlot j).view.loc (th d L) ↦[(sSlot j).view.set]{fullShare} f
abbrev rPts (j : Fin 2) (f : Buf (Elt F) ((rSlot j).view.loc (th d L))) : sProp 𝕄 := (rSlot j).view.loc (th d L) ↦[(rSlot j).view.set]{fullShare} f
abbrev oPts (g : Fin 2176) (f : Buf (Elt F) (oLoc d)) : sProp 𝕄 := (oBlk g).view.loc (th d L) ↦[(oBlk g).view.set]{fullShare} f
abbrev iPts (j : Fin 2) : sProp 𝕄 := (iV).view.loc (th d L) ↦{iq (num L) j} ix
abbrev tPts : sProp 𝕄 := (tV).view.loc (th d L) ↦{tq (num L)} tab

/-- Index bank `j` holds block `g` of the list. -/
def Lists (g : Fin 2176) (j : Fin 2) (f : Buf (Elt F) ((sSlot j).view.loc (th d L))) : Prop :=
  (sSlot j).view.read (Elt F) f = (iBlk g).view.read (Elt F) ix
/-- Row bank `j` holds block `g` of the output. -/
def Holds (g : Fin 2176) (j : Fin 2) (f : Buf (Elt F) ((rSlot j).view.loc (th d L))) : Prop :=
  (rSlot j).view.read (Elt F) f = (oBlk g).view.read (Elt F) (OUT tab ix)

/-- Index bank `j` is free; -/
def idle (j : Fin 2) : sProp 𝕄 := iprop((∃ f, sPts d L j f) ∗ semVal (th d L, .dma (inCell j)) 0 ∗ iPts d L ix j)
/-- it holds block `g`; -/
def fetched (g : Fin 2176) (j : Fin 2) : sProp 𝕄 :=
  iprop((∃ f, ⌜Lists d L ix g j f⌝ ∗ sPts d L j f) ∗ semVal (th d L, .dma (inCell j)) 0 ∗ iPts d L ix j)
/-- block `g` is on its way to it. -/
def fetching (g : Fin 2176) (j : Fin 2) : sProp 𝕄 :=
  iprop(Transfers.Flight countersEmb (th d L) (.dma (inCell j)) (default : HIx 1) ((sSlot j).view.dmaCredit)
      iprop((∃ f, ⌜Lists d L ix g j f⌝ ∗ sPts d L j f) ∗ (iBlk g).view.loc (th d L) ↦[(iBlk g).view.set]{iq (num L) j} ix)
    ∗ (iV).view.loc (th d L) ↦[Finset.univ \ (iBlk g).view.set]{iq (num L) j} ix)
/-- Row bank `j` is free; -/
def rfree (j : Fin 2) : sProp 𝕄 := iprop((∃ f, rPts d L j f) ∗ semVal (th d L, .dma (outCell j)) 0)
/-- it holds block `g`'s rows; -/
def gathered (g : Fin 2176) (j : Fin 2) : sProp 𝕄 :=
  iprop((∃ f, ⌜Holds d L tab ix g j f⌝ ∗ rPts d L j f) ∗ semVal (th d L, .dma (outCell j)) 0)
/-- they are on their way to the output. -/
def leaving (g : Fin 2176) (j : Fin 2) : sProp 𝕄 :=
  Transfers.Flight countersEmb (th d L) (.dma (outCell j)) (default : HIx 1) ((oBlk g).view.dmaCredit)
    iprop(oPts d L g (OUT tab ix) ∗ ∃ f, rPts d L j f)

theorem fetched_idle (g : Fin 2176) (j : Fin 2) : fetched d L ix g j ⊢ idle d L ix j := by
  unfold fetched idle
  iintro ⟨⟨%f, -, Hf⟩, Hc, Hi⟩
  isplitl [Hf]; · iexists f; iexact Hf
  isplitl [Hc] <;> iassumption

end States

end Cert.Proof.Gather

end
-- ==== Proof.Gather.Ops.lean ====
/-
  The five steps of a trip, each as it moves one bank from one state to the next: an index fetch issued, an index fetch
  waited for, the indirect gather with its wait, a write-out issued, a write-out waited for.
-/
module

public import proofs.«01_k».proof.Proof.Gather.Base

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (tab : Buf (Elt F) (tLoc d)) (ix : Buf (Elt F) (iLoc d))

/-- The programs of the tile, and their weakest precondition. -/
abbrev PT (L : grid0.Coords) (α : Type) : Type 1 := Prog (TpuEff nD τ sig (Elt F) Λ₀ (.scVector (cV L) (jV L))) α
abbrev wpT (d : Dev nD) (L : grid0.Coords) {α : Type} (p : PT (F := F) L α) (Q : α → sProp 𝕄) : sProp 𝕄 :=
  wp frame (wpE (defs₀ (F := F)) 𝒱₀ (th d L) none) Set.univ p Q

/-! ## What the gather reads and writes -/

/-- The single row of 128 words holding entry `y` of a list of 128. -/
theorem reshape_list (h : S128.numel = S1x128.numel) (y : S128.Idx) : (Shape.reshapeEquiv h y 1).val = (y 0).val := by
  have h1 : (S1x128.rowMajor (Shape.reshapeEquiv h y)).val = (S128.rowMajor y).val := Shape.rowMajor_reshapeEquiv h y
  have h2 : (S1x128.rowMajor (Shape.reshapeEquiv h y)).val = (Shape.reshapeEquiv h y 0).val * 128 + (Shape.reshapeEquiv h y 1).val :=
    Shape.rowMajor_val_two _
  have h3 : (S128.rowMajor y).val = (y 0).val := Shape.rowMajor_val_one _
  have h0 : (Shape.reshapeEquiv h y 0).val < 1 := (Shape.reshapeEquiv h y 0).isLt
  omega

omit [FloatOps F] in
/-- The list that the gather reads off index bank `j`, which holds block `g`: entry `y` is entry `128·g + y` of the whole list. -/
theorem list_read {g : Fin 2176} {j : Fin 2} {f : Buf (Elt F) ((sSlot j).view.loc (th d L))} (hf : Lists d L ix g j f) (y : S128.Idx) :
    (sList j).view.read (Elt F) f y = ix (iEnt ⟨128 * g.val + (y 0).val, by have := g.isLt; have : (y 0).val < 128 := (y 0).isLt; omega⟩) := by
  have e : (sList j).view.read (Elt F) f y
      = (sSlot j).view.read (Elt F) f ((Rect.unit (s := S1x128) ![0, 0] S1x128.size inb_S1x128_S1x128_0_0).emb
          (Shape.reshapeEquiv squeezes_S1x128_S128.numel_eq y)) := rfl
  rw [e, show (sSlot j).view.read (Elt F) f = _ from hf]
  generalize hz : Shape.reshapeEquiv squeezes_S1x128_S128.numel_eq y = z
  show ix ((Rect.unit (s := S1x278528) ![0, 128 * g.val] S1x128.size (iBlk_inb g)).emb ((Rect.unit (s := S1x128) ![0, 0] S1x128.size inb_S1x128_S1x128_0_0).emb z)) = _
  congr 1
  funext a
  apply Fin.ext
  match a with
  | 0 =>
    have h0 : (z 0).val < 1 := (z 0).isLt
    show 0 + 1 * (0 + 1 * (z 0).val) = 0
    omega
  | 1 =>
    have h1 : (z 1).val = (y 0).val := hz ▸ reshape_list _ y
    show 128 * g.val + 1 * (0 + 1 * (z 1).val) = 128 * g.val + (y 0).val
    omega

omit [FloatOps F] in
/-- What the gather writes into a row bank is block `g` of the output. -/
theorem gather_block (hix : ∀ p, (ix p).toNat < 622592) {g : Fin 2176} {j : Fin 2} {f : Buf (Elt F) ((sSlot j).view.loc (th d L))}
    (hf : Lists d L ix g j f) (hn : S128.numel = S128x128.size gathers_S622592x128_S128x128.axis')
    (hin : ∀ x, ((sList j).view.read (Elt F) f x).toNat < S622592x128.size gathers_S622592x128_S128x128.axis) :
    SparseCore.gatherPayload gathers_S622592x128_S128x128 (tAll.view.read (Elt F) tab) (SparseCore.rows ((sList j).view.read (Elt F) f) hn hin)
      = (oBlk g).view.read (Elt F) (OUT tab ix) := by
  funext x
  have hx0 : (x 0).val < 128 := (x 0).isLt
  have hx1 : (x 1).val < 128 := (x 1).isLt
  show tab ((Rect.unit (s := S622592x128) ![0, 0] S622592x128.size inb_S622592x128_S622592x128_0_0).emb
      (gathers_S622592x128_S128x128.idx (SparseCore.rows ((sList j).view.read (Elt F) f) hn hin) x))
    = tab (tRow (ix (iEnt ((Rect.unit (s := S278528x128) ![128 * g.val, 0] S128x128.size (oBlk_inb g)).emb x 0))).toNat
        ((Rect.unit (s := S278528x128) ![128 * g.val, 0] S128x128.size (oBlk_inb g)).emb x 1))
  congr 1
  funext a
  apply Fin.ext
  match a with
  | 0 =>
    have e := congrArg Fin.val (Shape.Gathers.idx_axis gathers_S622592x128_S128x128 (SparseCore.rows ((sList j).view.read (Elt F) f) hn hin) x)
    show 0 + 1 * (gathers_S622592x128_S128x128.idx (SparseCore.rows ((sList j).view.read (Elt F) f) hn hin) x 0).val = _
    rw [show (gathers_S622592x128_S128x128.idx (SparseCore.rows ((sList j).view.read (Elt F) f) hn hin) x 0).val = _ from e]
    show 0 + 1 * ((sList j).view.read (Elt F) f (S128.rowMajor.symm ((x 0).cast hn.symm))).toNat = (ix _).toNat % 622592
    rw [list_read d L ix hf, Nat.mod_eq_of_lt (hix _), zero_add, one_mul]
    have er : (S128.rowMajor.symm ((x 0).cast hn.symm) 0).val = (x 0).val := by
      have h1 := Shape.rowMajor_val_one (d := ![128]) (S128.rowMajor.symm ((x 0).cast hn.symm))
      rw [Equiv.apply_symm_apply] at h1
      exact h1.symm
    congr 3
    apply Fin.ext
    show 128 * g.val + (S128.rowMajor.symm ((x 0).cast hn.symm) 0).val = 128 * g.val + 1 * (x 0).val
    omega
  | 1 =>
    have e := Shape.Gathers.idx_of_ne gathers_S622592x128_S128x128 (SparseCore.rows ((sList j).view.read (Elt F) f) hn hin) x 1 (by decide)
    show 0 + 1 * (gathers_S622592x128_S128x128.idx (SparseCore.rows ((sList j).view.read (Elt F) f) hn hin) x 1).val = 0 + 1 * (x 1).val
    rw [e]; rfl

theorem set_sList (j : Fin 2) : (sList j).view.set = (sSlot j).view.set := by
  show (((sSlot j).view.slice (Rect.unit (s := S1x128) ![0, 0] S1x128.size inb_S1x128_S1x128_0_0)).reshape S128 squeezes_S1x128_S128.numel_eq).set = _
  rw [View.set_reshape, View.set_slice]
  have h : (Rect.unit (s := S1x128) ![0, 0] S1x128.size inb_S1x128_S1x128_0_0).set = Finset.univ := by
    ext i
    simp only [Finset.mem_univ, iff_true]
    exact (LoadRect.mem_set _).mpr fun a => ⟨(i a).val, (i a).isLt, by match a with | 0 => simp | 1 => simp⟩
  rw [h]; rfl

section

theorem wp_fetch {α : Type} {Q : α → sProp 𝕄} (g : Fin 2176) (j : Fin 2) {src : Memref sig .scVector .hbm S1x128 .i32} {dst : Memref sig .scVector .vmem S1x128 .i32}
    {sm : DmaSem sig} (e1 : src = iBlk g) (e2 : dst = sSlot j) (e3 : sm = inCell j) {h1 : src.view.WordExact} {h2 : dst.view.WordExact}
    {h3 : DmaTarget.Typed (nD := nD) (τ := τ) (p := .scVector (cV L) (jV L)) .hbm (.dma sm) (.here dst)} {k : PUnit → PT (F := F) L α} :
    idle d L ix j ⊢ iprop((fetching d L ix g j -∗ wpT d L (k ⟨⟩) Q)
      -∗ wpT d L (.op (.enqueueDma src (.here dst) (.dma sm) h1 h2 h3) k) Q) := by
  subst e1 e2 e3
  unfold idle fetching
  iintro ⟨⟨%f, Hf⟩, Hc, Hi⟩ Hk
  ihave Hi' := (pointsTo_split_subset (q := iq (num L) j) (f := ix) (S := Finset.univ) (Finset.subset_univ (iBlk g).view.set)).1 $$ Hi
  icases Hi' with ⟨Hb, Hr⟩
  iapply (Transfers.wp_dmaLocal countersEmb 𝒱₀ (th d L) none (src := iBlk g) (dst := sSlot j) (default : HIx 1) ((sSlot j).view.dmaCredit) rfl
    (View.dmaCredit_pos _ (by decide)) (Finset.Subset.refl _)) $$ [Hb Hf Hc]
  · isplitl [Hb]; · iexact Hb
    isplitl [Hf]; · iexact Hf
    iexact Hc
  iintro Hfl
  iapply Hk
  isplitl [Hfl]
  · iapply (Transfers.Flight_mono countersEmb (th d L) (D := _) ?_) $$ Hfl
    iintro ⟨Hd, Hs⟩
    isplitl [Hd]
    · iexists _; isplitr; swap; · iexact Hd
      ipureintro
      exact View.read_write_univ _ _
    · iexact Hs
  · iexact Hr

theorem wp_fetched {α : Type} {Q : α → sProp 𝕄} (g : Fin 2176) (j : Fin 2) {src : Memref sig .scVector .hbm S1x128 .i32} {dst : Memref sig .scVector .vmem S1x128 .i32}
    {sm : DmaSem sig} (e2 : dst = sSlot j) (e3 : sm = inCell j) {h1 : src.view.WordExact} {h2 : dst.view.WordExact}
    {O : CellTallies nD τ sig (HIx 1)} {W : Waits sig (HIx 1)} {k : PUnit → PT (F := F) L α} :
    iprop(fetching d L ix g j ∗ owes (th d L) O W ∗ Transfers.MayWaits (th d L) (default : HIx 1) O)
      ⊢ iprop((iprop(fetched d L ix g j ∗ owes (th d L) O (insert (SemLoc.dma sm, (default : HIx 1)) W)) -∗ wpT d L (k ⟨⟩) Q)
        -∗ wpT d L (.op (.waitDma2 sm src dst h1 h2) k) Q) := by
  subst e2 e3
  unfold fetching fetched
  iintro ⟨⟨Hfl, Hr⟩, HO, Hmw⟩ Hk
  iapply (Transfers.wp_waitLocalO countersEmb 𝒱₀ (th d L) none (default : HIx 1) (rfl : (sSlot j).view.dmaCredit = _)) $$ [Hfl HO Hmw]
  · isplitl [Hfl]; · iexact Hfl
    isplitl [HO]; · iexact HO
    iapply (Transfers.MayWaits.elim (SemLoc.dma (inCell j))) $$ Hmw
  iintro ⟨⟨Hf, Hb⟩, Hc, HO⟩
  iapply Hk
  isplitr [HO]
  · isplitl [Hf]; · iexact Hf
    isplitl [Hc]; · iexact Hc
    iapply (pointsTo_split_subset (q := iq (num L) j) (f := ix) (S := Finset.univ) (Finset.subset_univ (iBlk g).view.set)).2
    isplitl [Hb] <;> iassumption
  · iexact HO

theorem wp_leave {α : Type} {Q : α → sProp 𝕄} (g : Fin 2176) (j : Fin 2) {src : Memref sig .scVector .vmem S128x128 .i32} {dst : Memref sig .scVector .hbm S128x128 .i32}
    {sm : DmaSem sig} (e1 : src = rSlot j) (e2 : dst = oBlk g) (e3 : sm = outCell j) {h1 : src.view.WordExact} {h2 : dst.view.WordExact}
    {h3 : DmaTarget.Typed (nD := nD) (τ := τ) (p := .scVector (cV L) (jV L)) .vmem (.dma sm) (.here dst)} {f₀ : Buf (Elt F) (oLoc d)}
    {k : PUnit → PT (F := F) L α} :
    iprop(gathered d L tab ix g j ∗ oPts d L g f₀) ⊢ iprop((leaving d L tab ix g j -∗ wpT d L (k ⟨⟩) Q)
      -∗ wpT d L (.op (.enqueueDma src (.here dst) (.dma sm) h1 h2 h3) k) Q) := by
  subst e1 e2 e3
  unfold gathered leaving
  iintro ⟨⟨⟨%f, %hf, Hf⟩, Hc⟩, Ho⟩ Hk
  iapply (Transfers.wp_dmaLocal countersEmb 𝒱₀ (th d L) none (src := rSlot j) (dst := oBlk g) (default : HIx 1) ((oBlk g).view.dmaCredit) rfl
    (View.dmaCredit_pos _ (by decide)) (Finset.Subset.refl _)) $$ [Hf Ho Hc]
  · isplitl [Hf]; · iexact Hf
    isplitl [Ho]; · iexact Ho
    iexact Hc
  iintro Hfl
  iapply Hk
  iapply (Transfers.Flight_mono countersEmb (th d L) (D := _) ?_) $$ Hfl
  iintro ⟨Hd, Hs⟩
  isplitl [Hd]
  · iapply (Entails.of_eq (pointsTo_congr ?_)) $$ Hd
    intro p hp
    obtain ⟨x, -, rfl⟩ := Finset.mem_map.mp hp
    rw [View.write_emb_of_mem _ _ (Finset.mem_univ x)]
    exact congrFun hf x
  · iexists f; iexact Hs

theorem wp_left {α : Type} {Q : α → sProp 𝕄} (g : Fin 2176) (j : Fin 2) {src : Memref sig .scVector .vmem S128x128 .i32} {dst : Memref sig .scVector .hbm S128x128 .i32}
    {sm : DmaSem sig} (e2 : dst = oBlk g) (e3 : sm = outCell j) {h1 : src.view.WordExact} {h2 : dst.view.WordExact}
    {O : CellTallies nD τ sig (HIx 1)} {W : Waits sig (HIx 1)} {k : PUnit → PT (F := F) L α} :
    iprop(leaving d L tab ix g j ∗ owes (th d L) O W ∗ Transfers.MayWaits (th d L) (default : HIx 1) O)
      ⊢ iprop((iprop((oPts d L g (OUT tab ix) ∗ rfree d L j) ∗ owes (th d L) O (insert (SemLoc.dma sm, (default : HIx 1)) W)) -∗ wpT d L (k ⟨⟩) Q)
        -∗ wpT d L (.op (.waitDma2 sm src dst h1 h2) k) Q) := by
  subst e2 e3
  unfold leaving rfree
  iintro ⟨Hfl, HO, Hmw⟩ Hk
  iapply (Transfers.wp_waitLocalO countersEmb 𝒱₀ (th d L) none (default : HIx 1) (rfl : (oBlk g).view.dmaCredit = _)) $$ [Hfl HO Hmw]
  · isplitl [Hfl]; · iexact Hfl
    isplitl [HO]; · iexact HO
    iapply (Transfers.MayWaits.elim (SemLoc.dma (outCell j))) $$ Hmw
  iintro ⟨⟨Ho, Hf⟩, Hc, HO⟩
  iapply Hk
  isplitr [HO]
  · isplitl [Ho]; · iexact Ho
    isplitl [Hf] <;> iassumption
  · iexact HO

/-- The indirect gather and its wait: the rows that index bank `j` names land in row bank `j'`. -/
theorem wp_rows {α : Type} {Q : α → sProp 𝕄} (hix : ∀ p, (ix p).toNat < 622592) (g : Fin 2176) (j j' : Fin 2) {src : Memref sig .scVector .hbm S622592x128 .i32}
    {dst dst' : Memref sig .scVector .vmem S128x128 .i32} {offs : Memref sig .scVector .vmem S128 .i32} {sm : DmaSem sig}
    (e1 : src = tAll) (e2 : dst = rSlot j') (e2' : dst' = rSlot j') (e3 : offs = sList j) (e4 : sm = gCell)
    {hp : (Proc.scVector (cV L) (jV L) : Proc τ).kind = .scVector}
    {hn : S128.numel = S128x128.size gathers_S622592x128_S128x128.axis'} {hsrc : src.view.WordExact} {he : (EltTy.i32).bits = 32}
    {hsp : Space.hbm = .hbm ∨ Space.hbm = .shared} {hr : S622592x128.StreamRows 0} {h1 : src.view.WordExact} {h2 : dst'.view.WordExact}
    {O : CellTallies nD τ sig (HIx 1)} {W : Waits sig (HIx 1)} {k : PUnit → PT (F := F) L α} :
    iprop(fetched d L ix g j ∗ rfree d L j' ∗ tPts d L tab ∗ semVal (th d L, .dma gCell) 0 ∗ owes (th d L) O W
        ∗ Transfers.MayWaits (th d L) (default : HIx 1) O)
      ⊢ iprop((iprop(fetched d L ix g j ∗ gathered d L tab ix g j' ∗ tPts d L tab ∗ semVal (th d L, .dma gCell) 0
            ∗ owes (th d L) O (insert (SemLoc.dma gCell, (default : HIx 1)) W)) -∗ wpT d L (k ⟨⟩) Q)
        -∗ wpT d L (SparseCore.enqueueIndirectGather (nD := nD) (τ := τ) (Λ := Λ₀) (p := .scVector (cV L) (jV L)) hp src dst
            gathers_S622592x128_S128x128 offs hn sm hsrc he hsp hr
            >>= fun _ => SparseCore.waitIndirectGather sm src dst' h1 h2 >>= k) Q) := by
  subst e1 e2 e2' e3 e4
  unfold fetched rfree gathered
  iintro ⟨⟨⟨%f, %hf, Hf⟩, Hc, Hi⟩, ⟨⟨%fr, Hr⟩, Hrc⟩, Ht, Hg, HO, #Hmw⟩ Hk
  have hin : ∀ x, ((sList j).view.read (Elt F) f x).toNat < S622592x128.size gathers_S622592x128_S128x128.axis := fun x => by
    rw [list_read d L ix hf]; exact hix _
  ihave Ht' := (pointsTo_split_subset (q := tq (num L)) (f := tab) (S := Finset.univ) (Finset.subset_univ tAll.view.set)).1 $$ Ht
  icases Ht' with ⟨Hts, Htr⟩
  ihave Hf' := (Entails.of_eq (show (sPts d L j f : sProp 𝕄) = ((sList j).view.loc (th d L) ↦[(sList j).view.set]{fullShare} f) by rw [set_sList])) $$ Hf
  iapply (SparseCore.wp_indirectGatherLocal countersEmb 𝒱₀ (th d L) none (hg := gathers_S622592x128_S128x128) (default : HIx 1)
      (rSlot j').view.dmaCredit (SparseCore.sum_rowCredit_eq_dmaCredit (rSlot j') _ (fun _ => rfl)) (by decide) hin) $$ [Hts Hr Hf' Hg]
  · isplitl [Hts]; · iexact Hts
    isplitl [Hr]; · iexact Hr
    isplitl [Hf']; · iexact Hf'
    iexact Hg
  iintro Hfl
  iapply (Transfers.wp_waitLocalO countersEmb 𝒱₀ (th d L) none (default : HIx 1) (rfl : (rSlot j').view.dmaCredit = _)) $$ [Hfl HO]
  · isplitl [Hfl]; · iexact Hfl
    isplitl [HO]; · iexact HO
    iapply (Transfers.MayWaits.elim (SemLoc.dma gCell)) $$ Hmw
  iintro ⟨⟨Hr, Hts, Hf'⟩, Hg, HO⟩
  iapply Hk
  isplitl [Hf' Hc Hi]
  · isplitl [Hf']
    · iexists f; isplitr; · ipureintro; exact hf
      iapply (Entails.of_eq (show ((sList j).view.loc (th d L) ↦[(sList j).view.set]{fullShare} f : sProp 𝕄) = sPts d L j f by rw [set_sList])) $$ Hf'
    isplitl [Hc] <;> iassumption
  isplitl [Hr Hrc]
  · isplitl [Hr]
    · iexists _; isplitr; swap; · iexact Hr
      ipureintro
      exact (View.read_write_univ _ _).trans (gather_block d L tab ix hix hf hn hin)
    iexact Hrc
  isplitl [Hts Htr]
  · iapply (pointsTo_split_subset (q := tq (num L)) (f := tab) (S := Finset.univ) (Finset.subset_univ tAll.view.set)).2
    isplitl [Hts] <;> iassumption
  isplitl [Hg] <;> iassumption

end

end Cert.Proof.Gather

end
-- ==== Proof.Gather.Trip.lean ====
/-
  One trip of the tile's loop, and the loop's invariant.
-/
module

public import proofs.«01_k».proof.Proof.Gather.Ops

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (tab : Buf (Elt F) (tLoc d)) (ix : Buf (Elt F) (iLoc d))

/-- A trip's middle: wait for the block's row numbers, gather the rows, start writing them out. -/
theorem wp_mid {α : Type} {Q : α → sProp 𝕄} (O : CellTallies nD τ sig (HIx 1)) (W : Waits sig (HIx 1)) (hix : ∀ p, (ix p).toNat < 622592) (g : Fin 2176) (j : Fin 2)
    {a1 : Memref sig .scVector .hbm S1x128 .i32} {a2 : Memref sig .scVector .vmem S1x128 .i32} {a3 : DmaSem sig} (ea2 : a2 = sSlot j) (ea3 : a3 = inCell j)
    {ha1 : a1.view.WordExact} {ha2 : a2.view.WordExact}
    {b1 : Memref sig .scVector .hbm S622592x128 .i32} {b2 b2' : Memref sig .scVector .vmem S128x128 .i32} {b3 : Memref sig .scVector .vmem S128 .i32}
    {b4 : DmaSem sig} (eb1 : b1 = tAll) (eb2 : b2 = rSlot j) (eb2' : b2' = rSlot j) (eb3 : b3 = sList j) (eb4 : b4 = gCell)
    {hp : (Proc.scVector (cV L) (jV L) : Proc τ).kind = .scVector}
    {hn : S128.numel = S128x128.size gathers_S622592x128_S128x128.axis'} {hsrc : b1.view.WordExact} {he : (EltTy.i32).bits = 32}
    {hsp : Space.hbm = .hbm ∨ Space.hbm = .shared} {hr : S622592x128.StreamRows 0} {hb1 : b1.view.WordExact} {hb2 : b2'.view.WordExact}
    {c1 : Memref sig .scVector .vmem S128x128 .i32} {c2 : Memref sig .scVector .hbm S128x128 .i32}
    {c3 : DmaSem sig} (ec1 : c1 = rSlot j) (ec2 : c2 = oBlk g) (ec3 : c3 = outCell j) {hc1 : c1.view.WordExact} {hc2 : c2.view.WordExact}
    {hc3 : DmaTarget.Typed (nD := nD) (τ := τ) (p := .scVector (cV L) (jV L)) .vmem (.dma c3) (.here c2)} {f₀ : Buf (Elt F) (oLoc d)}
    {k : PUnit → PT (F := F) L α} :
    iprop(fetching d L ix g j ∗ rfree d L j ∗ oPts d L g f₀ ∗ tPts d L tab ∗ semVal (th d L, .dma gCell) 0
        ∗ Transfers.MayWaits (th d L) (default : HIx 1) O ∗ (∃ W', ⌜∀ p ∈ W', p ∈ W ∨ p.2 = none⌝ ∗ owes (th d L) O W'))
      ⊢ iprop((iprop(idle d L ix j ∗ leaving d L tab ix g j ∗ tPts d L tab ∗ semVal (th d L, .dma gCell) 0
            ∗ (∃ W', ⌜∀ p ∈ W', p ∈ W ∨ p.2 = none⌝ ∗ owes (th d L) O W')) -∗ wpT d L (k ⟨⟩) Q)
        -∗ wpT d L (.op (.waitDma2 a3 a1 a2 ha1 ha2) fun _ =>
            SparseCore.enqueueIndirectGather (nD := nD) (τ := τ) (Λ := Λ₀) (p := .scVector (cV L) (jV L)) hp b1 b2
              gathers_S622592x128_S128x128 b3 hn b4 hsrc he hsp hr
            >>= fun _ => SparseCore.waitIndirectGather b4 b1 b2' hb1 hb2
            >>= fun _ => .op (.enqueueDma c1 (.here c2) (.dma c3) hc1 hc2 hc3) k) Q) := by
  iintro ⟨Hfl, Hr, Ho, Ht, Hg, #Hmw, %W', %hW', HO⟩ Hk
  iapply (wp_fetched d L ix g j ea2 ea3) $$ [Hfl HO]
  · isplitl [Hfl]; · iexact Hfl
    isplitl [HO]; · iexact HO
    iexact Hmw
  iintro ⟨Hf, HO⟩
  iapply (wp_rows d L tab ix hix g j j eb1 eb2 eb2' eb3 eb4) $$ [Hf Hr Ht Hg HO]
  · isplitl [Hf]; · iexact Hf
    isplitl [Hr]; · iexact Hr
    isplitl [Ht]; · iexact Ht
    isplitl [Hg]; · iexact Hg
    isplitl [HO]; · iexact HO
    iexact Hmw
  iintro ⟨Hf, Hr, Ht, Hg, HO⟩
  iapply (wp_leave d L tab ix g j ec1 ec2 ec3) $$ [Hr Ho]
  · isplitl [Hr]; · iexact Hr
    iexact Ho
  iintro Hl
  iapply Hk
  isplitl [Hf]; · iapply (fetched_idle d L ix g j) $$ Hf
  isplitl [Hl]; · iexact Hl
  isplitl [Ht]; · iexact Ht
  isplitl [Hg]; · iexact Hg
  iexists _; isplitr; swap; · iexact HO
  ipureintro; intro p hp
  rcases Finset.mem_insert.mp hp with hp | hp; · exact .inr (hp ▸ rfl)
  rcases Finset.mem_insert.mp hp with hp | hp; · exact .inr (hp ▸ rfl)
  exact hW' p hp

/-- The fetch of the next block's row numbers, under the program's test that there is one. -/
theorem wp_fetch_if {α β : Type} {Q : α → sProp 𝕄} (g : Fin 2176) (j : Fin 2) {c : Prop} [Decidable c] {v : β}
    {src : c → Memref sig .scVector .hbm S1x128 .i32} {dst : c → Memref sig .scVector .vmem S1x128 .i32} {sm : c → DmaSem sig}
    (e1 : ∀ h, src h = iBlk g) (e2 : ∀ h, dst h = sSlot j) (e3 : ∀ h, sm h = inCell j)
    {h1 : ∀ h, (src h).view.WordExact} {h2 : ∀ h, (dst h).view.WordExact}
    {h3 : ∀ h, DmaTarget.Typed (nD := nD) (τ := τ) (p := .scVector (cV L) (jV L)) .hbm (.dma (sm h)) (.here (dst h))}
    {k : β → PT (F := F) L α} :
    idle d L ix j
      ⊢ iprop(((if c then fetching d L ix g j else idle d L ix j) -∗ wpT d L (k v) Q)
        -∗ wpT d L ((if h : c then Prog.op (.enqueueDma (src h) (.here (dst h)) (.dma (sm h)) (h1 h) (h2 h) (h3 h)) (fun _ => Prog.ret v)
            else Prog.ret v) >>= k) Q) := by
  by_cases hc : c
  · simp only [dif_pos hc, if_pos hc, Prog.bind_op, Prog.bind_ret]
    exact wp_fetch d L ix g j (e1 hc) (e2 hc) (e3 hc) (k := fun _ => k v)
  · simp only [dif_neg hc, if_neg hc, Prog.bind_ret]
    iintro H Hk
    iapply Hk $$ H

/-- A program that has returned. -/
theorem wpT_ret {β : Type} {Q : β → sProp 𝕄} {v : β} : Q v ⊢ wpT d L (Prog.ret v : PT (F := F) L β) Q := by
  unfold wpT
  iintro H
  iapply (Entails.of_eq (wp_ret _ _ _ v Q).symm)
  imodintro
  iexact H

/-- The wait for the previous block's rows to have left, under the program's test that there is one. -/
theorem wp_left_if {β : Type} {Q : β → sProp 𝕄} (O : CellTallies nD τ sig (HIx 1)) (W : Waits sig (HIx 1)) (g : Fin 2176) (j : Fin 2) {c : Prop} [Decidable c] {v : β}
    {src : c → Memref sig .scVector .vmem S128x128 .i32} {dst : c → Memref sig .scVector .hbm S128x128 .i32} {sm : c → DmaSem sig}
    (e2 : ∀ h, dst h = oBlk g) (e3 : ∀ h, sm h = outCell j)
    {h1 : ∀ h, (src h).view.WordExact} {h2 : ∀ h, (dst h).view.WordExact} :
    iprop((if c then leaving d L tab ix g j else rfree d L j) ∗ Transfers.MayWaits (th d L) (default : HIx 1) O
        ∗ (∃ W', ⌜∀ p ∈ W', p ∈ W ∨ p.2 = none⌝ ∗ owes (th d L) O W'))
      ⊢ iprop((iprop((if c then oPts d L g (OUT tab ix) else emp) ∗ rfree d L j ∗ (∃ W', ⌜∀ p ∈ W', p ∈ W ∨ p.2 = none⌝ ∗ owes (th d L) O W')) -∗ Q v)
        -∗ wpT d L (if h : c then Prog.op (.waitDma2 (sm h) (src h) (dst h) (h1 h) (h2 h)) (fun _ => (Prog.ret v : PT (F := F) L β)) else Prog.ret v) Q) := by
  by_cases hc : c
  · simp only [dif_pos hc, if_pos hc]
    iintro ⟨Hl, #Hmw, %W', %hW', HO⟩ Hk
    iapply (wp_left d L tab ix g j (e2 hc) (e3 hc)) $$ [Hl HO]
    · isplitl [Hl]; · iexact Hl
      isplitl [HO]; · iexact HO
      iexact Hmw
    iintro ⟨⟨Ho, Hr⟩, HO⟩
    iapply (wpT_ret d L)
    iapply Hk
    isplitl [Ho]; · iexact Ho
    isplitl [Hr]; · iexact Hr
    iexists _; isplitr; swap; · iexact HO
    ipureintro; intro p hp
    rcases Finset.mem_insert.mp hp with hp | hp; · exact .inr (hp ▸ rfl)
    exact hW' p hp
  · simp only [dif_neg hc, if_neg hc]
    iintro ⟨Hr, -, HO⟩ Hk
    iapply (wpT_ret d L)
    iapply Hk
    isplitr; · iempintro
    isplitl [Hr]; · iexact Hr
    iexact HO

/-! ## The invariant of the loop -/

variable (f₀ : Buf (Elt F) (oLoc d)) (O : CellTallies nD τ sig (HIx 1)) (W : Waits sig (HIx 1))

/-- Block `k`'s row numbers, on their way while there is a block `k`; -/
def ahead (k : ℕ) : sProp 𝕄 := if k < 68 then fetching d L ix (bk L k) (Ring.sl 2 k) else idle d L ix (Ring.sl 2 k)
/-- block `k - 1`'s rows, on their way out once there is a block `k - 1`. -/
def behind (k : ℕ) : sProp 𝕄 := if k = 0 then rfree d L (Ring.sl 2 (k + 1)) else leaving d L tab ix (bk L (k - 1)) (Ring.sl 2 (k + 1))
/-- The output's blocks `lo … hi - 1` of the tile, at contents `f`. -/
def blocks (lo hi : ℕ) (f : Buf (Elt F) (oLoc d)) : sProp 𝕄 := bigSep (Ring.rangeSet 68 lo hi) fun b => oPts d L (bk L b.val) f

/-- Before trip `k`: the row numbers of block `k` are on their way and the other index bank is free; row bank `k % 2` is
    free and the rows of block `k - 1` are on their way out of the other; the blocks before are written. -/
def inv (k : ℕ) (acc : BitVec 32 × BitVec 32 × BitVec 32 × BitVec 32 × BitVec 32) : sProp 𝕄 :=
  iprop(⌜acc = carry k⌝ ∗ ahead d L ix k ∗ idle d L ix (Ring.sl 2 (k + 1)) ∗ rfree d L (Ring.sl 2 k) ∗ behind d L tab ix k
    ∗ blocks d L 0 (k - 1) (OUT tab ix) ∗ blocks d L k 68 f₀ ∗ tPts d L tab ∗ semVal (th d L, .dma gCell) 0
    ∗ Transfers.MayWaits (th d L) (default : HIx 1) O ∗ (∃ W', ⌜∀ p ∈ W', p ∈ W ∨ p.2 = none⌝ ∗ owes (th d L) O W'))

/-- The loop's body at the tile's own arrays. -/
abbrev body (k : Fin k0_t1_loop.trips) (acc : BitVec 32 × BitVec 32 × BitVec 32 × BitVec 32 × BitVec 32) :=
  k0_t1_body (F := F) L tV (Memref.isWhole_whole _) iV (Memref.isWhole_whole _) oV (Memref.isWhole_whole _) sV (Memref.isWhole_whole _)
    cc0_scoped1 rV (Memref.isWhole_whole _) cc0_scoped3 cc0_scoped4 (first L) k acc

theorem sSlot_eq {off : Fin 3 → ℕ} {n : ℕ} (h : off = ![(Ring.sl 2 n).val, 0, 0]) (p) :
    (sV.slice (Rect.unit (s := S2x1x128) off S1x1x128.size p) (fun _ => rfl)).squeeze S1x128 squeezes_S1x1x128_S1x128 = sSlot (Ring.sl 2 n) := by
  subst h; rfl
theorem rSlot_eq {off : Fin 3 → ℕ} {n : ℕ} (h : off = ![(Ring.sl 2 n).val, 0, 0]) (p) :
    (rV.slice (Rect.unit (s := S2x128x128) off S1x128x128.size p) (fun _ => rfl)).squeeze S128x128 squeezes_S1x128x128_S128x128 = rSlot (Ring.sl 2 n) := by
  subst h; rfl
theorem inCell_eq {off : Fin 1 → ℕ} {n : ℕ} (h : off = ![(Ring.sl 2 n).val]) (p) :
    ((cc0_scoped1.slice (Rect.unit (s := S2) off S1.size p)).squeeze S_ squeezes_S1_S_).sem = inCell (Ring.sl 2 n) := by
  subst h; rfl
theorem outCell_eq {off : Fin 1 → ℕ} {n : ℕ} (h : off = ![(Ring.sl 2 n).val]) (p) :
    ((cc0_scoped3.slice (Rect.unit (s := S2) off S1.size p)).squeeze S_ squeezes_S1_S_).sem = outCell (Ring.sl 2 n) := by
  subst h; rfl
theorem iBlk_eq {off : Fin 2 → ℕ} {n : ℕ} (hn : n < 68) (h : off = ![0, 128 * (base L + n)]) (p) :
    iV.slice (Rect.unit (s := S1x278528) off S1x128.size p) (fun _ => rfl) = iBlk (bk L n) := by
  rw [← bk_val L hn] at h; subst h; rfl
theorem oBlk_eq {off : Fin 2 → ℕ} {n : ℕ} (hn : n < 68) (h : off = ![128 * (base L + n), 0]) (p) :
    oV.slice (Rect.unit (s := S278528x128) off S128x128.size p) (fun _ => rfl) = oBlk (bk L n) := by
  rw [← bk_val L hn] at h; subst h; rfl
theorem sList_eq {off : Fin 3 → ℕ} {n : ℕ} (h : off = ![(Ring.sl 2 n).val, 0, 0]) (p) :
    (((sV.slice (Rect.unit (s := S2x1x128) off S1x1x128.size p) (fun _ => rfl)).squeeze S1x128 squeezes_S1x1x128_S1x128).slice
      (Rect.unit (s := S1x128) ![0, 0] S1x128.size inb_S1x128_S1x128_0_0) (fun _ => rfl)).squeeze S128 squeezes_S1x128_S128 = sList (Ring.sl 2 n) := by
  subst h; rfl

omit [FloatOps F] in
theorem sl_pred {k : ℕ} (h : 0 < k) : Ring.sl 2 (k - 1) = Ring.sl 2 (k + 1) := by
  rw [show k + 1 = (k - 1) + 2 by omega, Ring.sl_add]

theorem behind_if {k : ℕ} {c : Prop} [Decidable c] (hc : c ↔ 0 < k) :
    behind d L tab ix k ⊢ (if c then leaving d L tab ix (bk L (k - 1)) (Ring.sl 2 (k + 1)) else rfree d L (Ring.sl 2 (k + 1)) : sProp 𝕄) := by
  unfold behind
  by_cases h : 0 < k
  · rw [if_pos (hc.mpr h), if_neg (by omega)]
  · rw [if_neg (fun h' => h (hc.mp h')), if_pos (by omega)]

theorem ahead_if {k : ℕ} {c : Prop} [Decidable c] (hc : c ↔ k < 68) :
    (if c then fetching d L ix (bk L k) (Ring.sl 2 k) else idle d L ix (Ring.sl 2 k) : sProp 𝕄) ⊢ ahead d L ix k := by
  unfold ahead
  by_cases h : k < 68
  · rw [if_pos (hc.mpr h), if_pos h]
  · rw [if_neg (fun h' => h (hc.mp h')), if_neg h]

theorem done_if {k : ℕ} {c : Prop} [Decidable c] (hc : c ↔ 0 < k) (hk : k < 68) :
    iprop((if c then oPts d L (bk L (k - 1)) (OUT tab ix) else emp) ∗ blocks d L 0 (k - 1) (OUT tab ix)) ⊢ (blocks d L 0 (k + 1 - 1) (OUT tab ix) : sProp 𝕄) := by
  unfold blocks
  by_cases h : 0 < k
  · rw [if_pos (hc.mpr h), show k + 1 - 1 = k from rfl, Ring.bigSep_rangeSet_last (lo := 0) (hi := k) h (by omega)]
  · rw [if_neg (fun h' => h (hc.mp h')), show k = 0 by omega]
    iintro ⟨-, H⟩
    iexact H

omit [FloatOps F] in
theorem step {A B C D : sProp 𝕄} (h : A ⊢ iprop(B -∗ C)) (h' : D ⊢ iprop(A ∗ B)) : D ⊢ C := by
  refine h'.trans ?_
  iintro ⟨HA, HB⟩
  iapply h $$ HA HB

theorem trip (hix : ∀ p, (ix p).toNat < 622592) (k : Fin k0_t1_loop.trips) :
    inv d L tab ix f₀ O W k.val (carry k.val) ⊢ wpT d L (body L k (carry k.val)) (inv d L tab ix f₀ O W (k.val + 1)) := by
  have hk : k.val < 68 := lt_of_lt_of_eq k.isLt trips_eq
  obtain ⟨c1, c2, c5, c7, o5, o8, o13, o16⟩ := tripFacts L k
  obtain ⟨chk1, hnext⟩ := tripNext L k
  obtain ⟨⟨b4, b6⟩, -⟩ := bank (n := k.val + 1) (by omega)
  obtain ⟨-, ⟨b7, b9⟩, ⟨b10, b11⟩, ⟨b12, b14⟩, -, -, chk2, chk3, -⟩ := bank (n := k.val) (by omega)
  obtain ⟨-, -, -, -, ⟨b15, b17⟩, -, -⟩ := bank (n := k.val - 1) (by omega)
  have ec : carry k.val = (wd (k.val + 1), wd k.val, wd k.val, wd (k.val - 1), wd k.val) := by
    show (wd (min k.val 67 + 1), wd k.val, wd k.val, wd (k.val - 1), wd (k.val % 68)) = _
    rw [Nat.min_eq_left (by omega), Nat.mod_eq_of_lt hk]
  unfold inv
  rw [ec]
  unfold body k0_t1_body
  dsimp only
  rw [k0_part1_eq_skeleton, k0_part2_eq_skeleton]
  unfold k0_part1_skel k0_part2_skel
  simp only [Prog.bind_lift, Prog.bind_op, Prog.bind_ret, Prog.pure_eq_ret, bind_assoc]
  refine BI.Entails.trans ?_ (wp_assume 𝒱₀ (th d L) none Set.univ chk3)
  refine BI.Entails.trans ?_ (wp_assume 𝒱₀ (th d L) none Set.univ chk2)
  refine BI.Entails.trans ?_ (wp_assume 𝒱₀ (th d L) none Set.univ chk1)
  simp only [dif_pos c2, dif_pos c5, ite_self, Prog.bind_op, Prog.bind_ret, bind_assoc]
  refine step (wp_fetch_if d L ix (bk L (k.val + 1)) (Ring.sl 2 (k.val + 1)) ?_ ?_ ?_) ?_
  · exact fun h => iBlk_eq L (by have := c1.mp h; omega) (o5 (c1.mp h)) _
  · exact fun _ => sSlot_eq b4 _
  · exact fun _ => inCell_eq b6 _
  dsimp only
  rw [show ahead d L ix k.val = fetching d L ix (bk L k.val) (Ring.sl 2 k.val) from if_pos hk]
  iintro ⟨-, Ha, Hi, Hr, Hb, Hdone, Htodo, Ht, Hg, #Hmw, HO⟩
  isplitl [Hi]; · iexact Hi
  iintro Hi
  ihave ⟨Ho, Htodo⟩ := (show blocks d L k.val 68 f₀ ⊢ iprop(oPts d L (bk L k.val) f₀ ∗ blocks d L (k.val + 1) 68 f₀) from by
    unfold blocks; rw [Ring.bigSep_rangeSet_head hk hk]) $$ Htodo
  iapply (wp_mid d L tab ix O W hix (bk L k.val) (Ring.sl 2 k.val) (f₀ := f₀) (sSlot_eq b7 _) (inCell_eq b9 _) rfl (rSlot_eq b10 _)
    (rSlot_eq b10 _) (sList_eq b11 _) rfl (rSlot_eq b12 _) (oBlk_eq L hk o13 _) (outCell_eq b14 _)) $$ [Ha Hr Ho Ht Hg HO]
  · isplitl [Ha]; · iexact Ha
    isplitl [Hr]; · iexact Hr
    isplitl [Ho]; · iexact Ho
    isplitl [Ht]; · iexact Ht
    isplitl [Hg]; · iexact Hg
    isplitl []; · iexact Hmw
    iexact HO
  iintro ⟨Hf, Hl, Ht, Hg, HO⟩
  iapply (wp_left_if d L tab ix O W (bk L (k.val - 1)) (Ring.sl 2 (k.val + 1)) (fun h => oBlk_eq L (by omega) (o16 (c7.mp h)) _)
    (fun h => (outCell_eq b17 _).trans (by rw [sl_pred (c7.mp h)]))) $$ [Hb HO]
  · isplitl [Hb]; · iapply (behind_if d L tab ix c7) $$ Hb
    isplitl []; · iexact Hmw
    iexact HO
  iintro ⟨Ho, Hr, HO⟩
  isplitr; · ipureintro; exact hnext
  isplitl [Hi]; · iapply (ahead_if d L ix (k := k.val + 1) (c1.trans (by omega))) $$ Hi
  isplitl [Hf]; · iapply (Entails.of_eq (show idle d L ix (Ring.sl 2 k.val) = idle d L ix (Ring.sl 2 (k.val + 1 + 1)) by rw [show k.val + 1 + 1 = k.val + 2 from rfl, Ring.sl_add])) $$ Hf
  isplitl [Hr]; · iexact Hr
  isplitl [Hl]; · iapply (Entails.of_eq (show leaving d L tab ix (bk L k.val) (Ring.sl 2 k.val) = behind d L tab ix (k.val + 1) by unfold behind; rw [if_neg (by omega), show k.val + 1 + 1 = k.val + 2 from rfl, Ring.sl_add]; rfl)) $$ Hl
  isplitl [Hdone Ho]
  · iapply (done_if d L tab ix c7 hk)
    isplitl [Ho]; · iexact Ho
    iexact Hdone
  isplitl [Htodo]; · iexact Htodo
  isplitl [Ht]; · iexact Ht
  isplitl [Hg]; · iexact Hg
  isplitl []; · iexact Hmw
  iexact HO

end Cert.Proof.Gather

end
-- ==== Proof.Gather.Tile.lean ====
/-
  A tile's whole program: the first fetch, the loop of 68 trips, the last wait.
-/
module

public import proofs.«01_k».proof.Proof.Gather.Trip

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (tab : Buf (Elt F) (tLoc d)) (ix : Buf (Elt F) (iLoc d))

/-! ## The tile's program -/

/-- What a tile has outside of its loop: its share of the table, the banks of both rings free, its output blocks at
    contents `f`, and the gather's semaphore at zero. -/
def outside (f : Buf (Elt F) (oLoc d)) : sProp 𝕄 :=
  iprop(tPts d L tab ∗ idle d L ix 0 ∗ idle d L ix 1 ∗ rfree d L 0 ∗ rfree d L 1 ∗ blocks d L 0 68 f ∗ semVal (th d L, .dma gCell) 0)

theorem ahead_zero : ahead d L ix 0 = fetching d L ix (bk L 0) 0 := if_pos (by omega)
theorem ahead_end : ahead d L ix 68 = idle d L ix 0 := if_neg (by omega)
theorem behind_zero : behind d L tab ix 0 = rfree d L 1 := if_pos rfl
theorem behind_end : behind d L tab ix 68 = leaving d L tab ix (bk L 67) 1 := if_neg (by omega)
theorem blocks_empty (f : Buf (Elt F) (oLoc d)) : (blocks d L 0 (0 - 1) f : sProp 𝕄) = iprop(emp) := Ring.bigSep_rangeSet_empty (le_refl 0)

/-- The tile's program at the call's arrays. -/
abbrev prog : PT (F := F) L PUnit :=
  cc0_gather_kernel L tV (Memref.isWhole_whole _) iV (Memref.isWhole_whole _) oV (Memref.isWhole_whole _) sV (Memref.isWhole_whole _)
    cc0_scoped1 rV (Memref.isWhole_whole _) cc0_scoped3 cc0_scoped4

theorem wpT_loop {α : Type} {Q : α → sProp 𝕄} (f₀ : Buf (Elt F) (oLoc d)) (O : CellTallies nD τ sig (HIx 1)) (W : Waits sig (HIx 1))
    (hix : ∀ p, (ix p).toNat < 622592) {init : BitVec 32 × BitVec 32 × BitVec 32 × BitVec 32 × BitVec 32}
    {kk : BitVec 32 × BitVec 32 × BitVec 32 × BitVec 32 × BitVec 32 → PT (F := F) L α} :
    inv d L tab ix f₀ O W 0 init
      ⊢ iprop((inv d L tab ix f₀ O W 68 (carry 68) -∗ wpT d L (kk (carry 68)) Q)
        -∗ wpT d L (Scf.Loop.for k0_t1_loop k0_t1_ok init (body L) >>= kk) Q) := by
  iintro HI HK
  iapply (Scf.wp_for_bind frame (wpE (defs₀ (F := F)) 𝒱₀ (th d L) none) Set.univ _ _ _ _ _ _ (inv d L tab ix f₀ O W) (fun k acc => by
    by_cases h : acc = carry k.val
    · subst h; exact trip d L tab ix f₀ O W hix k
    · unfold inv; iintro ⟨%e, -⟩; exact absurd e h)) $$ HI
  iintro %acc HI
  ihave HI := (show inv d L tab ix f₀ O W k0_t1_loop.trips acc ⊢ iprop(⌜acc = carry 68⌝ ∗ inv d L tab ix f₀ O W 68 (carry 68)) from by
    rw [trips_eq]; unfold inv
    iintro ⟨%e, H⟩
    isplitr; · ipureintro; exact e
    isplitr; · ipureintro; rfl
    iexact H) $$ HI
  icases HI with ⟨%e, HI⟩
  subst e
  iapply HK $$ HI

theorem tile_core (f₀ : Buf (Elt F) (oLoc d)) (O : CellTallies nD τ sig (HIx 1)) (W : Waits sig (HIx 1))
    (hix : ∀ p, (ix p).toNat < 622592) :
    iprop(outside d L tab ix f₀ ∗ Transfers.MayWaits (th d L) (default : HIx 1) O ∗ owes (th d L) O W)
      ⊢ wpT d L (prog L) (fun _ => iprop(outside d L tab ix (OUT tab ix) ∗ ∃ W', ⌜∀ p ∈ W', p ∈ W ∨ p.2 = none⌝ ∗ owes (th d L) O W')) := by
  obtain ⟨chk5, o19, o2⟩ := exit_facts L
  obtain ⟨-, -, -, -, -, ⟨b20, b21⟩, -, -, chk4⟩ := bank (n := 67) (by omega)
  unfold prog
  rw [cc0_gather_kernel_eq_skeleton]
  unfold cc0_gather_kernel_skel
  rw [k0_part3_eq_skeleton, k0_part4_eq_skeleton]
  unfold k0_part3_skel k0_part4_skel
  simp only [Prog.bind_lift, Prog.bind_op, Prog.bind_ret, Prog.pure_eq_ret, bind_assoc]
  unfold outside
  iintro ⟨⟨Ht, Hi0, Hi1, Hr0, Hr1, Ho, Hg⟩, #Hmw, HO⟩
  iapply (wp_fetch d L ix (bk L 0) 0 (iBlk_eq L (n := 0) (by omega) o2 _) (sSlot_eq (n := 0) k0_off1_eq _) (inCell_eq (n := 0) k0_off3_eq _)) $$ Hi0
  iintro Ha
  iapply (wpT_loop d L tab ix f₀ O W hix) $$ [Ha Hi1 Hr0 Hr1 Ho Ht Hg HO]
  · unfold inv
    isplitr; · ipureintro; rfl
    isplitl [Ha]; · iapply (Entails.of_eq (ahead_zero d L ix).symm) $$ Ha
    isplitl [Hi1]; · iexact Hi1
    isplitl [Hr0]; · iexact Hr0
    isplitl [Hr1]; · iapply (Entails.of_eq (behind_zero d L tab ix).symm) $$ Hr1
    isplitr; · iapply (Entails.of_eq (blocks_empty d L (OUT tab ix)).symm); iempintro
    isplitl [Ho]; · iexact Ho
    isplitl [Ht]; · iexact Ht
    isplitl [Hg]; · iexact Hg
    isplitl []; · iexact Hmw
    iexists W; isplitr; · ipureintro; exact fun p hp => .inl hp
    iexact HO
  unfold inv
  iintro ⟨-, Ha, Hi, Hr, Hb, Hdone, -, Ht, Hg, -, %W', %hW', HO⟩
  iapply (wp_assume 𝒱₀ (th d L) none Set.univ chk5)
  iapply (wp_assume 𝒱₀ (th d L) none Set.univ chk4)
  iapply (wp_left d L tab ix (bk L 67) 1 (oBlk_eq L (n := 67) (by omega) o19 _) (outCell_eq (n := 67) b20 _)) $$ [Hb HO]
  · isplitl [Hb]; · iapply (Entails.of_eq (behind_end d L tab ix)) $$ Hb
    isplitl [HO]; · iexact HO
    iexact Hmw
  iintro ⟨⟨Ho, Hr1⟩, HO⟩
  iapply (wpT_ret d L)
  isplitr [HO]
  · isplitl [Ht]; · iexact Ht
    isplitl [Ha]; · iapply (Entails.of_eq (ahead_end d L ix)) $$ Ha
    isplitl [Hi]; · iexact Hi
    isplitl [Hr]; · iexact Hr
    isplitl [Hr1]; · iexact Hr1
    isplitr [Hg]
    · unfold blocks
      iapply (Entails.of_eq (Ring.bigSep_rangeSet_last (NB := 68) (lo := 0) (hi := 68) (by omega) (by omega)).symm)
      isplitl [Ho]; · iexact Ho
      iexact Hdone
    iexact Hg
  iexists _; isplitr; swap; · iexact HO
  ipureintro; intro p hp
  rcases Finset.mem_insert.mp hp with hp | hp; · exact .inr (hp ▸ rfl)
  exact hW' p hp

end Cert.Proof.Gather

end
-- ==== Proof.Gather.Body.lean ====
/-
  A tile's task, from what the launch hands it: its scratch memory cut into banks, its semaphores, its shares of the arrays.
-/
module

public import proofs.«01_k».proof.Proof.Gather.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (tab : Buf (Elt F) (tLoc d)) (ix : Buf (Elt F) (iLoc d))

/-! ## The tile's scratch memory and its semaphores -/

theorem oBlk_set (g : Fin 2176) : (oBlk g).view.set = (Rect.unit (s := S278528x128) ![128 * g.val, 0] S128x128.size (oBlk_inb g)).set := by
  show ((View.whole (main_v11_scv : Ref sig .scVector)).slice _).set = _
  rw [View.set_slice]; exact Finset.map_refl
theorem sSlot_set (j : Fin 2) : (sSlot j).view.set = (Rect.unit (s := S2x1x128) ![j.val, 0, 0] S1x1x128.size (sSlot_inb j)).set := by
  refine (View.set_reshape ((View.whole (cc0_scoped0 : Ref sig .scVector)).slice _) _).trans ?_
  rw [View.set_slice]; exact Finset.map_refl
theorem rSlot_set (j : Fin 2) : (rSlot j).view.set = (Rect.unit (s := S2x128x128) ![j.val, 0, 0] S1x128x128.size (rSlot_inb j)).set := by
  refine (View.set_reshape ((View.whole (cc0_scoped2 : Ref sig .scVector)).slice _) _).trans ?_
  rw [View.set_slice]; exact Finset.map_refl

theorem sSlots_disjoint (j j' : Fin 2) (h : j ≠ j') : Disjoint (sSlot j).view.set (sSlot j').view.set := by
  rw [sSlot_set, sSlot_set]
  exact Ring.lead_disjoint (s := S2x1x128) 0 1 (fun j : Fin 2 => ![j.val, 0, 0]) S1x1x128.size sSlot_inb (by intro b; simp) rfl j j' h
theorem sSlots_cover : Finset.biUnion (β := S2x1x128.Idx) Finset.univ (fun j : Fin 2 => (sSlot j).view.set) = Finset.univ := by
  refine (Finset.biUnion_congr rfl fun j _ => sSlot_set j).trans ?_
  exact Ring.lead_cover (s := S2x1x128) 0 1 (fun j : Fin 2 => ![j.val, 0, 0]) S1x1x128.size sSlot_inb (by intro b; simp)
    (by decide) rfl (by decide) rfl
theorem rSlots_disjoint (j j' : Fin 2) (h : j ≠ j') : Disjoint (rSlot j).view.set (rSlot j').view.set := by
  rw [rSlot_set, rSlot_set]
  exact Ring.lead_disjoint (s := S2x128x128) 0 1 (fun j : Fin 2 => ![j.val, 0, 0]) S1x128x128.size rSlot_inb (by intro b; simp) rfl j j' h
theorem rSlots_cover : Finset.biUnion (β := S2x128x128.Idx) Finset.univ (fun j : Fin 2 => (rSlot j).view.set) = Finset.univ := by
  refine (Finset.biUnion_congr rfl fun j _ => rSlot_set j).trans ?_
  exact Ring.lead_cover (s := S2x128x128) 0 1 (fun j : Fin 2 => ![j.val, 0, 0]) S1x128x128.size rSlot_inb (by intro b; simp)
    (by decide) rfl (by decide) rfl
theorem oBlks_disjoint (g g' : Fin 2176) (h : g ≠ g') : Disjoint (oBlk g).view.set (oBlk g').view.set := by
  rw [oBlk_set, oBlk_set]
  exact Ring.lead_disjoint (s := S278528x128) 0 128 (fun g : Fin 2176 => ![128 * g.val, 0]) S128x128.size oBlk_inb (by intro b; simp) rfl g g' h
theorem oBlks_cover : Finset.biUnion (β := S278528x128.Idx) Finset.univ (fun g : Fin 2176 => (oBlk g).view.set) = Finset.univ := by
  refine (Finset.biUnion_congr rfl fun g _ => oBlk_set g).trans ?_
  exact Ring.lead_cover (s := S278528x128) 0 128 (fun g : Fin 2176 => ![128 * g.val, 0]) S128x128.size oBlk_inb (by intro b; simp)
    (by intro b a h; match a with | 0 => exact absurd rfl h | 1 => rfl) rfl (by decide) rfl

/-- A tile's index scratch is its two banks, -/
theorem sBanks : iprop(∃ f, (th d L).loc cc0_scoped0 ↦{fullShare} f) ⊢ (iprop((∃ f, sPts d L 0 f) ∗ ∃ f, sPts d L 1 f) : sProp 𝕄) :=
  Ring.slots2_split (ℓ := (th d L).loc cc0_scoped0) (fun j => ((sSlot j).view.set : Finset S2x1x128.Idx)) sSlots_disjoint sSlots_cover (sPts d L 0) (sPts d L 1) (fun _ => rfl) (fun _ => rfl)
theorem sBanks_join : iprop((∃ f, sPts d L 0 f) ∗ ∃ f, sPts d L 1 f) ⊢ (iprop(∃ f, (th d L).loc cc0_scoped0 ↦{fullShare} f) : sProp 𝕄) :=
  Ring.slots2_join (ℓ := (th d L).loc cc0_scoped0) (fun j => ((sSlot j).view.set : Finset S2x1x128.Idx)) sSlots_disjoint sSlots_cover (sPts d L 0) (sPts d L 1) (fun _ => rfl) (fun _ => rfl)
/-- and its row scratch too. -/
theorem rBanks : iprop(∃ f, (th d L).loc cc0_scoped2 ↦{fullShare} f) ⊢ (iprop((∃ f, rPts d L 0 f) ∗ ∃ f, rPts d L 1 f) : sProp 𝕄) :=
  Ring.slots2_split (ℓ := (th d L).loc cc0_scoped2) (fun j => ((rSlot j).view.set : Finset S2x128x128.Idx)) rSlots_disjoint rSlots_cover (rPts d L 0) (rPts d L 1) (fun _ => rfl) (fun _ => rfl)
theorem rBanks_join : iprop((∃ f, rPts d L 0 f) ∗ ∃ f, rPts d L 1 f) ⊢ (iprop(∃ f, (th d L).loc cc0_scoped2 ↦{fullShare} f) : sProp 𝕄) :=
  Ring.slots2_join (ℓ := (th d L).loc cc0_scoped2) (fun j => ((rSlot j).view.set : Finset S2x128x128.Idx)) rSlots_disjoint rSlots_cover (rPts d L 0) (rPts d L 1) (fun _ => rfl) (fun _ => rfl)

abbrev cell (s : DmaSem sig) : GSem nD τ sig := (th d L, .dma s)

theorem cell_mem (s : DmaSem sig) (h : (SemLoc.dma s : SemLoc sig).isScoped .scVector = true) : cell d L s ∈ ownCells (th d L) :=
  (mem_ownCells (g := cell d L s)).mpr ⟨rfl, h⟩
theorem cell_ne {s s' : DmaSem sig} (h : s ≠ s') : cell d L s ≠ cell d L s' :=
  fun e => h (SemLoc.dma.inj (Prod.mk.inj e).2)

/-- The tile's semaphores: the two of each ring, the gather's, and the others. -/
theorem ownSems0_V :
    (ownSems0 (th d L) : sProp 𝕄)
      = iprop(semVal (cell d L (inCell 0)) 0 ∗ semVal (cell d L (inCell 1)) 0 ∗ semVal (cell d L (outCell 0)) 0 ∗ semVal (cell d L (outCell 1)) 0
          ∗ semVal (cell d L gCell) 0
          ∗ bigSep ((((((ownCells (th d L)).erase (cell d L (inCell 0))).erase (cell d L (inCell 1))).erase (cell d L (outCell 0))).erase
              (cell d L (outCell 1))).erase (cell d L gCell)) fun g => semVal g 0) := by
  unfold SparseCore.Cfg.ownSems0
  rw [SparseCore.bigSep_erase' (cell_mem d L (inCell 0) (by decide)),
    SparseCore.bigSep_erase' (Finset.mem_erase.mpr ⟨cell_ne d L (by decide), cell_mem d L (inCell 1) (by decide)⟩),
    SparseCore.bigSep_erase' (Finset.mem_erase.mpr ⟨cell_ne d L (by decide), Finset.mem_erase.mpr ⟨cell_ne d L (by decide), cell_mem d L (outCell 0) (by decide)⟩⟩),
    SparseCore.bigSep_erase' (Finset.mem_erase.mpr ⟨cell_ne d L (by decide), Finset.mem_erase.mpr ⟨cell_ne d L (by decide), Finset.mem_erase.mpr
      ⟨cell_ne d L (by decide), cell_mem d L (outCell 1) (by decide)⟩⟩⟩),
    SparseCore.bigSep_erase' (Finset.mem_erase.mpr ⟨cell_ne d L (by decide), Finset.mem_erase.mpr ⟨cell_ne d L (by decide), Finset.mem_erase.mpr
      ⟨cell_ne d L (by decide), Finset.mem_erase.mpr ⟨cell_ne d L (by decide), cell_mem d L gCell (by decide)⟩⟩⟩⟩)]

/-- The tile's buffers: the index scratch, the row scratch, and the others. -/
theorem ownBufs_V :
    (ownBufs (th d L) : sProp 𝕄)
      = iprop((∃ f, (th d L).loc cc0_scoped0 ↦{fullShare} f) ∗ (∃ f, (th d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## What a tile is handed, and hands back -/

/-- A tile's shares of the table and of the list, and its blocks of the output at contents `f`. -/
def part (f : Buf (Elt F) (oLoc d)) : sProp 𝕄 :=
  iprop((tLoc d ↦{tq (num L)} tab) ∗ (iLoc d ↦{tq (num L)} ix) ∗ bigSep Finset.univ fun b : Fin 68 => oLoc d ↦[(oBlk (bk L b.val)).view.set]{fullShare} f)

instance part_storable (f : Buf (Elt F) (oLoc d)) : BI.Storable (upEmb : UEmb _ 𝕄) (part d L tab ix f) := by
  unfold part; infer_instance

theorem iShares : (iLoc d ↦{tq (num L)} ix : sProp 𝕄) = iprop(iPts d L ix 0 ∗ iPts d L ix 1) :=
  BI.Entails.antisymm (pointsTo_share (PosShare.mem_left_op_right (tq (num L)))).1 (pointsTo_share (PosShare.mem_left_op_right (tq (num L)))).2

theorem part_blocks (f : Buf (Elt F) (oLoc d)) :
    (bigSep Finset.univ fun b : Fin 68 => oLoc d ↦[(oBlk (bk L b.val)).view.set]{fullShare} f : sProp 𝕄) = blocks d L 0 68 f := by
  unfold blocks; rw [Ring.rangeSet_univ]

/-- What a tile has outside of its loop, one array or semaphore after the other, -/
theorem outside_intro (f : Buf (Elt F) (oLoc d)) :
    iprop(tPts d L tab ∗ (iPts d L ix 0 ∗ iPts d L ix 1) ∗ ((∃ f, sPts d L 0 f) ∗ ∃ f, sPts d L 1 f) ∗ ((∃ f, rPts d L 0 f) ∗ ∃ f, rPts d L 1 f)
      ∗ blocks d L 0 68 f ∗ semVal (cell d L (inCell 0)) 0 ∗ semVal (cell d L (inCell 1)) 0 ∗ semVal (cell d L (outCell 0)) 0
      ∗ semVal (cell d L (outCell 1)) 0 ∗ semVal (cell d L gCell) 0)
      ⊢ outside d L tab ix f := by
  unfold outside idle rfree
  iintro ⟨Ht, ⟨Hi0, Hi1⟩, ⟨Hs0, Hs1⟩, ⟨Hr0, Hr1⟩, Ho, Ha, Hb, Hc, He, Hg⟩
  isplitl [Ht]; · iexact Ht
  isplitl [Hs0 Ha Hi0]
  · isplitl [Hs0]; · iexact Hs0
    isplitl [Ha] <;> iassumption
  isplitl [Hs1 Hb Hi1]
  · isplitl [Hs1]; · iexact Hs1
    isplitl [Hb] <;> iassumption
  isplitl [Hr0 Hc]
  · isplitl [Hr0] <;> iassumption
  isplitl [Hr1 He]
  · isplitl [Hr1] <;> iassumption
  isplitl [Ho] <;> iassumption

/-- and back. -/
theorem outside_elim (f : Buf (Elt F) (oLoc d)) :
    outside d L tab ix f
      ⊢ iprop(tPts d L tab ∗ (iPts d L ix 0 ∗ iPts d L ix 1) ∗ ((∃ f, sPts d L 0 f) ∗ ∃ f, sPts d L 1 f) ∗ ((∃ f, rPts d L 0 f) ∗ ∃ f, rPts d L 1 f)
      ∗ blocks d L 0 68 f ∗ semVal (cell d L (inCell 0)) 0 ∗ semVal (cell d L (inCell 1)) 0 ∗ semVal (cell d L (outCell 0)) 0
      ∗ semVal (cell d L (outCell 1)) 0 ∗ semVal (cell d L gCell) 0) := by
  unfold outside idle rfree
  iintro ⟨Ht, ⟨Hs0, Ha, Hi0⟩, ⟨Hs1, Hb, Hi1⟩, ⟨Hr0, Hc⟩, ⟨Hr1, He⟩, Ho, Hg⟩
  isplitl [Ht]; · iexact Ht
  isplitl [Hi0 Hi1]
  · isplitl [Hi0] <;> iassumption
  isplitl [Hs0 Hs1]
  · isplitl [Hs0] <;> iassumption
  isplitl [Hr0 Hr1]
  · isplitl [Hr0] <;> iassumption
  isplitl [Ho]; · iexact Ho
  isplitl [Ha]; · iexact Ha
  isplitl [Hb]; · iexact Hb
  isplitl [Hc]; · iexact Hc
  isplitl [He] <;> iassumption

set_option maxHeartbeats 4000000 in
/-- The tile's task: from its part of the arrays, its scratch memory and its semaphores, its blocks of the output end at
    the gathered rows, and all else comes back. -/
theorem tile_body (hF : (K (F := F)).Facts) (hix : ∀ p, (ix p).toNat < 622592) (f₀ : Buf (Elt F) (oLoc d))
    (O : CellTallies nD τ sig (HIx 1)) (W : Waits sig (HIx 1)) (hO : ∀ g, O g none = 0) :
    iprop(levAts (K (F := F)).L (K (F := F)).lev ∗ emp ∗ part d L tab ix f₀
        ∗ scopedBufs (th d L) ∗ scopedSems0 (th d L) ∗ owes (th d L) O W)
      ⊢ wp frame (wpE (defs₀ (F := F)) 𝒱₀ (th d L) none) Set.univ (prog L)
          fun _ => iprop(part d L tab ix (OUT tab ix) ∗ scopedBufs (th d L) ∗ scopedSems0 (th d L)
            ∗ ∃ W', ⌜∀ p ∈ W', p ∈ W ∨ p.2 = none⌝ ∗ owes (th d L) O W') := by
  unfold part
  rw [(K (F := F)).scopedBufs_V hF d (cV L) (jV L), SparseCore.Cfg.scopedSems0_V (Val := Elt F) d (cV L) (jV L), ownSems0_V, ownBufs_V,
    part_blocks, part_blocks, iShares]
  iintro ⟨#Hlv, -, ⟨Ht, ⟨Hi0, Hi1⟩, Ho⟩, ⟨Hs, Hr, Hbufs⟩, ⟨Ha, Hb, Hc, He, Hg, Hsems⟩, HO⟩
  ihave Hmw := (show levAts (K (F := F)).L (K (F := F)).lev ⊢ Transfers.MayWaits (th d L) (default : HIx 1) O from
    (K (F := F)).mayWaits_none (thr := th d L) hO) $$ Hlv
  ihave Hs' := (sBanks d L) $$ Hs
  icases Hs' with ⟨Hs0, Hs1⟩
  ihave Hr' := (rBanks d L) $$ Hr
  icases Hr' with ⟨Hr0, Hr1⟩
  ihave Hwp := (tile_core d L tab ix f₀ O W hix) $$ [Ht Hi0 Hi1 Ho Hs0 Hs1 Hr0 Hr1 Ha Hb Hc He Hg Hmw HO]
  · isplitr [Hmw HO]
    swap
    · isplitl [Hmw] <;> iassumption
    iapply (outside_intro d L tab ix f₀)
    isplitl [Ht]; · iexact Ht
    isplitl [Hi0 Hi1]
    · isplitl [Hi0] <;> iassumption
    isplitl [Hs0 Hs1]
    · isplitl [Hs0] <;> iassumption
    isplitl [Hr0 Hr1]
    · isplitl [Hr0] <;> iassumption
    isplitl [Ho]; · iexact Ho
    isplitl [Ha]; · iexact Ha
    isplitl [Hb]; · iexact Hb
    isplitl [Hc]; · iexact Hc
    isplitl [He]; · iexact He
    iexact Hg
  iapply (wp_wand frame (wpE (defs₀ (F := F)) 𝒱₀ (th d L) none) Set.univ) $$ Hwp
  iintro %v ⟨Hout, Hw⟩
  ihave H := (outside_elim d L tab ix (OUT tab ix)) $$ Hout
  icases H with ⟨Ht, Hi, Hs, Hr, Ho, Ha, Hb, Hc, He, Hg⟩
  isplitl [Ht Hi Ho]
  · isplitl [Ht]; · iexact Ht
    isplitl [Hi]; · iexact Hi
    iexact Ho
  isplitl [Hs Hr Hbufs]
  · isplitl [Hs]; · iapply (sBanks_join d L); iexact Hs
    isplitl [Hr]; · iapply (rBanks_join d L); iexact Hr
    iexact Hbufs
  isplitl [Ha Hb Hc He Hg Hsems]
  · isplitl [Ha]; · iexact Ha
    isplitl [Hb]; · iexact Hb
    isplitl [Hc]; · iexact Hc
    isplitl [He]; · iexact He
    isplitl [Hg]; · iexact Hg
    iexact Hsems
  iexact Hw

end Cert.Proof.Gather

end
-- ==== Proof.Gather.Host.lean ====
/-
  The arrays dealt to the 32 tiles, and the host's operations around the call.
-/
module

public import proofs.«01_k».proof.Proof.Gather.Body
public import Idealize.ShloMosaic.Lib.Pipeline.Frame

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held held_sub_split held_congr wp_hlo_within seq after wp_seq)
open Idealize.ShloMosaic.Pipeline (ucRefs sub_ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays as the tiles' parts -/

section Split

variable (d : Dev nD) (tab : Buf (Elt F) (tLoc d)) (ix : Buf (Elt F) (iLoc d))

/-- The tiles, by SparseCore and subcore, in the order of their numbers; -/
def tiles : Fin 2 × Fin 16 ≃ Fin 32 := finProdFinEquiv
/-- the blocks, by tile and trip, in the order of theirs. -/
def trips : Fin 32 × Fin 68 ≃ Fin 2176 := finProdFinEquiv

theorem tiles_val (c : Fin 2) (i : Fin 16) : (tiles (c, i)).val = i.val + 16 * c.val := rfl
theorem trips_val (w : Fin 32) (b : Fin 68) : (trips (w, b)).val = b.val + 68 * w.val := rfl

theorem num_coords (c : Fin 2) (i : Fin 16) : num (coordsV c i) = tiles (c, i) := rfl
theorem bk_coords (c : Fin 2) (i : Fin 16) (b : Fin 68) : bk (coordsV c i) b.val = trips (tiles (c, i), b) := by
  refine Fin.ext ((bk_val (coordsV c i) b.isLt).trans ?_)
  rw [trips_val, tiles_val]
  exact Nat.add_comm _ _

theorem t_shares : (tLoc d ↦{fullShare} tab : sProp 𝕄)
    = bigSep Finset.univ fun c : Fin 2 => bigSep Finset.univ fun i : Fin 16 => tLoc d ↦{tq (num (coordsV c i))} tab := by
  refine (ShareLeaves.pointsTo_leaves Finset.univ tab 5 fullShare).trans ((bigSep_univ_equiv tiles _).trans (bigSep_univ_prod _))
theorem i_shares : (iLoc d ↦{fullShare} ix : sProp 𝕄)
    = bigSep Finset.univ fun c : Fin 2 => bigSep Finset.univ fun i : Fin 16 => iLoc d ↦{tq (num (coordsV c i))} ix := by
  refine (ShareLeaves.pointsTo_leaves Finset.univ ix 5 fullShare).trans ((bigSep_univ_equiv tiles _).trans (bigSep_univ_prod _))
/-- A family over the blocks, by SparseCore, subcore and trip. -/
theorem bigSep_blocks (Φ : Fin 2176 → sProp 𝕄) :
    bigSep Finset.univ Φ = bigSep Finset.univ fun c : Fin 2 => bigSep Finset.univ fun i : Fin 16 => bigSep Finset.univ fun b : Fin 68 =>
      Φ (trips (tiles (c, i), b)) :=
  calc bigSep Finset.univ Φ
    _ = bigSep Finset.univ fun p : Fin 32 × Fin 68 => Φ (trips p) := bigSep_univ_equiv trips Φ
    _ = bigSep Finset.univ fun w : Fin 32 => bigSep Finset.univ fun b : Fin 68 => Φ (trips (w, b)) := bigSep_univ_prod _
    _ = bigSep Finset.univ fun p : Fin 2 × Fin 16 => bigSep Finset.univ fun b : Fin 68 => Φ (trips (tiles p, b)) := bigSep_univ_equiv tiles _
    _ = _ := bigSep_univ_prod _
theorem o_blocks (f : Buf (Elt F) (oLoc d)) : (oLoc d ↦{fullShare} f : sProp 𝕄)
    = bigSep Finset.univ fun c : Fin 2 => bigSep Finset.univ fun i : Fin 16 => bigSep Finset.univ fun b : Fin 68 =>
        oLoc d ↦[(oBlk (bk (coordsV c i) b.val)).view.set]{fullShare} f := by
  have h : (oLoc d ↦{fullShare} f : sProp 𝕄) = bigSep Finset.univ fun g : Fin 2176 => oLoc d ↦[(oBlk g).view.set]{fullShare} f :=
    Ring.pointsTo_blocks (ℓ := oLoc d) (fun g : Fin 2176 => ((oBlk g).view.set : Finset S278528x128.Idx)) oBlks_disjoint oBlks_cover f
  rw [h, bigSep_blocks]
  refine bigSep_congr fun c _ => bigSep_congr fun i _ => bigSep_congr fun b _ => ?_
  rw [bk_coords]

/-- The table, the list and the output, whole, are the tiles' parts of them. -/
theorem parts (f : Buf (Elt F) (oLoc d)) :
    (iprop((tLoc d ↦{fullShare} tab) ∗ (iLoc d ↦{fullShare} ix) ∗ (oLoc d ↦{fullShare} f)) : sProp 𝕄)
      = bigSep Finset.univ fun c : Fin 2 => bigSep Finset.univ fun i : Fin 16 => part d (coordsV c i) tab ix f := by
  unfold part
  simp only [bigSep_sep']
  rw [t_shares, i_shares, o_blocks]

end Split

/-! ## The host's operations around the call -/

variable (m : (ℓ : Loc nD τ sig) → Buf (Elt F) ℓ) (ρ : Dev nD → PrngReg)

/-- The operations before the call, -/
abbrev pre : List (HloOp τ sig (Elt F)) :=
  [ StableHlo.nullary main_v0 (iotaInDim S4 32 0),
    StableHlo.nullary main_c (constantI S_ 32 155648#32),
    StableHlo.unary main_c main_v1 (broadcastInDim S4 ![] bcast_S_S4 : (⟨S_, .i32⟩ : BufTy).Contents (Elt F) → (⟨S4, .i32⟩ : BufTy).Contents (Elt F)),
    StableHlo.binary main_v0 main_v1 main_v2 (muli : (⟨S4, .i32⟩ : BufTy).Contents (Elt F) → (⟨S4, .i32⟩ : BufTy).Contents (Elt F) → (⟨S4, .i32⟩ : BufTy).Contents (Elt F)),
    StableHlo.unary main_v2 main_v3 (broadcastInDim S4x1 ![0] bcast_S4_S4x1_0 : (⟨S4, .i32⟩ : BufTy).Contents (Elt F) → (⟨S4x1, .i32⟩ : BufTy).Contents (Elt F)),
    StableHlo.unary main_arg1 main_v4 (broadcastInDim S1x69632 ![1] bcast_S69632_S1x69632_1 : (⟨S69632, .i32⟩ : BufTy).Contents (Elt F) → (⟨S1x69632, .i32⟩ : BufTy).Contents (Elt F)),
    StableHlo.unary main_v3 main_v5 (broadcastInDim S4x69632 ![0, 1] bcast_S4x1_S4x69632_0_1 : (⟨S4x1, .i32⟩ : BufTy).Contents (Elt F) → (⟨S4x69632, .i32⟩ : BufTy).Contents (Elt F)),
    StableHlo.unary main_v4 main_v6 (broadcastInDim S4x69632 ![0, 1] bcast_S1x69632_S4x69632_0_1 : (⟨S1x69632, .i32⟩ : BufTy).Contents (Elt F) → (⟨S4x69632, .i32⟩ : BufTy).Contents (Elt F)),
    StableHlo.binary main_v5 main_v6 main_v7 (addi : (⟨S4x69632, .i32⟩ : BufTy).Contents (Elt F) → (⟨S4x69632, .i32⟩ : BufTy).Contents (Elt F) → (⟨S4x69632, .i32⟩ : BufTy).Contents (Elt F)),
    StableHlo.reshape main_v7 main_v8 (rfl : (.i32 : EltTy) = .i32) shapeCasts_S4x69632_S278528,
    StableHlo.reshape main_arg0 main_v9 (rfl : (.i32 : EltTy) = .i32) shapeCasts_S4x155648x128_S622592x128,
    StableHlo.reshape main_v8 main_v10 (rfl : (.i32 : EltTy) = .i32) shapeCasts_S278528_S1x278528 ]
/-- and the one after it. -/
abbrev post : HloOp τ sig (Elt F) := StableHlo.reshape main_v11 main_v12 (rfl : (.i32 : EltTy) = .i32) shapeCasts_S278528x128_S4x69632x128

/-- The program: the operations before, the call, the operation after. -/
theorem main_eq (d : Dev nD) :
    main (F := F) d = seq pre >>= fun _ => (K (F := F)).run d 0 >>= fun _ => hlo rfl post (fun _ => .ret ⟨⟩) := rfl

theorem pre_sub : ∀ op ∈ (pre : List (HloOp τ sig (Elt F))), op.bufs ⊆ ucRefs τ sig := fun op h =>
  sub_ucRefs op (List.forall_iff_forall_mem.mp (show (pre : List (HloOp τ sig (Elt F))).Forall fun op => op.bufs ⊆ StableHlo.tcRefs τ sig from
    ⟨StableHlo.nullary_bufs_sub .., StableHlo.nullary_bufs_sub .., StableHlo.unary_bufs_sub .., StableHlo.binary_bufs_sub .., StableHlo.unary_bufs_sub ..,
      StableHlo.unary_bufs_sub .., StableHlo.unary_bufs_sub .., StableHlo.unary_bufs_sub .., StableHlo.binary_bufs_sub .., StableHlo.reshape_bufs_sub ..,
      StableHlo.reshape_bufs_sub .., StableHlo.reshape_bufs_sub ..⟩) op h)
theorem pre_fresh : ∀ op ∈ (pre : List (HloOp τ sig (Elt F))), op.fresh = ∅ := by
  intro _ h; (repeat (cases h with | head => rfl | tail _ h => ?_)); exact nomatch h
theorem post_sub : (post : HloOp τ sig (Elt F)).bufs ⊆ ucRefs τ sig := sub_ucRefs _ (StableHlo.reshape_bufs_sub ..)

abbrev t' : DevRef τ sig := Proc.devRef .tc (main_v9 : Ref sig .tc)
abbrev i' : DevRef τ sig := Proc.devRef .tc (main_v10 : Ref sig .tc)
abbrev o' : DevRef τ sig := Proc.devRef .tc (main_v11 : Ref sig .tc)
abbrev x' : DevRef τ sig := Proc.devRef .tc (main_arg0 : Ref sig .tc)
abbrev y' : DevRef τ sig := Proc.devRef .tc (main_arg1 : Ref sig .tc)
abbrev r' : DevRef τ sig := Proc.devRef .tc (main_v12 : Ref sig .tc)

/-- The arrays' contents at the launch, before the call, after it, and at the end. -/
def V0 (d : Dev nD) : Valuation τ sig (Elt F) := fun b => m (d, b)
def V1 (d : Dev nD) : Valuation τ sig (Elt F) := StableHlo.after pre (V0 m d)
/-- The call's table and list. -/
def TAB (d : Dev nD) : Buf (Elt F) (tLoc d) := V1 m d t'
def IDX (d : Dev nD) : Buf (Elt F) (iLoc d) := V1 m d i'
def V2 (d : Dev nD) : Valuation τ sig (Elt F) := Function.update (V1 m d) o' (OUT (TAB m d) (IDX m d))
def V3 (d : Dev nD) : Valuation τ sig (Elt F) := (post (F := F)).result (V2 m d)

abbrev S3 : Finset (DevRef τ sig) := {t', i', o'}
theorem S3_sub : S3 ⊆ ucRefs τ sig := by decide
abbrev F3 : Finset (DevRef τ sig) := {x', y', r'}
theorem F3_sub : F3 ⊆ ucRefs τ sig := by decide

end Cert.Proof.Gather

end
-- ==== Proof.Gather.Launch.lean ====
/-
  The launch: what it deals to each tile and gets back, and the program's run.
-/
module

public import proofs.«01_k».proof.Proof.Gather.Host

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held held_sub_split held_congr wp_hlo_within seq after wp_seq)
open Idealize.ShloMosaic.Pipeline (ucRefs sub_ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The call's arrays among all, and the others. -/
theorem held_call (d : Dev nD) (V : Valuation τ sig (Elt F)) :
    (held (T d) (ucRefs τ sig) V : sProp 𝕄)
      = iprop(((tLoc d ↦{fullShare} V t') ∗ (iLoc d ↦{fullShare} V i') ∗ (oLoc d ↦{fullShare} V o')) ∗ held (T d) (ucRefs τ sig \ S3) V) := by
  rw [held_sub_split (T d) S3_sub]
  congr 1
  unfold held S3
  rw [SparseCore.bigSep_insert' (by decide), SparseCore.bigSep_insert' (by decide), bigSep_singleton]

/-- The arguments and the result. -/
theorem held_ends (d : Dev nD) (V : Valuation τ sig (Elt F)) :
    (held (T d) (ucRefs τ sig) V : sProp 𝕄)
      = iprop((((d, x') ↦{fullShare} V x') ∗ ((d, y') ↦{fullShare} V y') ∗ ((d, r') ↦{fullShare} V r')) ∗ held (T d) (ucRefs τ sig \ F3) V) := by
  rw [held_sub_split (T d) F3_sub]
  congr 1
  unfold held F3
  rw [SparseCore.bigSep_insert' (by decide), SparseCore.bigSep_insert' (by decide), bigSep_singleton]

theorem V2_t (d : Dev nD) : V2 m d t' = TAB m d := Function.update_of_ne (show t' ≠ o' by decide) _ _
theorem V2_i (d : Dev nD) : V2 m d i' = IDX m d := Function.update_of_ne (show i' ≠ o' by decide) _ _
theorem V2_o (d : Dev nD) : V2 m d o' = OUT (TAB m d) (IDX m d) := Function.update_self _ _ _
theorem V2_rest (d : Dev nD) : (held (T d) (ucRefs τ sig \ S3) (V2 m d) : sProp 𝕄) = held (T d) (ucRefs τ sig \ S3) (V1 m d) :=
  held_congr (T d) fun b hb => Function.update_of_ne (fun e => (Finset.mem_sdiff.mp hb).2 (by rw [e]; decide)) _ _

/-! ## What the launch carries -/

abbrev at' (c : Fin ((K (F := F)).nCore 0)) (i : Fin ((K (F := F)).nSub 0)) : grid0.Coords := coordsV (Fin.cast nCore_zero c) (Fin.cast nSub_zero i)

/-- A tile's part of the arrays as it gets it, and as it brings it back. -/
def goP (d : Dev nD) (c : Fin ((K (F := F)).nCore 0)) (i : Fin ((K (F := F)).nSub 0)) : sProp 𝕄 := part d (at' c i) (TAB m d) (IDX m d) (V1 m d o')
def tdP (d : Dev nD) (c : Fin ((K (F := F)).nCore 0)) (i : Fin ((K (F := F)).nSub 0)) : sProp 𝕄 := part d (at' c i) (TAB m d) (IDX m d) (OUT (TAB m d) (IDX m d))

instance goP_storable (d : Dev nD) (c : Fin ((K (F := F)).nCore 0)) (i : Fin ((K (F := F)).nSub 0)) :
    BI.Storable (upEmb : UEmb _ 𝕄) (goP m d c i) := part_storable ..
instance tdP_storable (d : Dev nD) (c : Fin ((K (F := F)).nCore 0)) (i : Fin ((K (F := F)).nSub 0)) :
    BI.Storable (upEmb : UEmb _ 𝕄) (tdP m d c i) := part_storable ..

/-- Each SparseCore takes its tiles' parts of the arrays, each tile its own, and brings them back, its blocks of the
    output at the gathered rows. -/
def P : (K (F := F)).Pay (nD := nD) (Val := Elt F) (Name := ℕ) (U := UU) where
  st := fun q d c => match q with
    | 0 => bigSep Finset.univ fun i : Fin ((K (F := F)).nSub 0) => goP m d c i
  dn := fun q d c => match q with
    | 0 => bigSep Finset.univ fun i : Fin ((K (F := F)).nSub 0) => tdP m d c i
  go := fun q d c i => match q with | 0 => goP m d c i
  td := fun q d c i => match q with | 0 => tdP m d c i
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => goP m d c i))
  dn q d c := match q with
    | 0 => (inferInstance : BI.Storable (upEmb : UEmb _ 𝕄)
        (bigSep Finset.univ fun i : Fin ((K (F := F)).nSub 0) => tdP m d c i))
  go q d c i := match q with
    | 0 => (inferInstance : BI.Storable (upEmb : UEmb _ 𝕄) (goP m d c i))
  td q d c i := match q with
    | 0 => (inferInstance : BI.Storable (upEmb : UEmb _ 𝕄) (tdP m d c i))

/-- The list's entries are numbers of rows of the table. -/
def PreOK : Prop := ∀ (d : Dev nD) (p : S1x278528.Idx), (IDX m d p).toNat < 622592

theorem defs₀_vector (c : Fin τ.nSC) (s : Fin τ.nSub) :
    defs₀ (F := F) (.scVector c s) 0 () = SparseCore.onTile hcore0 hsub0 (fun c s => prog (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (TAB m d) (IDX m d) hF (hpre d) (V1 m d o') O W hO).trans (wp_mono frame _ _ fun _ => obl_post)

theorem vecSplit : (K (F := F)).VecSplit' (P m) 0 := by
  intro d c
  have hst : (P m).st 0 d c = bigSep Finset.univ fun i : Fin ((K (F := F)).nSub 0) => goP m d c i := by unfold P; rfl
  have hgo : (fun i : Fin ((K (F := F)).nSub 0) => (P m).go 0 d c i) = fun i => goP m d c i := by unfold P; rfl
  have hdn : (P m).dn 0 d c = bigSep Finset.univ fun i : Fin ((K (F := F)).nSub 0) => tdP m d c i := by unfold P; rfl
  have htd : (fun i : Fin ((K (F := F)).nSub 0) => (P m).td 0 d c i) = fun i => tdP m d c i := by unfold P; rfl
  rw [hst, hgo, hdn, htd]
  generalize (bigSep Finset.univ fun i : Fin ((K (F := F)).nSub 0) => goP m d c i) = A
  generalize (bigSep Finset.univ fun i : Fin ((K (F := F)).nSub 0) => tdP m d c i) = B
  iintro H; imodintro
  isplitl [H]; · iexact H
  iintro H; iexact H

/-! ## The launch's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

theorem st0_eq (d : Dev nD) : (bigSep Finset.univ fun c : Fin ((K (F := F)).nCore 0) => (P m).st 0 d c)
    = iprop((tLoc d ↦{fullShare} TAB m d) ∗ (iLoc d ↦{fullShare} IDX m d) ∗ (oLoc d ↦{fullShare} V1 m d o')) :=
  (parts d (TAB m d) (IDX m d) (V1 m d o')).symm
theorem dn0_eq (d : Dev nD) : (bigSep Finset.univ fun c : Fin ((K (F := F)).nCore 0) => (P m).dn 0 d c)
    = iprop((tLoc d ↦{fullShare} TAB m d) ∗ (iLoc d ↦{fullShare} IDX m d) ∗ (oLoc d ↦{fullShare} OUT (TAB m d) (IDX m d))) :=
  (parts d (TAB m d) (IDX m d) (OUT (TAB m d) (IDX m d))).symm

/-- What the program leaves the claims: the arguments and the result. -/
abbrev FIN (d : Dev nD) : sProp 𝕄 := iprop(((d, x') ↦{fullShare} V3 m d x') ∗ ((d, y') ↦{fullShare} V3 m d y') ∗ ((d, r') ↦{fullShare} V3 m d r'))

theorem held_V1 (d : Dev nD) :
    (held (d.tc : Thread nD τ) (ucRefs τ sig) (StableHlo.after pre (V0 m d)) : sProp 𝕄)
      = iprop(((tLoc d ↦{fullShare} TAB m d) ∗ (iLoc d ↦{fullShare} IDX m d) ∗ (oLoc d ↦{fullShare} V1 m d o'))
          ∗ held (T d) (ucRefs τ sig \ S3) (V1 m d)) := held_call d (V1 m d)

theorem held_V3 (d : Dev nD) :
    (held (T d) (ucRefs τ sig) ((post (F := F)).result (V2 m d)) : sProp 𝕄) = iprop(FIN m d ∗ held (T d) (ucRefs τ sig \ F3) (V3 m d)) := held_ends d (V3 m d)

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (V0 m d) from unscopedBufs_held d (V0 m d),
    main_eq]
  iintro ⟨#Hctx, Hst, ⟨Hb, Hheld, Hts, -⟩, -⟩
  iapply (wp_seq (defs := (K (F := F)).defs (D (F := F))) 𝒱 none Set.univ d (ucRefs τ sig) _ pre pre_sub pre_fresh (V0 m d)) $$ [Hb Hheld]
  · isplitl [Hb] <;> iassumption
  iintro ⟨Hb, Hheld⟩
  ihave Hh := (Entails.of_eq (held_V1 m d)) $$ Hheld
  icases Hh with ⟨Hcall, Hrest⟩
  irw [wp_bind]
  iapply ((K (F := F)).wp_run (D (F := F)) 𝒱 (EH := EH) (P := P m) κ d 0) $$ [Hst Hcall Hb Hrest Hts]
  isplitr; · iexact Hctx
  isplitl [Hst]; · iexact Hst
  isplitl [Hcall]
  · irw [st0_eq]; iexact Hcall
  iintro ⟨Hst, Hdn⟩
  ihave Hdn' := (Entails.of_eq (dn0_eq m d)) $$ Hdn
  iapply (wp_hlo_within 𝒱 (SparseCore.T d) none Set.univ (op := post) (S := ucRefs τ sig) post_sub (V := V2 m d)) $$ [Hb Hdn' Hrest]
  · isplitl [Hb]; · iexact Hb
    iapply (Entails.of_eq (held_call d (V2 m d)).symm)
    irw [V2_t, V2_i, V2_o, V2_rest]
    isplitl [Hdn'] <;> iassumption
  iintro ⟨Hb, Hheld⟩
  ihave Hh := (Entails.of_eq (held_V3 m d)) $$ Hheld
  icases Hh with ⟨Hends, -⟩
  irw [wp_ret]; imodintro
  isplitl [Hst]; · iexact Hst
  isplitl [Hends]; · iexact Hends
  isplitl [Hb] <;> iassumption

/-- What the claims read of a device's final state. -/
def fq (d : Dev nD) (s' : Phys nD τ sig (Elt F)) : Prop :=
  s'.mem.mem (d, x') = V3 m d x' ∧ s'.mem.mem (d, y') = V3 m d y' ∧ s'.mem.mem (d, r') = V3 m d r'

set_option maxRecDepth 16384 in
theorem hfin (d : Dev nD) (s' : Phys nD τ sig (Elt F)) : iprop(FIN m d ∗ SI s') ⊢ (⌜fq m d s'⌝ : sProp 𝕄) := by
  iintro ⟨⟨Hx, Hy, Hr⟩, HSI⟩
  ihave H := (persistent_entails_right (SI_pointsTo_agree (st := s') (ℓ := (d, x')) (I := Finset.univ) (q := fullShare) (f := V3 m d x'))) $$ [HSI Hx]
  · isplitl [HSI] <;> iassumption
  icases H with ⟨%h1, HSI, -⟩
  ihave H := (persistent_entails_right (SI_pointsTo_agree (st := s') (ℓ := (d, y')) (I := Finset.univ) (q := fullShare) (f := V3 m d y'))) $$ [HSI Hy]
  · isplitl [HSI] <;> iassumption
  icases H with ⟨%h2, HSI, -⟩
  ihave H := (SI_pointsTo_agree (st := s') (ℓ := (d, r')) (I := Finset.univ) (q := fullShare) (f := V3 m d r')) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- At the end the arguments and the result are at `V3`, and every semaphore is at zero. -/
def QC : PUnit × MemSt nD τ sig (Elt F) → Prop := fun r =>
  (∀ d : Dev nD, r.2.mem (d, x') = V3 m d x' ∧ r.2.mem (d, y') = V3 m d y' ∧ r.2.mem (d, r') = V3 m d r') ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Gather.Value.lean ====
/-
  What the program's host operations and its call leave, read entry by entry: the rows of `y_sorted` named by `dest`.
-/
module

public import proofs.«01_k».proof.Proof.Gather.Host
public import Idealize.ShloMosaic.Lib.StableHlo.Run

@[expose] public section

noncomputable section

namespace Cert.Proof.Gather

open Cert.KernelIdeal Cert.KernelIdeal.Gen
open Idealize.ShloMosaic

variable {F : FTy → Type} [FloatOps F]

/-! ## The mathematics: rows taken by their numbers -/

/-- Lane `l` of row `n` of chunk `c`. -/
def xEnt (c : Fin 4) (n : Fin 155648) (l : Fin 128) : S4x155648x128.Idx := fun | 0 => c | 1 => n | 2 => l
/-- Token-slot `s`. -/
def yEnt (s : Fin 69632) : S69632.Idx := fun | 0 => s

/-- `dest` names rows of `y_sorted` only. -/
def InRows (y : IVec S69632 32) : Prop := ∀ s : Fin 69632, (y (yEnt s)).toNat < 155648

/-- The row a word names. -/
def rowOf (v : BitVec 32) : Fin 155648 := ⟨v.toNat % 155648, Nat.mod_lt _ (by decide)⟩

/-- Lane `l` of slot `s` of chunk `c` is lane `l` of row `y s` of that chunk of `x`. -/
def TAKE (x : IVec S4x155648x128 32) (y : IVec S69632 32) : IVec S4x69632x128 32 :=
  fun j => x (xEnt (j 0) (rowOf (y (yEnt (j 1)))) (j 2))

/-! ## The call's operands -/

variable (m : (ℓ : Loc nD τ sig) → Buf (Elt F) ℓ) (d : Dev nD)

/-- The two arguments, as integer arrays. -/
def X : IVec S4x155648x128 32 := m (d, x')
def Y : IVec S69632 32 := m (d, y')

/-- The table is `y_sorted`, chunk after chunk. -/
theorem TAB_eq : TAB m d = shapeCast S622592x128 (X m d) shapeCasts_S4x155648x128_S622592x128 := by
  unfold TAB V1
  after_results <;> rfl

/-- The list's entries before they are laid in one row: the chunk's first row, plus the slot's. -/
def ENT (y : IVec S69632 32) : IVec S4x69632 32 :=
  addi (broadcastInDim S4x69632 ![0, 1] bcast_S4x1_S4x69632_0_1 (broadcastInDim S4x1 ![0] bcast_S4_S4x1_0
      (muli (iotaInDim S4 32 0) (broadcastInDim S4 ![] bcast_S_S4 (constantI S_ 32 155648#32)))))
    (broadcastInDim S4x69632 ![0, 1] bcast_S1x69632_S4x69632_0_1 (broadcastInDim S1x69632 ![1] bcast_S69632_S1x69632_1 y))

theorem IDX_eq : IDX m d = shapeCast S1x278528 (shapeCast S278528 (ENT (Y m d)) shapeCasts_S4x69632_S278528) shapeCasts_S278528_S1x278528 := by
  unfold IDX V1 ENT
  after_results <;> rfl

/-- The result is the call's output, chunk by chunk. -/
theorem V3_r : V3 m d r' = shapeCast S4x69632x128 (OUT (TAB m d) (IDX m d) : IVec S278528x128 32) shapeCasts_S278528x128_S4x69632x128 := by
  unfold V3 V2
  rw [StableHlo.reshape_result, Function.update_self]
  rfl

theorem V3_x : V3 m d x' = m (d, x') := by
  unfold V3 V2
  rw [StableHlo.reshape_result_ne _ _ _ _ _ _ _ (by decide), Function.update_of_ne (by decide)]
  unfold V1
  after_results <;> rfl

theorem V3_y : V3 m d y' = m (d, y') := by
  unfold V3 V2
  rw [StableHlo.reshape_result_ne _ _ _ _ _ _ _ (by decide), Function.update_of_ne (by decide)]
  unfold V1
  after_results <;> rfl

/-! ## Entry by entry -/

/-- Entry (c, s) of the list: row `y s` of chunk `c`, counted from the first chunk's first row. -/
theorem ENT_val (y : IVec S69632 32) (hy : InRows y) (q : S4x69632.Idx) : (ENT y q).toNat = (q 0).val * 155648 + (y (yEnt (q 1))).toNat := by
  have h : ENT y q = BitVec.ofNat 32 (q 0).val * 155648#32 + y (yEnt (q 1)) := by
    refine congrArg₂ (· + ·) rfl (congrArg y (funext fun a => ?_))
    match a with
    | 0 => rfl
  have h0 : (q 0).val < 4 := (q 0).isLt
  have h1 := hy (q 1)
  rw [h]
  simp only [BitVec.toNat_add, BitVec.toNat_mul, BitVec.toNat_ofNat]
  omega

/-- The list's entry at slot `s` of chunk `c`. -/
theorem IDX_val (hy : InRows (Y m d)) (p : S1x278528.Idx) :
    (IDX m d p).toNat = (p 1).val / 69632 * 155648 + (Y m d (yEnt ⟨(p 1).val % 69632, Nat.mod_lt _ (by decide)⟩)).toNat := by
  have hp : (p 1).val < 278528 := (p 1).isLt
  have h0 : (p 0).val = 0 := Nat.lt_one_iff.mp (p 0).isLt
  let q : S4x69632.Idx := fun | 0 => ⟨(p 1).val / 69632, by show _ < 4; omega⟩ | 1 => ⟨(p 1).val % 69632, Nat.mod_lt _ (by decide)⟩
  have hq : Shape.reshapeEquiv shapeCasts_S4x69632_S278528 (Shape.reshapeEquiv shapeCasts_S278528_S1x278528 p) = q := by
    rw [Shape.reshapeEquiv_reshapeEquiv]
    refine Shape.reshapeEquiv_eq_of_rowMajor _ ?_
    rw [Shape.rowMajor_val_two, Shape.rowMajor_val_two]
    show (p 1).val / 69632 * 69632 + (p 1).val % 69632 = (p 0).val * 278528 + (p 1).val
    omega
  rw [IDX_eq]
  show (ENT (Y m d) (Shape.reshapeEquiv shapeCasts_S4x69632_S278528 (Shape.reshapeEquiv shapeCasts_S278528_S1x278528 p))).toNat = _
  rw [hq, ENT_val _ hy]
  rfl

/-- Every entry of the list is a row of the table. -/
theorem IDX_lt (hy : InRows (Y m d)) (p : S1x278528.Idx) : (IDX m d p).toNat < 622592 := by
  have hp : (p 1).val < 278528 := (p 1).isLt
  have := hy ⟨(p 1).val % 69632, Nat.mod_lt _ (by decide)⟩
  rw [IDX_val m d hy]
  omega

/-- Row `c · 155648 + n` of the table is row `n` of chunk `c`. -/
theorem TAB_at (c : Fin 4) (n : Fin 155648) (l : Fin 128) : TAB m d (tRow (c.val * 155648 + n.val) l) = X m d (xEnt c n l) := by
  rw [TAB_eq]
  refine congrArg (X m d) (Shape.reshapeEquiv_eq_of_rowMajor _ ?_)
  rw [Shape.rowMajor_val_three, Shape.rowMajor_val_two]
  show (c.val * 155648 + n.val) * 128 + l.val = (c.val * 155648 + n.val) % 622592 * 128 + l.val
  have := c.isLt
  have := n.isLt
  rw [Nat.mod_eq_of_lt (by omega)]

/-- The program's result: the rows of `y_sorted` that `dest` names. -/
theorem V3_take (hy : InRows (Y m d)) : V3 m d r' = TAKE (X m d) (Y m d) := by
  rw [V3_r]
  funext j
  have h0 : (j 0).val < 4 := (j 0).isLt
  have h1 : (j 1).val < 69632 := (j 1).isLt
  let q : S278528x128.Idx := fun | 0 => ⟨(j 0).val * 69632 + (j 1).val, by show _ < 278528; omega⟩ | 1 => j 2
  have hq : Shape.reshapeEquiv shapeCasts_S278528x128_S4x69632x128 j = q := by
    refine Shape.reshapeEquiv_eq_of_rowMajor _ ?_
    rw [Shape.rowMajor_val_two, Shape.rowMajor_val_three]
    rfl
  show OUT (TAB m d) (IDX m d) (Shape.reshapeEquiv shapeCasts_S278528x128_S4x69632x128 j) = _
  rw [hq]
  show TAB m d (tRow (IDX m d (iEnt (q 0))).toNat (q 1)) = _
  have e0 : ((j 0).val * 69632 + (j 1).val) / 69632 = (j 0).val := by omega
  have e1 : (⟨((j 0).val * 69632 + (j 1).val) % 69632, Nat.mod_lt _ (by decide)⟩ : Fin 69632) = j 1 := Fin.ext (by show _ % _ = _; omega)
  have e : (IDX m d (iEnt (q 0))).toNat = (j 0).val * 155648 + (rowOf (Y m d (yEnt (j 1)))).val := by
    rw [IDX_val m d hy]
    show ((j 0).val * 69632 + (j 1).val) / 69632 * 155648 + (Y m d (yEnt ⟨((j 0).val * 69632 + (j 1).val) % 69632, Nat.mod_lt _ (by decide)⟩)).toNat = _
    rw [e0, e1]
    exact congrArg _ (Nat.mod_eq_of_lt (hy (j 1))).symm
  rw [e]
  exact TAB_at m d (j 0) _ (j 2)

end Cert.Proof.Gather

end
-- ==== Proof.Gather.Ref.lean ====
/-
  What the reference computes: the same rows, when `dest` names rows of `y_sorted` only.
-/
module

public import proofs.«01_k».proof.Proof.Gather.Value
public import proofs.«01_k».proof.Proof.Gen.ReferenceIdeal.Run

@[expose] public section

noncomputable section

namespace Cert.Proof.Gather

open Cert.ReferenceIdeal Cert.ReferenceIdeal.Gen
open Idealize.ShloMosaic

/-! ## The reference's term, piece by piece -/

/-- The row numbers, in a column; a negative one counts from the end. -/
def COL (y : IVec S69632 32) : IVec S69632x1 32 :=
  broadcastInDim S69632x1 ![0] bcast_S69632_S69632x1_0
    (select (cmpi .slt y (broadcastInDim S69632 ![] bcast_S_S69632 (constantI S_ 32 0#32)))
      (addi y (broadcastInDim S69632 ![] bcast_S_S69632 (constantI S_ 32 155648#32))) y)

/-- Which of them are rows. -/
def OKS (y : IVec S69632 32) : IVec S69632 1 :=
  Host.reduce IntOp.andi
    (andi (cmpi .sge (COL y) (broadcastInDim S69632x1 ![] bcast_S_S69632x1 (constantI S_ 32 0#32)))
      (cmpi .sle (COL y) (broadcastInDim S69632x1 ![0, 1] bcast_S1x1_S69632x1_0_1 (broadcastInDim S1x1 ![1] bcast_S1_S1x1_1 (constantI S1 32 155647#32)))))
    (constantI S_ 1 1#1) reducesTo_S69632x1_S69632_d1 h_S_

/-- The rows, and a fill where there is none. -/
def REF (x : IVec S4x155648x128 32) (y : IVec S69632 32) : IVec S4x69632x128 32 :=
  select (broadcastInDim S4x69632x128 ![1] bcast_S69632_S4x69632x128_1 (OKS y))
    (Host.gather gather_S4x155648x128_S69632x1_S4x69632x128_02_1_n_n_1_1_41128 x (COL y))
    (broadcastInDim S4x69632x128 ![] bcast_S_S4x69632x128 (constantI S_ 32 2147483648#32))

/-! ## Its value -/

variable (x : IVec S4x155648x128 32) (y : IVec S69632 32)

/-- A word below 155648 is not negative, and passes the two checks. -/
theorem row_word (v : BitVec 32) (h : v.toNat < 155648) :
    IntOp.cmpi .slt v 0#32 = 0#1 ∧ IntOp.andi (IntOp.cmpi .sge v 0#32) (IntOp.cmpi .sle v 155647#32) = 1#1 ∧ v.toInt.toNat = v.toNat := by
  have e : v.toInt = (v.toNat : Int) := by rw [BitVec.toInt_eq_toNat_cond]; omega
  have e0 : (0#32 : BitVec 32).toInt = 0 := rfl
  have e1 : (155647#32 : BitVec 32).toInt = 155647 := rfl
  have a : v.slt 0#32 = false := by rw [BitVec.slt_eq_decide, e, e0]; exact decide_eq_false (by omega)
  have b : (0#32 : BitVec 32).sle v = true := by rw [BitVec.sle_eq_decide, e, e0]; exact decide_eq_true (by omega)
  have c : v.sle 155647#32 = true := by rw [BitVec.sle_eq_decide, e, e1]; exact decide_eq_true (by omega)
  refine ⟨?_, ?_, by rw [e]; rfl⟩
  · show BitVec.ofBool (v.slt 0#32) = 0#1
    rw [a]; rfl
  · show IntOp.andi (BitVec.ofBool ((0#32 : BitVec 32).sle v)) (BitVec.ofBool (v.sle 155647#32)) = 1#1
    rw [b, c]; rfl

/-- The conjunction of bits that are all one is one. -/
theorem reduce_ones {s t u : Shape} {axes : List (Fin s.rank)} (v : IVec s 1) (i : IVec u 1) (h : s.ReducesTo axes t) (hu : 0 < u.numel)
    (hv : ∀ p, v p = 1#1) (hi : ∀ p, i p = 1#1) (j : t.Idx) : Host.reduce IntOp.andi v i h hu j = 1#1 := by
  obtain rfl : v = fun _ => 1#1 := funext hv
  obtain rfl : i = fun _ => 1#1 := funext hi
  exact List.foldl_fixed' (f := fun r _ => IntOp.andi r 1#1) (a := 1#1) (fun _ => rfl) _

/-- A selection under such bits, laid out over another shape, is its first array. -/
theorem select_ones {α : Type} {s t : Shape} (dims : Fin s.rank → Fin t.rank) (h : s.BroadcastsInDim t dims) (v : IVec s 1)
    (hv : ∀ p, v p = 1#1) (a b : t.Idx → α) (j : t.Idx) : select (broadcastInDim t dims h v) a b j = a j := by
  obtain rfl : v = fun _ => 1#1 := funext hv
  rfl

/-- The gather's dimension numbers: whole rows of axis 1, of every chunk and lane. -/
abbrev GD := gather_S4x155648x128_S69632x1_S4x69632x128_02_1_n_n_1_1_41128

/-- A kept axis of the operand reads the result's coordinate there. -/
theorem off_at (j : S4x69632x128.Idx) (a : Fin 3) (b : Fin 3) (ha : a ∈ GD.sKept)
    (hb : GD.offsetDims[GD.sKept.idxOf a]'(by rw [GD.offset_length]; exact List.idxOf_lt_length_iff.2 ha) = b) :
    GD.offCoord j a = (j b).val := by
  subst hb
  exact dif_pos ha

variable (hy : InRows y)
include hy

/-- The column holds `dest` as it is. -/
theorem COL_at (q : S69632x1.Idx) (s : Fin 69632) (hs : q 0 = s) : COL y q = y (yEnt s) := by
  subst hs
  have h : COL y q = Scalar.select (IntOp.cmpi .slt (y (yEnt (q 0))) 0#32) (IntOp.addi (y (yEnt (q 0))) 155648#32) (y (yEnt (q 0))) :=
    congrArg (fun e => Scalar.select (IntOp.cmpi .slt (y e) 0#32) (IntOp.addi (y e) 155648#32) (y e)) (funext fun a => match a with | 0 => rfl)
  refine h.trans ?_
  have hv := hy (q 0)
  generalize y (yEnt (q 0)) = v at hv ⊢
  rw [(row_word v hv).1]
  rfl

/-- Every number is a row's. -/
theorem OKS_at (s : S69632.Idx) : OKS y s = 1#1 :=
  reduce_ones _ _ _ _ (fun q => by
    show IntOp.andi (IntOp.cmpi .sge (COL y q) 0#32) (IntOp.cmpi .sle (COL y q) 155647#32) = 1#1
    rw [COL_at y hy q _ rfl]
    exact (row_word _ (hy _)).2.1) (fun _ => rfl) s

/-- The gather reads row `y s`. -/
theorem gather_at (j : S4x69632x128.Idx) : Host.gather GD x (COL y) j = TAKE x y j := by
  refine congrArg x (funext fun a => Fin.ext ?_)
  show GD.start j (COL y) a + GD.batchCoord j a + GD.offCoord j a = _
  rw [GD.batchCoord_eq_zero j a List.not_mem_nil, Nat.add_zero]
  match a with
  | 0 => exact (congrArg₂ (· + ·) (dif_neg (by decide)) (off_at j 0 0 (by decide) (by decide))).trans (Nat.zero_add _)
  | 1 =>
    rw [GD.offCoord_eq_zero j 1 (by decide), Nat.add_zero]
    refine (dif_pos (by decide)).trans ?_
    rw [COL_at y hy _ (j 1) rfl]
    show min (y (yEnt (j 1))).toInt.toNat 155647 = (y (yEnt (j 1))).toNat % 155648
    have hv := hy (j 1)
    generalize y (yEnt (j 1)) = v at hv ⊢
    rw [(row_word v hv).2.2]
    omega
  | 2 => exact (congrArg₂ (· + ·) (dif_neg (by decide)) (off_at j 2 2 (by decide) (by decide))).trans (Nat.zero_add _)

/-- The reference takes the rows. -/
theorem REF_take : REF x y = TAKE x y := by
  funext j
  exact (select_ones _ _ _ (OKS_at y hy) _ _ j).trans (gather_at x y hy j)

end Cert.Proof.Gather

end
-- ==== Proof.Gather.Pre.lean ====
/-
  The precondition, read as numbers; and the run with its result named.
-/
module

public import proofs.«01_k».proof.Proof.Gather.Launch
public import proofs.«01_k».proof.Proof.Gather.Ref
public import proofs.«01_k».proof.Proof.Gen.Pre_dest_in_rows

@[expose] public section

noncomputable section

namespace Cert.Proof.Gather

open Cert.KernelIdeal Cert.KernelIdeal.Gen
open Idealize.ShloMosaic Idealize.SL.Sem

variable {F : FTy → Type} [FloatOps F]

/-- A word from 0 up to 155648, compared as signed numbers, is below 155648 as it stands. -/
theorem lt_of_checks (v : BitVec 32) (e : IntOp.andi (IntOp.cmpi .sge v 0#32) (IntOp.cmpi .slt v 155648#32) = 1#1) : v.toNat < 155648 := by
  change IntOp.andi (BitVec.ofBool ((0#32 : BitVec 32).sle v)) (BitVec.ofBool (v.slt 155648#32)) = 1#1 at e
  have e1 : (155648#32 : BitVec 32).toInt = 155648 := rfl
  have e0 : (0#32 : BitVec 32).toInt = 0 := rfl
  cases a : (0#32 : BitVec 32).sle v <;> cases b : v.slt 155648#32 <;> rw [a, b] at e <;> try exact absurd e (by decide)
  rw [BitVec.sle_eq_decide, e0, decide_eq_true_eq] at a
  rw [BitVec.slt_eq_decide, e1, decide_eq_true_eq] at b
  have hv := v.isLt
  rw [BitVec.toInt_eq_toNat_cond] at a b
  omega

/-- The precondition says that `dest` names rows of `y_sorted` only. -/
theorem inRows_of_pre (x : IVec S4x155648x128 32) (y : IVec S69632 32) (h : Cert.Pre_dest_in_rows.fn (F := F) x y = fun _ => 1#1) : InRows y :=
  fun s => lt_of_checks _ (congrFun h (yEnt s))

variable (m : (ℓ : Loc nD τ sig) → Buf (Elt F) ℓ) (ρ : Dev nD → PrngReg)

/-- Where `dest` names rows only: every weakly fair execution ends with the rows taken, the arguments as they were, and
    every counter at zero. -/
theorem run_take [∀ e, Nonempty (Elt F e)] (hy : ∀ d, InRows (Y m d)) :
    θ_run (Cert.KernelIdeal.defs (F := F)) (Cert.KernelIdeal.threads (F := F)) ⟨m, fun _ => 0, ρ⟩
      (fun r => (∀ d, r.2.mem (d, r') = TAKE (X m d) (Y m d) ∧ r.2.mem (d, x') = m (d, x') ∧ r.2.mem (d, y') = m (d, y')) ∧ r.2.sem = fun _ => 0) :=
  (θ_run Cert.KernelIdeal.defs _ _).mono
    (fun _ h => ⟨fun d => ⟨(h.1 d).2.2.trans (V3_take m d (hy d)), (h.1 d).1.trans (V3_x m d), (h.1 d).2.1.trans (V3_y m d)⟩, h.2⟩)
    (run_main m ρ fun d p => IDX_lt m d (hy d) p)

end Cert.Proof.Gather

end
-- ==== Proof.InProj.Terms.lean ====
/-
  The input projection, entry by entry over the extended reals: the modulated norm of one token's row, its
  product with one column of the weights, and the order in which the columns are laid out (the gates' 2048
  columns first). Both programs are read to these terms, the blocked kernel in `Array.lean` and the plain
  reference in `Ref.lean`.
-/
module

public import Idealize.ShloMosaic.Lib.Pointwise

@[expose] public section

noncomputable section

namespace Cert.InProjTerms

open Idealize.ShloMosaic

/-- Element `k` of a token's row after the norm and the modulation: the row over the root of its mean square
    (plus the small constant), scaled by `g` and by `1 + sc`, shifted by `sh`. -/
def normed (h g sc sh : Fin 1024 → EReal) (k : Fin 1024) : EReal :=
  h k * Ideal.rsqrt (Ideal.div (∑ x, h x * h x) (Ideal.ofBits FTy.f32 1149239296#32)
    + Ideal.ofBits FTy.f32 897988541#32) * g k * (1 + sc k) + sh k

/-- The normed row against one column of the weights. -/
def projected (h g sc sh : Fin 1024 → EReal) (w : Fin 1024 → EReal) : EReal :=
  ∑ k, normed h g sc sh k * w k

/-- The column of the weights that column `j` of the result is computed from: the last 2048 columns (the gates)
    come first, the other 3328 follow in their order. -/
def column (j : Fin 5376) : Fin 5376 :=
  if h : j.val < 2048 then ⟨j.val + 3328, by omega⟩ else ⟨j.val - 2048, by omega⟩

/-- A column among the first 2048 is a gate's. -/
theorem column_gate (j : Fin 5376) (h : j.val < 2048) : (column j).val = j.val + 3328 := by
  unfold column; rw [dif_pos h]

/-- A later column lies 2048 places further left in the weights. -/
theorem column_rest (j : Fin 5376) (h : ¬ j.val < 2048) : (column j).val = j.val - 2048 := by
  unfold column; rw [dif_neg h]

/-- The result at token `i` of batch member `b`, column `j`, from the whole arrays. -/
def entry (h : (⟨3, ![16, 4096, 1024]⟩ : Shape).Idx → EReal) (g : (⟨1, ![1024]⟩ : Shape).Idx → EReal)
    (sc sh : (⟨3, ![16, 1, 1024]⟩ : Shape).Idx → EReal) (w : (⟨2, ![1024, 5376]⟩ : Shape).Idx → EReal)
    (b : Fin 16) (i : Fin 4096) (j : Fin 5376) : EReal :=
  projected (fun k => h (ix3 b i k)) (fun k => g (ix1 k)) (fun k => sc (ix3 b 0 k)) (fun k => sh (ix3 b 0 k))
    fun k => w (ix2 k (column j))

end Cert.InProjTerms

end
-- ==== Proof.InProj.Block.lean ====
/-
  What the input projection's body leaves in its output block: seven column chunks of 768, each the normed rows
  times a chunk of the weights, which together are one product of the normed rows with all 5376 columns.
-/
module

public import proofs.«01_k».proof.Proof.InProj.Terms
public import proofs.«01_k».proof.Proof.Gen.InProjIdeal.Value

@[expose] public section

noncomputable section

namespace Cert.InProjIdeal.Block

open Cert.InProjIdeal Cert.InProjIdeal.Gen Cert.InProjTerms Idealize.ShloMosaic Idealize.ShloMosaic.TcCoe

set_option maxRecDepth 16384 in
/-- The body's normed rows at an entry, from the blocks it loads. -/
theorem pay3_apply (h : Vec Ideal S1x512x1024 .f32) (g : Vec Ideal S1x1024 .f32) (sc sh : Vec Ideal S1x1x1024 .f32)
    (i : Fin 512) (k : Fin 1024) :
    k0_pay3 h g sc sh (ix2 i k)
      = normed (fun l => h (ix3 0 i l)) (fun l => g (ix2 0 l)) (fun l => sc (ix3 0 0 l)) (fun l => sh (ix3 0 0 l)) k := by
  pointwise [k0_pay3, normed]

set_option maxRecDepth 16384 in
/-- One chunk at an entry: the row of the left operand times the chunk's column. -/
theorem pay2_apply (y : FVec Ideal S512x1024 .bf16) (w : Vec Ideal S1024x768 .bf16) (i : Fin 512) (j : Fin 768) :
    k0_pay2 y w (ix3 0 i j) = ∑ k, y (ix2 i k) * w (ix2 k j) := by
  pointwise [k0_pay2]

/-- A whole block read through the rectangle that is all of it. -/
theorem ld_whole3 (x : Vec Ideal S1x512x1024 .f32) : View.ld x r0_0 = x :=
  View.ld_unit_zero (S := S1x512x1024) (funext fun a => by fin_cases a <;> rfl) _ x

theorem ld_whole2 (x : Vec Ideal S1x1024 .f32) : View.ld x r0_1 = x :=
  View.ld_unit_zero (S := S1x1024) (funext fun a => by fin_cases a <;> rfl) _ x

theorem ld_whole1 (x : Vec Ideal S1x1x1024 .f32) : View.ld x r0_2 = x :=
  View.ld_unit_zero (S := S1x1x1024) (funext fun a => by fin_cases a <;> rfl) _ x

/-- The block as one product: every column, whichever chunk it is in. -/
def whole (h : Vec Ideal S1x512x1024 .f32) (g : Vec Ideal S1x1024 .f32) (sc sh : Vec Ideal S1x1x1024 .f32)
    (w : Vec Ideal S1024x5376 .bf16) (i : Fin 512) (j : Fin 5376) : EReal :=
  projected (fun l => h (ix3 0 i l)) (fun l => g (ix2 0 l)) (fun l => sc (ix3 0 0 l)) (fun l => sh (ix3 0 0 l))
    fun k => w (ix2 k j)

/-- The chunk that starts at column `o`, at its own column `j`, is column `o + j` of the one product. -/
theorem chunk_apply (h : Vec Ideal S1x512x1024 .f32) (g : Vec Ideal S1x1024 .f32) (sc sh : Vec Ideal S1x1x1024 .f32)
    (w : Vec Ideal S1024x5376 .bf16) (o : Nat) (ho : ∀ a, ![0, o] a + S1024x768.size a ≤ S1024x5376.size a)
    (hr : ∀ a, ![0, 0, o] a + S1x512x768.size a ≤ S1x512x5376.size a) (x : S1x512x768.Idx) :
    k0_pay2 (k0_pay3 h g sc sh) (View.ld w (Rect.unit (s := S1024x5376) ![0, o] S1024x768.size ho)) x
      = whole h g sc sh w ((Rect.unit (s := S1x512x5376) ![0, 0, o] S1x512x768.size hr).emb x 1)
          ((Rect.unit (s := S1x512x5376) ![0, 0, o] S1x512x768.size hr).emb x 2) := by
  idx_vars x
  obtain rfl : x0 = 0 := Subsingleton.elim _ _
  rw [pay2_apply]
  unfold whole projected
  refine Finset.sum_congr rfl fun k _ => ?_
  rw [pay3_apply]
  have h1 : (Rect.unit (s := S1x512x5376) ![0, 0, o] S1x512x768.size hr).emb (ix3 0 x1 x2) 1 = x1 := by
    apply Fin.ext
    show 0 + 1 * x1.val = x1.val
    omega
  rw [h1]
  refine congrArg (_ * ·) (congrArg w (funext fun a => Fin.ext ?_))
  match a with
  | ⟨0, _⟩ => show 0 + 1 * k.val = k.val; omega
  | ⟨1, _⟩ => rfl

/-- The one product, as contents of the output block. -/
def wholeBlock (h : Vec Ideal S1x512x1024 .f32) (g : Vec Ideal S1x1024 .f32) (sc sh : Vec Ideal S1x1x1024 .f32)
    (w : Vec Ideal S1024x5376 .bf16) : Vec Ideal S1x512x5376 .bf16 :=
  fun y => whole h g sc sh w (y 1) (y 2)

/-- Seven chunks that each agree with one function of the block are that function. -/
theorem tiles (G : Vec Ideal S1x512x5376 .bf16) (p0 p1 p2 p3 p4 p5 p6 : Vec Ideal S1x512x768 .bf16)
    (h0 : ∀ x, p0 x = G (r0_16.emb x)) (h1 : ∀ x, p1 x = G (r0_14.emb x)) (h2 : ∀ x, p2 x = G (r0_12.emb x))
    (h3 : ∀ x, p3 x = G (r0_10.emb x)) (h4 : ∀ x, p4 x = G (r0_8.emb x)) (h5 : ∀ x, p5 x = G (r0_6.emb x))
    (h6 : ∀ x, p6 x = G (r0_4.emb x)) :
    View.canon (Val := Elt Ideal) [⟨r0_16, p0⟩, ⟨r0_14, p1⟩, ⟨r0_12, p2⟩, ⟨r0_10, p3⟩, ⟨r0_8, p4⟩, ⟨r0_6, p5⟩, ⟨r0_4, p6⟩] = G := by
  funext y
  refine View.canon_apply_of_pieces G _ ?_ y (cover0_5 p0 p1 p2 p3 p4 p5 p6 y)
  intro p hp
  simp only [List.mem_cons, List.not_mem_nil, or_false] at hp
  rcases hp with rfl | rfl | rfl | rfl | rfl | rfl | rfl <;> assumption

/-- The body's output block is the one product. -/
theorem out_eq (h : Vec Ideal S1x512x1024 .f32) (g : Vec Ideal S1x1024 .f32) (sc sh : Vec Ideal S1x1x1024 .f32)
    (w : Vec Ideal S1024x5376 .bf16) : out0_5 h g sc sh w = wholeBlock h g sc sh w := by
  have hy : k0_pay10 h g sc sh w = k0_pay3 h g sc sh := by
    unfold k0_pay10; rw [ld_whole3, ld_whole2, ld_whole1, ld_whole1]
  unfold out0_5
  rw [hy, ld_whole3, ld_whole2, ld_whole1, ld_whole1]
  exact tiles _ _ _ _ _ _ _ _ (chunk_apply h g sc sh w 4608 _ _) (chunk_apply h g sc sh w 3840 _ _)
    (chunk_apply h g sc sh w 3072 _ _) (chunk_apply h g sc sh w 2304 _ _) (chunk_apply h g sc sh w 1536 _ _)
    (chunk_apply h g sc sh w 768 _ _) (chunk_apply h g sc sh w 0 _ _)

end Cert.InProjIdeal.Block

end
-- ==== Proof.InProj.Host.lean ====
/-
  The arrays the input projection's call is entered with: the weights with their columns in the call's order
  (the gates' first), and the norm's scale as one row.
-/
module

public import proofs.«01_k».proof.Proof.InProj.Terms
public import proofs.«01_k».proof.Proof.Gen.InProjIdeal.Value
public import Idealize.ShloMosaic.Lib.Claim

@[expose] public section

noncomputable section

namespace Cert.InProjIdeal.Host

open Cert.InProjIdeal Cert.InProjIdeal.Gen Cert.InProjTerms Idealize.ShloMosaic Idealize.ShloMosaic.TcCoe

variable (m : (ℓ : Loc nD τ sig) → Buf (Elt Ideal) ℓ)

set_option maxRecDepth 16384 in
/-- The scale's row holds the scale. -/
theorem scale_apply (c : Dev nD) (k : Fin 1024) :
    (V m c main_v12 : S1x1024.Idx → EReal) (ix2 0 k) = m ((c : Thread nD τ).loc main_arg1) (ix1 k) := by
  entry_read
  pointwise

/-- The weights the call reads, as the host operations lay them out. -/
def laidOut (w : S1024x5376.Idx → EReal) : S1024x5376.Idx → EReal :=
  concatenate S1024x5376 1
    [⟨S1024x2048, extractStridedSlice S1024x2048 ![0, 3328] w slices_S1024x5376_S1024x2048_0_3328⟩,
     ⟨S1024x0, extractStridedSlice S1024x0 ![0, 5376] w slices_S1024x5376_S1024x0_0_5376⟩,
     ⟨S1024x512, extractStridedSlice S1024x512 ![0, 0] w slices_S1024x5376_S1024x512_0_0⟩,
     ⟨S1024x512, extractStridedSlice S1024x512 ![0, 512] w slices_S1024x5376_S1024x512_0_512⟩,
     ⟨S1024x512, extractStridedSlice S1024x512 ![0, 1024] w slices_S1024x5376_S1024x512_0_1024⟩,
     ⟨S1024x512, extractStridedSlice S1024x512 ![0, 1536] w slices_S1024x5376_S1024x512_0_1536⟩,
     ⟨S1024x512, extractStridedSlice S1024x512 ![0, 2048] w slices_S1024x5376_S1024x512_0_2048⟩,
     ⟨S1024x512, extractStridedSlice S1024x512 ![0, 2560] w slices_S1024x5376_S1024x512_0_2560⟩,
     ⟨S1024x128, extractStridedSlice S1024x128 ![0, 3072] w slices_S1024x5376_S1024x128_0_3072⟩,
     ⟨S1024x128, extractStridedSlice S1024x128 ![0, 3200] w slices_S1024x5376_S1024x128_0_3200⟩]
    concatenates_S1024x2048_S1024x0_S1024x512_S1024x512_S1024x512_S1024x512_S1024x512_S1024x512_S1024x128_S1024x128_S1024x5376_d1

set_option maxHeartbeats 2000000 in
set_option maxRecDepth 65536 in
/-- The call reads the weights so laid out. -/
theorem weights_eq (c : Dev nD) :
    (V m c main_v11 : S1024x5376.Idx → EReal) = laidOut (m ((c : Thread nD τ).loc main_arg4)) := by
  show StableHlo.after hostOps0 (fun b => m (c, b)) (Proc.devRef .tc main_v11) = _
  after_results
  rfl

set_option maxHeartbeats 2000000 in
set_option maxRecDepth 16384 in
/-- Column `j` of the weights so laid out is column `column j` of the weights given. -/
theorem laidOut_apply (w : S1024x5376.Idx → EReal) (k : Fin 1024) (j : Fin 5376) :
    laidOut w (ix2 k j) = w (ix2 k (column j)) := by
  unfold laidOut
  pointwise
  have hc := column_gate j
  have hr := column_rest j
  have hj := j.isLt
  split_ifs <;> refine congrArg w (congrArg (ix2 k) (Fin.ext ?_)) <;> show _ = (column j).val <;> dsimp only <;> omega

end Cert.InProjIdeal.Host

end
-- ==== Proof.InProj.Array.lean ====
/-
  The array the input projection's call leaves: 16 × 8 blocks of 512 rows, each block the one product of its
  normed rows with the weights, together the whole result.
-/
module

public import proofs.«01_k».proof.Proof.InProj.Block
public import proofs.«01_k».proof.Proof.InProj.Host

@[expose] public section

noncomputable section

namespace Cert.InProjIdeal.Array

open Cert.InProjIdeal Cert.InProjIdeal.Gen Cert.InProjTerms Idealize.ShloMosaic Idealize.ShloMosaic.TcCoe Idealize.SL.Sem
open Cert.InProjIdeal.Block Cert.InProjIdeal.Host

variable (m : (ℓ : Loc nD τ sig) → Buf (Elt Ideal) ℓ) (ρ : Dev nD → PrngReg)

/-- The result array, entry by entry, from the argument arrays. -/
def result (c : Dev nD) : S16x4096x5376.Idx → EReal := fun i =>
  entry (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- Where each window stands at a point: the tokens' and the result's at the same block, the modulation's at the
    block's batch member, the scale's and the weights' at the start. -/
theorem places : ∀ t : Fin grid0.N,
    (win0_0.index t 0 = win0_5.index t 0 ∧ win0_0.index t 1 = win0_5.index t 1 ∧ win0_0.index t 2 = 0)
    ∧ (win0_1.index t 0 = 0 ∧ win0_1.index t 1 = 0)
    ∧ (win0_2.index t 0 = win0_5.index t 0 ∧ win0_2.index t 1 = 0 ∧ win0_2.index t 2 = 0)
    ∧ (win0_3.index t 0 = win0_5.index t 0 ∧ win0_3.index t 1 = 0 ∧ win0_3.index t 2 = 0)
    ∧ (win0_4.index t 0 = 0 ∧ win0_4.index t 1 = 0)
    ∧ (win0_5.index t 0 < 16 ∧ win0_5.index t 1 < 8 ∧ win0_5.index t 2 = 0) := by
  decide +kernel

/-- The block at batch member `b`, row block `r` is point `8 b + r`'s. -/
theorem place_of : ∀ (b : Fin 16) (r : Fin 8), ∃ t : Fin grid0.N, win0_5.index t 0 = b.val ∧ win0_5.index t 1 = r.val := by
  decide +kernel

/-- The batch member of point `t`'s block. -/
def member (t : Fin grid0.N) : Fin 16 := ⟨win0_5.index t 0, (places t).2.2.2.2.2.1⟩

/-- The token of row `i` of point `t`'s block. -/
def token (t : Fin grid0.N) (i : Fin 512) : Fin 4096 :=
  ⟨win0_5.index t 1 * 512 + i.val, by have := (places t).2.2.2.2.2.2.1; have := i.isLt; omega⟩

/-- The block of tokens at point `t`. -/
theorem tokens_apply (c : Dev nD) (t : Fin cfg0.N) (i : Fin 512) (k : Fin 1024) :
    (iblk m c 0 t : Vec Ideal S1x512x1024 .f32) (ix3 0 i k)
      = m ((c : Thread nD τ).loc main_arg0) (ix3 (member t) (token t i) k) := by
  unfold iblk
  rw [View.read_apply]
  refine Eq.trans ?_ (congrFun (V_main_arg0 m c) (ix3 (member t) (token t i) k))
  refine congrArg (V m c main_arg0) (funext fun a => Fin.ext ?_)
  obtain ⟨⟨h0, h1, h2⟩, -⟩ := places t
  match a with
  | ⟨0, _⟩ => show win0_0.index t 0 * 1 + 1 * 0 = win0_5.index t 0; rw [h0]; omega
  | ⟨1, _⟩ => show win0_0.index t 1 * 512 + 1 * i.val = win0_5.index t 1 * 512 + i.val; rw [h1]; omega
  | ⟨2, _⟩ => show win0_0.index t 2 * 1024 + 1 * k.val = k.val; rw [h2]; omega

/-- The norm's scale at point `t`. -/
theorem scales_apply (c : Dev nD) (t : Fin cfg0.N) (k : Fin 1024) :
    (iblk m c 1 t : Vec Ideal S1x1024 .f32) (ix2 0 k) = m ((c : Thread nD τ).loc main_arg1) (ix1 k) := by
  refine Eq.trans ?_ (scale_apply m c k)
  unfold iblk
  rw [View.read_apply]
  refine congrArg (V m c main_v12) (funext fun a => Fin.ext ?_)
  obtain ⟨-, ⟨h0, h1⟩, -⟩ := places t
  match a with
  | ⟨0, _⟩ => show win0_1.index t 0 * 1 + 1 * 0 = 0; rw [h0]
  | ⟨1, _⟩ => show win0_1.index t 1 * 1024 + 1 * k.val = k.val; rw [h1]; omega

/-- The modulation's factor at point `t`. -/
theorem factor_apply (c : Dev nD) (t : Fin cfg0.N) (k : Fin 1024) :
    (iblk m c 2 t : Vec Ideal S1x1x1024 .f32) (ix3 0 0 k) = m ((c : Thread nD τ).loc main_arg2) (ix3 (member t) 0 k) := by
  unfold iblk
  rw [View.read_apply]
  refine Eq.trans ?_ (congrFun (V_main_arg2 m c) (ix3 (member t) 0 k))
  refine congrArg (V m c main_arg2) (funext fun a => Fin.ext ?_)
  obtain ⟨-, -, ⟨h0, h1, h2⟩, -⟩ := places t
  match a with
  | ⟨0, _⟩ => show win0_2.index t 0 * 1 + 1 * 0 = win0_5.index t 0; rw [h0]; omega
  | ⟨1, _⟩ => show win0_2.index t 1 * 1 + 1 * 0 = 0; rw [h1]
  | ⟨2, _⟩ => show win0_2.index t 2 * 1024 + 1 * k.val = k.val; rw [h2]; omega

/-- The modulation's shift at point `t`. -/
theorem shift_apply (c : Dev nD) (t : Fin cfg0.N) (k : Fin 1024) :
    (iblk m c 3 t : Vec Ideal S1x1x1024 .f32) (ix3 0 0 k) = m ((c : Thread nD τ).loc main_arg3) (ix3 (member t) 0 k) := by
  unfold iblk
  rw [View.read_apply]
  refine Eq.trans ?_ (congrFun (V_main_arg3 m c) (ix3 (member t) 0 k))
  refine congrArg (V m c main_arg3) (funext fun a => Fin.ext ?_)
  obtain ⟨-, -, -, ⟨h0, h1, h2⟩, -⟩ := places t
  match a with
  | ⟨0, _⟩ => show win0_3.index t 0 * 1 + 1 * 0 = win0_5.index t 0; rw [h0]; omega
  | ⟨1, _⟩ => show win0_3.index t 1 * 1 + 1 * 0 = 0; rw [h1]
  | ⟨2, _⟩ => show win0_3.index t 2 * 1024 + 1 * k.val = k.val; rw [h2]; omega

/-- The weights at point `t`: the whole array, its columns in the call's order. -/
theorem columns_apply (c : Dev nD) (t : Fin cfg0.N) (k : Fin 1024) (j : Fin 5376) :
    (iblk m c 4 t : Vec Ideal S1024x5376 .bf16) (ix2 k j)
      = m ((c : Thread nD τ).loc main_arg4) (ix2 k (column j)) := by
  refine Eq.trans ?_ ((congrFun (weights_eq m c) (ix2 k j)).trans (laidOut_apply _ k j))
  unfold iblk
  rw [View.read_apply]
  refine congrArg (V m c main_v11) (funext fun a => Fin.ext ?_)
  obtain ⟨-, -, -, -, ⟨h0, h1⟩, -⟩ := places t
  match a with
  | ⟨0, _⟩ => show win0_4.index t 0 * 1024 + 1 * k.val = k.val; rw [h0]; omega
  | ⟨1, _⟩ => show win0_4.index t 1 * 5376 + 1 * j.val = j.val; rw [h1]; omega

/-- The one product of point `t`'s blocks is the result at the block's place. -/
theorem whole_eq (c : Dev nD) (t : Fin cfg0.N) (i : Fin 512) (j : Fin 5376) :
    whole (iblk m c 0 t) (iblk m c 1 t) (iblk m c 2 t) (iblk m c 3 t) (iblk m c 4 t) i j
      = result m c (ix3 (member t) (token t i) j) := by
  unfold whole result entry
  rw [funext (tokens_apply m c t i), funext (scales_apply m c t), funext (factor_apply m c t), funext (shift_apply m c t),
    funext fun k => columns_apply m c t k j]
  rfl

/-- What point `t` writes back is its block of the result. -/
theorem flushed_eq (c : Dev nD) (t : Fin cfg0.N) :
    (dats m 0 c).flushed 5 t = ((cfg0.win 5).blk t).view.read (Elt Ideal) (result m c) := by
  rw [Value.flushed5, out_eq]
  funext y
  rw [View.read_apply]
  refine (whole_eq m c t (y 1) (y 2)).trans ?_
  refine congrArg (result m c) (funext fun a => Fin.ext ?_)
  obtain ⟨-, -, -, -, -, -, -, h2⟩ := places t
  have hy : (y 0 : Nat) < 1 := (y 0).isLt
  match a with
  | ⟨0, _⟩ => show win0_5.index t 0 = win0_5.index t 0 * 1 + 1 * (y 0 : Nat); omega
  | ⟨1, _⟩ => show win0_5.index t 1 * 512 + (y 1 : Nat) = win0_5.index t 1 * 512 + 1 * (y 1 : Nat); omega
  | ⟨2, _⟩ => show (y 2 : Nat) = win0_5.index t 2 * 5376 + 1 * (y 2 : Nat); rw [h2]; omega

/-- The blocks cover the result array, so it ends at the result. -/
theorem final (c : Dev nD) : (dats m 0 c).arrAt 5 cfg0.N = result m c :=
  (dats m 0 c).arrAt_eq_of_cover 5 (result m c) (fun t _ => flushed_eq m c t) fun i => by
    have h0 : (i 0 : Nat) < 16 := (i 0).isLt
    have h1 : (i 1 : Nat) < 4096 := (i 1).isLt
    have h2 : (i 2 : Nat) < 5376 := (i 2).isLt
    obtain ⟨t, e0, e1⟩ := place_of ⟨(i 0 : Nat), h0⟩ ⟨(i 1 : Nat) / 512, by omega⟩
    obtain ⟨-, -, -, -, -, -, -, e2⟩ := places t
    refine ⟨t, flush0_5 t, ?_⟩
    show i ∈ ((View.whole main_v13).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; rw [e0]; dsimp only; omega
    | ⟨1, _⟩ => show win0_5.index t 1 * 512 ≤ (i 1 : Nat) ∧ (i 1 : Nat) < win0_5.index t 1 * 512 + 512; rw [e1]; dsimp only; omega
    | ⟨2, _⟩ => show win0_5.index t 2 * 5376 ≤ (i 2 : Nat) ∧ (i 2 : Nat) < win0_5.index t 2 * 5376 + 5376; rw [e2]; omega

/-- The run: the result array at the result, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.InProjIdeal.Array

end
-- ==== Proof.InProj.Ref.lean ====
/-
  The plain input projection read at an entry: the same normed row against the same column of the weights.
-/
module

public import proofs.«01_k».proof.Proof.InProj.Terms
public import proofs.«01_k».proof.Proof.Gen.InProjRefIdeal.Run

@[expose] public section

noncomputable section

namespace Cert.InProjRefIdeal.Entry

open Cert.InProjRefIdeal Cert.InProjRefIdeal.Gen Cert.InProjTerms Idealize.ShloMosaic Idealize.ShloMosaic.TcCoe

/-- The modulated norm of all the tokens, as the reference computes it. -/
def normedAll (h : S16x4096x1024.Idx → EReal) (g : S1024.Idx → EReal) (sc sh : S16x1x1024.Idx → EReal) : FVec Ideal S16x4096x1024 .f32 :=
  addf (mulf (mulf (mulf h (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf h h) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))) (broadcastInDim S16x4096x1024 ![0, 1, 2] bcast_S16x1x1024_S16x4096x1024_0_1_2 (addf (broadcastInDim S16x1x1024 ![] bcast_S_S16x1x1024 (constant S_ .f32 0x3F800000#32)) sc))) (broadcastInDim S16x4096x1024 ![0, 1, 2] bcast_S16x1x1024_S16x4096x1024_0_1_2 sh)

/-- The result as the reference computes it. -/
def resultAll (h : S16x4096x1024.Idx → EReal) (g : S1024.Idx → EReal) (sc sh : S16x1x1024.Idx → EReal) (w : S1024x5376.Idx → EReal) :
    FVec Ideal S16x4096x5376 .bf16 :=
  truncf .bf16 (concatenate S16x4096x5376 2 [⟨S16x4096x2048, (extractStridedSlice S16x4096x2048 ![0, 0, 3328] (Host.dotGeneral (φ₁ := .f32) (φ₂ := .f32) dot_S16x4096x1024_S1024x5376_S16x4096x5376_2_0_01_1_n_n none (normedAll h g sc sh) w) slices_S16x4096x5376_S16x4096x2048_0_0_3328)⟩, ⟨S16x4096x3328, (extractStridedSlice S16x4096x3328 ![0, 0, 0] (Host.dotGeneral (φ₁ := .f32) (φ₂ := .f32) dot_S16x4096x1024_S1024x5376_S16x4096x5376_2_0_01_1_n_n none (normedAll h g sc sh) w) slices_S16x4096x5376_S16x4096x3328_0_0_0)⟩] concatenates_S16x4096x2048_S16x4096x3328_S16x4096x5376_d2) bitsLt_bf16_f32

set_option maxRecDepth 16384 in
/-- The modulated norm at an entry. -/
theorem normedAll_apply (h : S16x4096x1024.Idx → EReal) (g : S1024.Idx → EReal) (sc sh : S16x1x1024.Idx → EReal)
    (b : Fin 16) (i : Fin 4096) (k : Fin 1024) :
    normedAll h g sc sh (ix3 b i k)
      = normed (fun l => h (ix3 b i l)) (fun l => g (ix1 l)) (fun l => sc (ix3 b 0 l)) (fun l => sh (ix3 b 0 l)) k := by
  pointwise [normedAll, normed]

set_option maxRecDepth 16384 in
/-- The result at an entry. -/
theorem resultAll_apply (h : S16x4096x1024.Idx → EReal) (g : S1024.Idx → EReal) (sc sh : S16x1x1024.Idx → EReal)
    (w : S1024x5376.Idx → EReal) (b : Fin 16) (i : Fin 4096) (j : Fin 5376) :
    resultAll h g sc sh w (ix3 b i j) = entry h g sc sh w b i j := by
  have hc := column_gate j
  have hr := column_rest j
  unfold entry projected
  pointwise [resultAll]
  simp only [normedAll_apply]
  split_ifs <;> refine Finset.sum_congr rfl fun k _ => congrArg (_ * ·) (congrArg w (congrArg (ix2 k) (Fin.ext ?_))) <;>
    show _ = (column j).val <;> dsimp only <;> omega

variable (m : (ℓ : Loc nD τ sig) → Buf (Elt Ideal) ℓ) (ρ : Dev nD → PrngReg)

/-- The run: the result array at the same entries, the arguments unchanged. -/
theorem run : θ_run defs (onTc (τ := τ) (main (F := Ideal))) ⟨m, fun _ => 0, ρ⟩ fun r => ∀ c : Dev nD,
      r.2.mem ((c : Thread nD τ).loc main_v23) = (fun i : S16x4096x5376.Idx =>
          entry (m ((c : Thread nD τ).loc main_arg0)) (m ((c : Thread nD τ).loc main_arg1)) (m ((c : Thread nD τ).loc main_arg2))
            (m ((c : Thread nD τ).loc main_arg3)) (m ((c : Thread nD τ).loc main_arg4)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (funext fun i => by
      rw [eq_ix3 i]
      exact resultAll_apply _ _ _ _ _ (i 0) (i 1) (i 2)), (h c).2⟩) (Value.run m ρ)

end Cert.InProjRefIdeal.Entry

end
-- ==== Proof.Attend.Terms.lean ====
/-
  The attention, entry by entry over the extended reals: the keys or values of the context and of the latent
  tokens one after the other, a query's score against each key, and the softmax of the scores over the values.
  Query head `h` reads the keys and values of head `h / 4`.
-/
module

public import Idealize.ShloMosaic.Lib.Pointwise

@[expose] public section

noncomputable section

namespace Cert.AttendTerms

open Idealize.ShloMosaic

/-- The queries' shape, and the context's and the latent tokens' keys' and values' shapes. -/
abbrev Qs : Shape := ⟨4, ![16, 8, 4096, 64]⟩
abbrev Cs : Shape := ⟨4, ![16, 2, 256, 64]⟩
abbrev Ls : Shape := ⟨4, ![16, 2, 4096, 64]⟩

/-- Element `d` of the key (or value) at position `l` of batch member `b`, head `g`: the 256 context positions
    come first, the 4096 latent positions follow. -/
def joined (c : Cs.Idx → EReal) (x : Ls.Idx → EReal) (b : Fin 16) (g : Fin 2) (l : Fin 4352) (d : Fin 64) : EReal :=
  if h : l.val < 256 then c (ix4 b g ⟨l.val, h⟩ d) else x (ix4 b g ⟨l.val - 256, by omega⟩ d)

/-- The key and value head that query head `h` reads. -/
def keyHead (h : Fin 8) : Fin 2 := ⟨h.val / 4, by omega⟩

/-- The score of the query at token `i` of head `h` against the key at position `l`. -/
def score (q : Qs.Idx → EReal) (kc : Cs.Idx → EReal) (kl : Ls.Idx → EReal) (b : Fin 16) (h : Fin 8) (i : Fin 4096)
    (l : Fin 4352) : EReal :=
  (∑ d, q (ix4 b h i d) * joined kc kl b (keyHead h) l d) * Ideal.ofBits FTy.f32 0x3E000000#32

/-- The greatest of a row of scores. -/
def greatest (s : Fin 4352 → EReal) : EReal :=
  Finset.fold max (Ideal.ofBits FTy.f32 0xFF800000#32) s Finset.univ

/-- It is no less than the value it starts from. -/
theorem max_greatest (s : Fin 4352 → EReal) : max (Ideal.ofBits FTy.f32 0xFF800000#32) (greatest s) = greatest s :=
  max_eq_right (Finset.le_fold_max _ |>.2 (Or.inl le_rfl))

/-- The softmax of the scores `s` over the values `v`, each weight divided first, as the reference computes it. -/
def weighed (s v : Fin 4352 → EReal) : EReal :=
  ∑ l, Ideal.div (Ideal.exp (s l - greatest s)) (∑ x, Ideal.exp (s x - greatest s)) * v l

/-- The same to base 2, the whole sum divided at the end, as the call computes it. -/
def weighedBase2 (t v : Fin 4352 → EReal) : EReal :=
  Ideal.div (∑ l, Ideal.exp2 (t l - greatest t) * v l) (∑ l, Ideal.exp2 (t l - greatest t))

/-- The head and the element within the head of column `j` of the result. -/
def head (j : Fin 512) : Fin 8 := ⟨j.val / 64, by omega⟩
def lane (j : Fin 512) : Fin 64 := ⟨j.val % 64, by omega⟩

/-- The result at token `i` of batch member `b`, column `j`, from the whole arrays. -/
def entry (q : Qs.Idx → EReal) (kc : Cs.Idx → EReal) (kl : Ls.Idx → EReal) (vc : Cs.Idx → EReal) (vl : Ls.Idx → EReal)
    (b : Fin 16) (i : Fin 4096) (j : Fin 512) : EReal :=
  weighed (score q kc kl b (head j) i) fun l => joined vc vl b (keyHead (head j)) l (lane j)

end Cert.AttendTerms

end
-- ==== Proof.Attend.Block.lean ====
/-
  What the attention call's body leaves in its output block: eight query heads' weighted values side by side, in four
  stores of two heads each. The product of a head's weights with its values has those values in 64 of 128 lanes and
  ones in the others, so the sum of the weights comes out of the same product, 64 lanes away.
-/
module

public import proofs.«01_k».proof.Proof.Attend.Terms
public import proofs.«01_k».proof.Proof.Gen.AttendIdeal.Value

@[expose] public section

noncomputable section

namespace Cert.AttendIdeal.Block

open Cert.AttendIdeal Cert.AttendIdeal.Gen Cert.AttendTerms Idealize.ShloMosaic Idealize.ShloMosaic.TcCoe

set_option maxRecDepth 16384 in
/-- The first head's mask: the lanes below 64. -/
theorem pay4_apply (l : Fin 4352) (c : Fin 128) : k0_pay4 (ix2 l c) = if c.val < 64 then 1#1 else 0#1 := by
  pointwise [k0_pay4]
  revert c
  decide +kernel

set_option maxRecDepth 16384 in
/-- A score of the block: row `r` is query `r % 128` of head `r / 128`. -/
theorem pay2_apply (q : Vec Ideal S1x8x128x128 .bf16) (k : Vec Ideal S1x4352x128 .bf16) (r : Fin 1024) (l : Fin 4352) :
    k0_pay2 q k (ix2 r l) = ∑ x, q (ix4 0 ⟨r.val / 128, by omega⟩ ⟨r.val % 128, by omega⟩ x) * k (ix3 0 l x) := by
  pointwise [k0_pay2]

set_option maxRecDepth 16384 in
theorem pay3_apply (q : Vec Ideal S1x8x128x128 .bf16) (k : Vec Ideal S1x4352x128 .bf16) (r : Fin 512) (l : Fin 4352) :
    k0_pay3 q k (ix2 r l) = k0_pay2 q k (ix2 ⟨r.val, by omega⟩ l) := by
  pointwise [k0_pay3]

set_option maxRecDepth 16384 in
theorem pay11_apply (s : FVec Ideal S1024x4352 .f32) (r : Fin 512) (l : Fin 4352) :
    k0_pay11 s (ix2 r l) = s (ix2 ⟨512 + r.val, by omega⟩ l) := by
  pointwise [k0_pay11]

theorem select_one {α : Type} (x y : α) : Scalar.select (1#1) x y = x := rfl
theorem select_zero {α : Type} (x y : α) : Scalar.select (0#1) x y = y := rfl

/-- The lane opposite lane `c`: 64 lanes away, around the end. -/
abbrev opposite (c : Fin 128) : Fin 128 := ⟨(c.val + 128 - 64) % 128, Nat.mod_lt _ (by omega)⟩

set_option maxRecDepth 16384 in
/-- A row's weighted values over its sum of weights, in a lane of the mask `b` whose opposite lane is outside it: there
    the masked values are ones, so the product's opposite lane is the sum of the weights. -/
theorem pay7_apply (s : FVec Ideal S512x4352 .f32) (b : IVec S4352x128 1) (v o : FVec Ideal S4352x128 .bf16) (r : Fin 512) (c : Fin 128)
    (h1 : ∀ l, b (ix2 l c) = 1#1) (h0 : ∀ l, b (ix2 l (opposite c)) = 0#1) (ho : ∀ l, o (ix2 l (opposite c)) = 1) :
    k0_pay7 s b v o (ix2 r c) = weighedBase2 (fun l => s (ix2 r l)) (fun l => v (ix2 l c)) := by
  unfold weighedBase2 greatest
  pointwise [k0_pay7]
  simp only [h1, h0, ho, mul_one, select_one, select_zero]
  rfl

/-- The second head's mask, as the body works it out from the lane's number: the lanes from 64. -/
theorem upper_mask (n : Nat) (h : n < 128) :
    IntOp.cmpi CmpIPredicate.eq
      (Scalar.select
        (IntOp.andi
          (IntOp.cmpi CmpIPredicate.ne
            (IntOp.subi (BitVec.setWidth 32 (IntOp.cmpi CmpIPredicate.sgt (BitVec.ofNat 32 n) 0#32))
              (BitVec.setWidth 32 (IntOp.cmpi CmpIPredicate.slt (BitVec.ofNat 32 n) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n) 64#32) 0#32))
        (IntOp.subi (IntOp.divsi ArithUnit.vector (BitVec.ofNat 32 n) 64#32) 1#32)
        (IntOp.divsi ArithUnit.vector (BitVec.ofNat 32 n) 64#32))
      1#32 = if n < 64 then 0#1 else 1#1 := by
  revert n
  decide +kernel

/-- The lane's number against 64, as the body compares it. -/
theorem lower_lane (n : Nat) (h : n < 128) :
    IntOp.cmpi CmpIPredicate.slt (BitVec.ofNat 32 n) 64#32 = if n < 64 then 1#1 else 0#1 := by
  revert n
  decide +kernel

/-- The second head's weighted values over their sums of weights, as the body works them out. -/
abbrev upperHead (x0 : Vec Ideal S1x8x128x128 .bf16) (x1 x2 : Vec Ideal S1x4352x128 .bf16) (s : FVec Ideal S512x4352 .f32)
    (v : Vec Ideal S1x4352x128 .bf16) : FVec Ideal S512x128 .f32 :=
  k0_pay14 (k0_pay18 x0 x1 x2) s 64#32 (k0_pay25 x0 x1 x2) (k0_pay26 x0 x1 x2) (Scalar.extui (Scalar.cmpi .sgt 64#32 0#32)) 0#32 v

set_option maxRecDepth 16384 in
/-- The same for the second head, in a lane from 64. -/
theorem pay14_apply (x0 : Vec Ideal S1x8x128x128 .bf16) (x1 x2 : Vec Ideal S1x4352x128 .bf16) (s : FVec Ideal S512x4352 .f32)
    (v : Vec Ideal S1x4352x128 .bf16) (r : Fin 512) (c : Fin 128) (hc : 64 ≤ c.val) :
    upperHead x0 x1 x2 s v (ix2 r c) = weighedBase2 (fun l => s (ix2 r l)) (fun l => v (ix3 0 l c)) := by
  have hu : ¬ c.val < 64 := by omega
  have ho : (c.val + 128 - 64) % 128 < 64 := by omega
  unfold weighedBase2 greatest
  pointwise [upperHead, k0_pay14, k0_pay18, k0_pay25, k0_pay26, k0_pay12, k0_pay13]
  simp only [upper_mask c.val c.isLt, upper_mask ((c.val + 128 - 64) % 128) (Nat.mod_lt _ (by omega)), if_neg hu, if_pos ho,
    mul_one, select_one, select_zero]
  rfl

section Pairs

variable (x0 : Vec Ideal S1x8x128x128 .bf16) (x1 x2 : Vec Ideal S1x4352x128 .bf16) (s : FVec Ideal S512x4352 .f32)
  (b : IVec S4352x128 1) (v o : FVec Ideal S4352x128 .bf16) (w : Vec Ideal S1x4352x128 .bf16) (i c : Fin 128)

set_option maxRecDepth 16384 in
/-- Two query heads side by side: the first's row in the lanes below 64, the second's, rotated, in the others. -/
theorem pay9_apply : k0_pay9 (k0_pay19 x0 x1 x2) s b v o (ix3 0 i c)
    = if c.val < 64 then k0_pay7 s b v o (ix2 ⟨i.val, by omega⟩ c)
      else k0_pay7 s b v o (ix2 ⟨128 + i.val, by omega⟩ (opposite c)) := by
  pointwise [k0_pay9, k0_pay8, k0_pay19]
  rw [lower_lane c.val c.isLt]
  split_ifs <;> rfl

set_option maxRecDepth 16384 in
theorem pay10_apply : k0_pay10 (k0_pay19 x0 x1 x2) s b v o (ix3 0 i c)
    = if c.val < 64 then k0_pay7 s b v o (ix2 ⟨256 + i.val, by omega⟩ c)
      else k0_pay7 s b v o (ix2 ⟨384 + i.val, by omega⟩ (opposite c)) := by
  pointwise [k0_pay10, k0_pay8, k0_pay19]
  rw [lower_lane c.val c.isLt]
  split_ifs <;> rfl

set_option maxRecDepth 16384 in
/-- For the second head's values the first query head's row is the rotated one. -/
theorem pay16_apply : k0_pay16 (k0_pay18 x0 x1 x2) (k0_pay19 x0 x1 x2) s 64#32 (k0_pay25 x0 x1 x2) (k0_pay26 x0 x1 x2)
      (Scalar.extui (Scalar.cmpi .sgt 64#32 0#32)) 0#32 w (ix3 0 i c)
    = if c.val < 64 then upperHead x0 x1 x2 s w (ix2 ⟨i.val, by omega⟩ (opposite c))
      else upperHead x0 x1 x2 s w (ix2 ⟨128 + i.val, by omega⟩ c) := by
  pointwise [k0_pay16, k0_pay15, k0_pay19]
  rw [lower_lane c.val c.isLt]
  split_ifs <;> rfl

set_option maxRecDepth 16384 in
theorem pay17_apply : k0_pay1 (k0_pay17 (k0_pay18 x0 x1 x2) (k0_pay19 x0 x1 x2) s 64#32 (k0_pay25 x0 x1 x2) (k0_pay26 x0 x1 x2)
      (Scalar.extui (Scalar.cmpi .sgt 64#32 0#32)) 0#32 w) (ix3 0 i c)
    = if c.val < 64 then upperHead x0 x1 x2 s w (ix2 ⟨256 + i.val, by omega⟩ (opposite c))
      else upperHead x0 x1 x2 s w (ix2 ⟨384 + i.val, by omega⟩ c) := by
  pointwise [k0_pay1, k0_pay17, k0_pay15, k0_pay19]
  rw [lower_lane c.val c.isLt]
  split_ifs <;> rfl

end Pairs

/-- Query head `h`'s row `i` of the block against the key at position `l`, over all 128 lanes. -/
def dots (q : Vec Ideal S1x8x128x128 .bf16) (k : Vec Ideal S1x4352x128 .bf16) (h : Fin 8) (i : Fin 128) (l : Fin 4352) : EReal :=
  ∑ x, q (ix4 0 h i x) * k (ix3 0 l x)

/-- Query head `h`'s row `i` of the block over the values in lane `c`. -/
def cell (q : Vec Ideal S1x8x128x128 .bf16) (k v : Vec Ideal S1x4352x128 .bf16) (h : Fin 8) (i c : Fin 128) : EReal :=
  weighedBase2 (dots q k h i) fun l => v (ix3 0 l c)

/-- Cells at equal places are equal. -/
theorem cell_congr (q : Vec Ideal S1x8x128x128 .bf16) (k v : Vec Ideal S1x4352x128 .bf16) {h h' : Fin 8} {i i' c c' : Fin 128}
    (eh : h.val = h'.val) (ei : i.val = i'.val) (ec : c.val = c'.val) : cell q k v h i c = cell q k v h' i' c' := by
  rw [Fin.ext eh, Fin.ext ei, Fin.ext ec]

/-- The block, entry by entry: column `j` is query head `j / 64`, whose values stand in the half `j / 256` of the lanes. -/
def whole (q : Vec Ideal S1x8x128x128 .bf16) (k v : Vec Ideal S1x4352x128 .bf16) (i : Fin 128) (j : Fin 512) : EReal :=
  cell q k v (head j) i ⟨j.val / 256 * 64 + j.val % 64, by omega⟩

/-- A block of keys or values read through the rectangle that is all of it. -/
theorem ld_whole3 (x : Vec Ideal S1x4352x128 .bf16) : View.ld x r0_1 = x :=
  View.ld_unit_zero (S := S1x4352x128) (funext fun a => by fin_cases a <;> rfl) _ x

/-- The block of queries so read. -/
theorem ld_whole4 (x : Vec Ideal S1x8x128x128 .bf16) : View.ld x r0_0 = x :=
  View.ld_unit_zero (S := S1x8x128x128) (funext fun a => by fin_cases a <;> rfl) _ x

variable (q : Vec Ideal S1x8x128x128 .bf16) (k v : Vec Ideal S1x4352x128 .bf16)

set_option maxRecDepth 16384 in
/-- The first head's values as the body reads them, and its ones. -/
theorem pay22_apply (l : Fin 4352) (c : Fin 128) : k0_pay22 q k v (ix2 l c) = v (ix3 0 l c) := by
  unfold k0_pay22
  rw [ld_whole3]
  pointwise [k0_pay5]

set_option maxRecDepth 16384 in
theorem pay23_apply (l : Fin 4352) (c : Fin 128) : k0_pay23 q k v (ix2 l c) = 1 := by
  pointwise [k0_pay23, k0_pay6]

/-- A row of the first four query heads, in a lane below 64. -/
theorem lower_cell (r : Fin 512) (c : Fin 128) (hc : c.val < 64) :
    k0_pay7 (k0_pay20 q k v) (k0_pay21 q k v) (k0_pay22 q k v) (k0_pay23 q k v) (ix2 r c)
      = cell q k v ⟨r.val / 128, by omega⟩ ⟨r.val % 128, by omega⟩ c := by
  rw [pay7_apply]
  · unfold cell dots k0_pay20
    rw [ld_whole3, ld_whole4]
    simp only [pay3_apply, pay2_apply, pay22_apply]
  · intro l; unfold k0_pay21; rw [pay4_apply, if_pos hc]
  · intro l; unfold k0_pay21; rw [pay4_apply, if_neg (by show ¬ (c.val + 128 - 64) % 128 < 64; omega)]
  · intro l; exact pay23_apply q k v l _

/-- A row of the last four query heads, in a lane from 64. -/
theorem upper_cell (r : Fin 512) (c : Fin 128) (hc : 64 ≤ c.val) :
    upperHead q k v (k0_pay24 q k v) (View.ld v r0_1) (ix2 r c)
      = cell q k v ⟨(512 + r.val) / 128, by omega⟩ ⟨(512 + r.val) % 128, by omega⟩ c := by
  rw [pay14_apply _ _ _ _ _ _ _ hc]
  unfold cell dots k0_pay24
  rw [ld_whole3, ld_whole3, ld_whole4]
  simp only [pay11_apply, pay2_apply]

/-- The block, as contents of the output buffer. -/
def wholeBlock : Vec Ideal S1x128x512 .bf16 := fun y => whole q k v (y 1) (y 2)

/-- A store of 128 columns from column `o`, at its own entry, against the block there. -/
theorem piece_apply (o : Nat) (hr : ∀ a, ![0, 0, o] a + S1x128x128.size a ≤ S1x128x512.size a) (p : Vec Ideal S1x128x128 .bf16)
    (hp : ∀ (i c : Fin 128) (h : o + c.val < 512), p (ix3 0 i c) = whole q k v i ⟨o + c.val, h⟩) (x : S1x128x128.Idx) :
    p x = wholeBlock q k v ((Rect.unit (s := S1x128x512) ![0, 0, o] S1x128x128.size hr).emb x) := by
  idx_vars x
  obtain rfl : x0 = 0 := Subsingleton.elim _ _
  have ho : o + 128 ≤ 512 := hr 2
  rw [hp x1 x2 (by omega)]
  unfold wholeBlock
  congr 1
  · apply Fin.ext
    show x1.val = 0 + 1 * x1.val
    omega
  · apply Fin.ext
    show o + x2.val = o + 1 * x2.val
    omega

/-- Four stores that each agree with one function of the block are that function. -/
theorem tiles (G : Vec Ideal S1x128x512 .bf16) (p0 p1 p2 p3 : Vec Ideal S1x128x128 .bf16)
    (h0 : ∀ x, p0 x = G (r0_5.emb x)) (h1 : ∀ x, p1 x = G (r0_4.emb x)) (h2 : ∀ x, p2 x = G (r0_3.emb x))
    (h3 : ∀ x, p3 x = G (r0_2.emb x)) :
    View.canon (Val := Elt Ideal) [⟨r0_5, p0⟩, ⟨r0_4, p1⟩, ⟨r0_3, p2⟩, ⟨r0_2, p3⟩] = G := by
  funext y
  refine View.canon_apply_of_pieces G _ ?_ y (cover0_3 p0 p1 p2 p3 y)
  intro p hp
  simp only [List.mem_cons, List.not_mem_nil, or_false] at hp
  rcases hp with rfl | rfl | rfl | rfl <;> assumption

/-- The body's output block, entry by entry. -/
theorem out_eq : out0_3 q k v = wholeBlock q k v := by
  unfold out0_3
  refine tiles _ _ _ _ _ (piece_apply q k v 384 _ _ ?_) (piece_apply q k v 256 _ _ ?_) (piece_apply q k v 128 _ _ ?_)
    (piece_apply q k v 0 _ _ ?_) <;> intro i c h <;> unfold whole
  · rw [pay17_apply]
    split_ifs with hc
    · rw [upper_cell _ _ _ _ _ (by show 64 ≤ (c.val + 128 - 64) % 128; omega)]
      apply cell_congr <;> dsimp only [head, opposite] <;> omega
    · rw [upper_cell _ _ _ _ _ (by omega)]
      apply cell_congr <;> dsimp only [head, opposite] <;> omega
  · rw [pay16_apply]
    split_ifs with hc
    · rw [upper_cell _ _ _ _ _ (by show 64 ≤ (c.val + 128 - 64) % 128; omega)]
      apply cell_congr <;> dsimp only [head, opposite] <;> omega
    · rw [upper_cell _ _ _ _ _ (by omega)]
      apply cell_congr <;> dsimp only [head, opposite] <;> omega
  · rw [pay10_apply]
    split_ifs with hc
    · rw [lower_cell _ _ _ _ _ hc]
      apply cell_congr <;> dsimp only [head, opposite] <;> omega
    · rw [lower_cell _ _ _ _ _ (by show (c.val + 128 - 64) % 128 < 64; omega)]
      apply cell_congr <;> dsimp only [head, opposite] <;> omega
  · rw [pay9_apply]
    split_ifs with hc
    · rw [lower_cell _ _ _ _ _ hc]
      apply cell_congr <;> dsimp only [head, opposite] <;> omega
    · rw [lower_cell _ _ _ _ _ (by show (c.val + 128 - 64) % 128 < 64; omega)]
      apply cell_congr <;> dsimp only [head, opposite] <;> omega

end Cert.AttendIdeal.Block

end
-- ==== Proof.Attend.Host.lean ====
/-
  The arrays the attention call is entered with: the queries scaled and each head placed in its half of the 128
  lanes, the keys and values of both heads side by side with the context's positions first.
-/
module

public import proofs.«01_k».proof.Proof.Attend.Terms
public import proofs.«01_k».proof.Proof.Gen.AttendIdeal.Value
public import Idealize.ShloMosaic.Lib.Claim

@[expose] public section

noncomputable section

namespace Cert.AttendIdeal.Host

open Cert.AttendIdeal Cert.AttendIdeal.Gen Cert.AttendTerms Idealize.ShloMosaic Idealize.ShloMosaic.TcCoe

variable (m : (ℓ : Loc nD τ sig) → Buf (Elt Ideal) ℓ)

/-- The keys, or the values, as the host operations lay them out. -/
def sideBySide (c : S16x2x256x64.Idx → EReal) (x : S16x2x4096x64.Idx → EReal) : S16x4352x128.Idx → EReal :=
  concatenate S16x4352x128 1
    [⟨S16x256x128, shapeCast S16x256x128 (transpose S16x256x2x64 [0, 2, 1, 3] c transposes_S16x2x256x64_S16x256x2x64_0_2_1_3) shapeCasts_S16x256x2x64_S16x256x128⟩,
     ⟨S16x4096x128, shapeCast S16x4096x128 (transpose S16x4096x2x64 [0, 2, 1, 3] x transposes_S16x2x4096x64_S16x4096x2x64_0_2_1_3) shapeCasts_S16x4096x2x64_S16x4096x128⟩]
    concatenates_S16x256x128_S16x4096x128_S16x4352x128_d1

set_option maxHeartbeats 2000000 in
set_option maxRecDepth 65536 in
/-- The call reads the keys so laid out. -/
theorem keys_eq (c : Dev nD) : (V m c main_v26 : S16x4352x128.Idx → EReal)
    = sideBySide (m ((c : Thread nD τ).loc main_arg1)) (m ((c : Thread nD τ).loc main_arg2)) := by
  show StableHlo.after hostOps0 (fun b => m (c, b)) (Proc.devRef .tc main_v26) = _
  after_results
  rfl

set_option maxHeartbeats 2000000 in
set_option maxRecDepth 65536 in
/-- And the values. -/
theorem values_eq (c : Dev nD) : (V m c main_v27 : S16x4352x128.Idx → EReal)
    = sideBySide (m ((c : Thread nD τ).loc main_arg3)) (m ((c : Thread nD τ).loc main_arg4)) := by
  show StableHlo.after hostOps0 (fun b => m (c, b)) (Proc.devRef .tc main_v27) = _
  after_results
  rfl

set_option maxHeartbeats 2000000 in
set_option maxRecDepth 16384 in
/-- Lane `x` of position `l` is element `x % 64` of head `x / 64`. -/
theorem sideBySide_apply (c : S16x2x256x64.Idx → EReal) (x : S16x2x4096x64.Idx → EReal) (b : Fin 16) (l : Fin 4352) (y : Fin 128) :
    sideBySide c x (ix3 b l y) = joined c x b ⟨y.val / 64, by omega⟩ l ⟨y.val % 64, by omega⟩ := by
  unfold sideBySide joined
  pointwise

/-- The queries scaled for base 2. -/
def scaled (q : S16x8x4096x64.Idx → EReal) : FVec Ideal S16x8x4096x64 .f32 :=
  Host.divf (φ := .f32) (mulf (φ := .f32) q (broadcastInDim S16x8x4096x64 ![] bcast_S_S16x8x4096x64 (constant S_ .f32 0x3E000000#32)))
    (broadcastInDim S16x8x4096x64 ![] bcast_S_S16x8x4096x64 (Host.log (constant S_ .f32 0x40000000#32)))

/-- Zeros for the half of the lanes a head does not use. -/
def zeros : FVec Ideal S16x4x4096x64 .f32 :=
  broadcastInDim S16x4x4096x64 ![] bcast_S_S16x4x4096x64 (constant S_ .f32 0x00000000#32)

/-- The queries as the host operations place them. -/
def placed (q : S16x8x4096x64.Idx → EReal) : FVec Ideal S16x8x4096x128 .f32 :=
  concatenate S16x8x4096x128 1
    [⟨S16x4x4096x128, concatenate S16x4x4096x128 3
        [⟨S16x4x4096x64, extractStridedSlice S16x4x4096x64 ![0, 0, 0, 0] (scaled q) slices_S16x8x4096x64_S16x4x4096x64_0_0_0_0⟩, ⟨S16x4x4096x64, zeros⟩]
        concatenates_S16x4x4096x64_S16x4x4096x64_S16x4x4096x128_d3⟩,
     ⟨S16x4x4096x128, concatenate S16x4x4096x128 3
        [⟨S16x4x4096x64, zeros⟩, ⟨S16x4x4096x64, extractStridedSlice S16x4x4096x64 ![0, 4, 0, 0] (scaled q) slices_S16x8x4096x64_S16x4x4096x64_0_4_0_0⟩]
        concatenates_S16x4x4096x64_S16x4x4096x64_S16x4x4096x128_d3⟩]
    concatenates_S16x4x4096x128_S16x4x4096x128_S16x8x4096x128_d1

set_option maxHeartbeats 2000000 in
set_option maxRecDepth 65536 in
/-- The call reads the queries so placed. -/
theorem queries_eq (c : Dev nD) : (V m c main_v25 : S16x8x4096x128.Idx → EReal) = placed (m ((c : Thread nD τ).loc main_arg0)) := by
  show StableHlo.after hostOps0 (fun b => m (c, b)) (Proc.devRef .tc main_v25) = _
  after_results
  rfl

set_option maxRecDepth 16384 in
/-- A scaled query at an entry. -/
theorem scaled_apply (q : S16x8x4096x64.Idx → EReal) (b : Fin 16) (h : Fin 8) (i : Fin 4096) (d : Fin 64) :
    scaled q (ix4 b h i d) = Ideal.div (q (ix4 b h i d) * Ideal.ofBits FTy.f32 0x3E000000#32) (Ideal.log (Ideal.ofBits FTy.f32 0x40000000#32)) := by
  pointwise [scaled]

set_option maxHeartbeats 2000000 in
set_option maxRecDepth 16384 in
/-- A head's queries stand in the half of the lanes of its keys' head, zeros in the other half. -/
theorem placed_apply (q : S16x8x4096x64.Idx → EReal) (b : Fin 16) (h : Fin 8) (i : Fin 4096) (y : Fin 128) :
    placed q (ix4 b h i y) = if y.val / 64 = (keyHead h).val then scaled q (ix4 b h i ⟨y.val % 64, by omega⟩) else 0 := by
  unfold placed keyHead
  pointwise [zeros]
  have hh := h.isLt
  have hy := y.isLt
  by_cases hg : y.val / 64 = h.val / 4
  · rw [if_pos hg]
    split_ifs <;> first
      | omega
      | refine congrArg (scaled q) ?_
        congr 1 <;> apply Fin.ext <;> dsimp only <;> omega
  · rw [if_neg hg]
    split_ifs <;> first
      | omega
      | rfl

end Cert.AttendIdeal.Host

end
-- ==== Proof.Attend.Softmax.lean ====
/-
  The softmax to base 2 of scores over the logarithm of 2, divided at the end, is the softmax of the scores, each
  weight divided first: for real scores and any values.
-/
module

public import proofs.«01_k».proof.Proof.Attend.Terms

@[expose] public section

noncomputable section

namespace Cert.AttendTerms

open Idealize.ShloMosaic

/-- The value a row's greatest starts from is the least. -/
theorem start_eq : Ideal.ofBits FTy.f32 0xFF800000#32 = ⊥ := by
  simp [Ideal.ofBits, Ideal.ieee]

theorem eighth_eq : Ideal.ofBits FTy.f32 0x3E000000#32 = ((1 / 8 : ℝ) : EReal) := by
  simp [Ideal.ofBits, Ideal.ieee, -EReal.coe_mul]
  norm_num

theorem two_eq : Ideal.ofBits FTy.f32 0x40000000#32 = ((2 : ℝ) : EReal) := by
  simp [Ideal.ofBits, Ideal.ieee, -EReal.coe_mul]
  norm_num

/-- The greatest of real scores, one of which is no less than the others. -/
theorem greatest_coe (f : Fin 4352 → ℝ) (x : Fin 4352) (h : ∀ l, f l ≤ f x) : greatest (fun l => (f l : EReal)) = (f x : EReal) := by
  unfold greatest
  rw [start_eq]
  refine le_antisymm ((Finset.fold_max_le _).2 ⟨bot_le, fun l _ => EReal.coe_le_coe_iff.2 (h l)⟩) ?_
  exact (Finset.le_fold_max _).2 (Or.inr ⟨x, Finset.mem_univ x, le_rfl⟩)

/-- A sum of reals is real. -/
theorem coe_sum {ι : Type} (s : Finset ι) (f : ι → ℝ) : ∑ l ∈ s, (f l : EReal) = ((∑ l ∈ s, f l : ℝ) : EReal) := by
  classical
  induction s using Finset.induction_on with
  | empty => simp
  | insert x s hx ih => rw [Finset.sum_insert hx, Finset.sum_insert hx, ih, EReal.coe_add]

/-- A sum times a nonnegative real is the sum of the products. -/
theorem sum_mul_coe {ι : Type} (s : Finset ι) (f : ι → EReal) (r : ℝ) (hr : 0 ≤ r) :
    (∑ l ∈ s, f l) * (r : EReal) = ∑ l ∈ s, f l * (r : EReal) := by
  classical
  induction s using Finset.induction_on with
  | empty => simp
  | insert x s hx ih =>
    rw [Finset.sum_insert hx, Finset.sum_insert hx, ← ih,
      EReal.right_distrib_of_nonneg_of_ne_top (by exact_mod_cast hr) (EReal.coe_ne_top r)]

/-- The two softmaxes agree. -/
theorem weighedBase2_eq (a : Fin 4352 → ℝ) (v : Fin 4352 → EReal) :
    weighedBase2 (fun l => ((a l / Real.log 2 : ℝ) : EReal)) v = weighed (fun l => (a l : EReal)) v := by
  have hL : 0 < Real.log 2 := Real.log_pos one_lt_two
  obtain ⟨x, -, hx⟩ := Finset.exists_max_image Finset.univ a ⟨0, Finset.mem_univ _⟩
  have hx : ∀ l, a l ≤ a x := fun l => hx l (Finset.mem_univ l)
  have h2 : ∀ l, Ideal.exp2 (((a l / Real.log 2 : ℝ) : EReal) - ((a x / Real.log 2 : ℝ) : EReal)) = ((Real.exp (a l - a x) : ℝ) : EReal) := by
    intro l
    rw [← EReal.coe_sub, Ideal.exp2_coe]
    congr 1
    show (2 : ℝ) ^ (a l / Real.log 2 - a x / Real.log 2) = _
    rw [Real.rpow_def_of_pos two_pos]
    congr 1
    field_simp
  have h1 : ∀ l, Ideal.exp ((a l : EReal) - (a x : EReal)) = ((Real.exp (a l - a x) : ℝ) : EReal) := by
    intro l
    rw [← EReal.coe_sub, Ideal.exp_coe]
  have hS : 0 < ∑ l, Real.exp (a l - a x) := Finset.sum_pos (fun l _ => Real.exp_pos _) ⟨0, Finset.mem_univ _⟩
  unfold weighedBase2 weighed
  rw [greatest_coe _ x fun l => (div_le_div_iff_of_pos_right hL).2 (hx l), greatest_coe a x hx]
  simp only [h1, h2]
  rw [coe_sum, Ideal.div_coe hS.ne', sum_mul_coe _ _ _ (by positivity)]
  refine Finset.sum_congr rfl fun l _ => ?_
  rw [Ideal.div_coe hS.ne', mul_right_comm]

/-- Every entry of the array is a real number. -/
def Reals {S : Shape} (x : S.Idx → EReal) : Prop := ∀ i, ∃ r : ℝ, x i = r

/-! ## The scores of finite queries and keys -/

/-- A sum over 128 lanes of which `g`'s half holds `F` and the other half zeros is the sum over the 64 lanes of that half. -/
theorem sum_half (g : Fin 2) (F : Fin 64 → EReal) (K : Fin 2 → Fin 64 → EReal) :
    ∑ x : Fin 128, (if x.val / 64 = g.val then F ⟨x.val % 64, by omega⟩ else 0) * K ⟨x.val / 64, by omega⟩ ⟨x.val % 64, by omega⟩
      = ∑ d, F d * K g d := by
  refine (Fin.sum_univ_add (a := 64) (b := 64) (M := EReal) _).trans ?_
  have e0 : ∀ d : Fin 64, (⟨(Fin.castAdd 64 d).val % 64, by omega⟩ : Fin 64) = d :=
    fun d => Fin.ext (by show d.val % 64 = d.val; omega)
  have e1 : ∀ d : Fin 64, (⟨(Fin.natAdd 64 d).val % 64, by omega⟩ : Fin 64) = d :=
    fun d => Fin.ext (by show (64 + d.val) % 64 = d.val; omega)
  have f0 : ∀ d : Fin 64, (Fin.castAdd 64 d).val / 64 = 0 := fun d => by show d.val / 64 = 0; omega
  have f1 : ∀ d : Fin 64, (Fin.natAdd 64 d).val / 64 = 1 := fun d => by show (64 + d.val) / 64 = 1; omega
  simp only [e0, e1, f0, f1]
  match g with
  | ⟨0, _⟩ => simp
  | ⟨1, _⟩ => simp

variable (q : Qs.Idx → EReal) (kc : Cs.Idx → EReal) (kl : Ls.Idx → EReal) (qr : Qs.Idx → ℝ) (cr : Cs.Idx → ℝ) (lr : Ls.Idx → ℝ)

/-- Element `d` of the key at position `l`, as a real. -/
def joinedReal (b : Fin 16) (g : Fin 2) (l : Fin 4352) (d : Fin 64) : ℝ :=
  if h : l.val < 256 then cr (ix4 b g ⟨l.val, h⟩ d) else lr (ix4 b g ⟨l.val - 256, by omega⟩ d)

/-- The score as a real. -/
def scoreReal (b : Fin 16) (h : Fin 8) (i : Fin 4096) (l : Fin 4352) : ℝ :=
  (∑ d, qr (ix4 b h i d) * joinedReal cr lr b (keyHead h) l d) * (1 / 8)

theorem joined_coe (hc : ∀ x, kc x = cr x) (hl : ∀ x, kl x = lr x) (b : Fin 16) (g : Fin 2) (l : Fin 4352) (d : Fin 64) :
    joined kc kl b g l d = (joinedReal cr lr b g l d : EReal) := by
  unfold joined joinedReal
  split_ifs
  · exact hc _
  · exact hl _

/-- The reference's score is that real. -/
theorem score_coe (hq : ∀ x, q x = qr x) (hc : ∀ x, kc x = cr x) (hl : ∀ x, kl x = lr x) (b : Fin 16) (h : Fin 8) (i : Fin 4096)
    (l : Fin 4352) : score q kc kl b h i l = (scoreReal qr cr lr b h i l : EReal) := by
  unfold score scoreReal
  simp only [hq, joined_coe kc kl cr lr hc hl, eighth_eq, ← EReal.coe_mul, coe_sum]

/-- The call's, from scaled queries, is that real over the logarithm of 2. -/
theorem scaled_score_coe (hq : ∀ x, q x = qr x) (hc : ∀ x, kc x = cr x) (hl : ∀ x, kl x = lr x) (b : Fin 16) (h : Fin 8) (i : Fin 4096)
    (l : Fin 4352) :
    ∑ d, Ideal.div (q (ix4 b h i d) * Ideal.ofBits FTy.f32 0x3E000000#32) (Ideal.log (Ideal.ofBits FTy.f32 0x40000000#32))
        * joined kc kl b (keyHead h) l d
      = ((scoreReal qr cr lr b h i l / Real.log 2 : ℝ) : EReal) := by
  have hL : 0 < Real.log 2 := Real.log_pos one_lt_two
  rw [eighth_eq, two_eq, Ideal.log_coe, if_neg (not_le.2 two_pos)]
  simp only [hq, joined_coe kc kl cr lr hc hl, Ideal.div_coe hL.ne', ← EReal.coe_mul, coe_sum]
  congr 1
  unfold scoreReal
  rw [Finset.sum_mul, Finset.sum_div]
  exact Finset.sum_congr rfl fun d _ => by ring

end Cert.AttendTerms

end
-- ==== Proof.Attend.Array.lean ====
/-
  The array the attention call leaves: 16 × 32 blocks of 128 query tokens, each over all the keys and values of its
  batch member, together the whole result. It is stated over finite queries and keys, which is where the call's
  softmax to base 2, divided at the end, is the reference's.
-/
module

public import proofs.«01_k».proof.Proof.Attend.Block
public import proofs.«01_k».proof.Proof.Attend.Host
public import proofs.«01_k».proof.Proof.Attend.Softmax

@[expose] public section

noncomputable section

namespace Cert.AttendIdeal.Array

open Cert.AttendIdeal Cert.AttendIdeal.Gen Cert.AttendTerms Idealize.ShloMosaic Idealize.ShloMosaic.TcCoe Idealize.SL.Sem
open Cert.AttendIdeal.Block Cert.AttendIdeal.Host

variable (m : (ℓ : Loc nD τ sig) → Buf (Elt Ideal) ℓ) (ρ : Dev nD → PrngReg)

/-- The result array, entry by entry, from the argument arrays. -/
def result (c : Dev nD) : S16x4096x512.Idx → EReal := fun i =>
  entry (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- The queries and the keys are real numbers. -/
def FiniteScores (c : Dev nD) : Prop :=
  Reals (S := S16x8x4096x64) (m ((c : Thread nD τ).loc main_arg0)) ∧ Reals (S := S16x2x256x64) (m ((c : Thread nD τ).loc main_arg1))
    ∧ Reals (S := S16x2x4096x64) (m ((c : Thread nD τ).loc main_arg2))

/-- Where each window stands at a point: the queries' at the result's batch member and token block, the keys' and the
    values' at its batch member. -/
theorem places : ∀ t : Fin grid0.N,
    (win0_0.index t 0 = win0_3.index t 0 ∧ win0_0.index t 1 = 0 ∧ win0_0.index t 2 = win0_3.index t 1 ∧ win0_0.index t 3 = 0)
    ∧ (win0_1.index t 0 = win0_3.index t 0 ∧ win0_1.index t 1 = 0 ∧ win0_1.index t 2 = 0)
    ∧ (win0_2.index t 0 = win0_3.index t 0 ∧ win0_2.index t 1 = 0 ∧ win0_2.index t 2 = 0)
    ∧ (win0_3.index t 0 < 16 ∧ win0_3.index t 1 < 32 ∧ win0_3.index t 2 = 0) := by
  decide +kernel

/-- Every block of the result is some point's. -/
theorem place_of : ∀ (b : Fin 16) (r : Fin 32), ∃ t : Fin grid0.N, win0_3.index t 0 = b.val ∧ win0_3.index t 1 = r.val := by
  decide +kernel

/-- The batch member of point `t`'s block. -/
def member (t : Fin grid0.N) : Fin 16 := ⟨win0_3.index t 0, (places t).2.2.2.1⟩

/-- The token of row `i` of point `t`'s block. -/
def token (t : Fin grid0.N) (i : Fin 128) : Fin 4096 :=
  ⟨win0_3.index t 1 * 128 + i.val, by have := (places t).2.2.2.2.1; have := i.isLt; omega⟩

/-- The block of queries at point `t`. -/
theorem queries_apply (c : Dev nD) (t : Fin cfg0.N) (h : Fin 8) (i y : Fin 128) :
    (iblk m c 0 t : Vec Ideal S1x8x128x128 .bf16) (ix4 0 h i y)
      = placed (m ((c : Thread nD τ).loc main_arg0)) (ix4 (member t) h (token t i) y) := by
  unfold iblk
  rw [View.read_apply]
  refine Eq.trans ?_ (congrFun (queries_eq m c) (ix4 (member t) h (token t i) y))
  refine congrArg (V m c main_v25) (funext fun a => Fin.ext ?_)
  obtain ⟨⟨h0, h1, h2, h3⟩, -⟩ := places t
  match a with
  | ⟨0, _⟩ => show win0_0.index t 0 * 1 + 1 * 0 = win0_3.index t 0; rw [h0]; omega
  | ⟨1, _⟩ => show win0_0.index t 1 * 8 + 1 * h.val = h.val; rw [h1]; omega
  | ⟨2, _⟩ => show win0_0.index t 2 * 128 + 1 * i.val = win0_3.index t 1 * 128 + i.val; rw [h2]; omega
  | ⟨3, _⟩ => show win0_0.index t 3 * 128 + 1 * y.val = y.val; rw [h3]; omega

/-- The block of keys at point `t`: all the positions of its batch member. -/
theorem keys_apply (c : Dev nD) (t : Fin cfg0.N) (l : Fin 4352) (y : Fin 128) :
    (iblk m c 1 t : Vec Ideal S1x4352x128 .bf16) (ix3 0 l y)
      = joined (m ((c : Thread nD τ).loc main_arg1)) (m ((c : Thread nD τ).loc main_arg2)) (member t)
          ⟨y.val / 64, by omega⟩ l ⟨y.val % 64, by omega⟩ := by
  refine Eq.trans ?_ ((congrFun (keys_eq m c) (ix3 (member t) l y)).trans (sideBySide_apply _ _ _ _ _))
  unfold iblk
  rw [View.read_apply]
  refine congrArg (V m c main_v26) (funext fun a => Fin.ext ?_)
  obtain ⟨-, ⟨h0, h1, h2⟩, -⟩ := places t
  match a with
  | ⟨0, _⟩ => show win0_1.index t 0 * 1 + 1 * 0 = win0_3.index t 0; rw [h0]; omega
  | ⟨1, _⟩ => show win0_1.index t 1 * 4352 + 1 * l.val = l.val; rw [h1]; omega
  | ⟨2, _⟩ => show win0_1.index t 2 * 128 + 1 * y.val = y.val; rw [h2]; omega

/-- The block of values at point `t`. -/
theorem values_apply (c : Dev nD) (t : Fin cfg0.N) (l : Fin 4352) (y : Fin 128) :
    (iblk m c 2 t : Vec Ideal S1x4352x128 .bf16) (ix3 0 l y)
      = joined (m ((c : Thread nD τ).loc main_arg3)) (m ((c : Thread nD τ).loc main_arg4)) (member t)
          ⟨y.val / 64, by omega⟩ l ⟨y.val % 64, by omega⟩ := by
  refine Eq.trans ?_ ((congrFun (values_eq m c) (ix3 (member t) l y)).trans (sideBySide_apply _ _ _ _ _))
  unfold iblk
  rw [View.read_apply]
  refine congrArg (V m c main_v27) (funext fun a => Fin.ext ?_)
  obtain ⟨-, -, ⟨h0, h1, h2⟩, -⟩ := places t
  match a with
  | ⟨0, _⟩ => show win0_2.index t 0 * 1 + 1 * 0 = win0_3.index t 0; rw [h0]; omega
  | ⟨1, _⟩ => show win0_2.index t 1 * 4352 + 1 * l.val = l.val; rw [h1]; omega
  | ⟨2, _⟩ => show win0_2.index t 2 * 128 + 1 * y.val = y.val; rw [h2]; omega

/-- A row of scores of point `t`'s blocks: the sum over all 128 lanes is the sum over the head's own half. -/
theorem lanes_eq (c : Dev nD) (t : Fin cfg0.N) (h : Fin 8) (i : Fin 128) (l : Fin 4352) :
    dots (iblk m c 0 t) (iblk m c 1 t) h i l
      = ∑ d, scaled (m ((c : Thread nD τ).loc main_arg0)) (ix4 (member t) h (token t i) d)
          * joined (m ((c : Thread nD τ).loc main_arg1)) (m ((c : Thread nD τ).loc main_arg2)) (member t) (keyHead h) l d := by
  refine Eq.trans (Finset.sum_congr rfl fun x _ => ?_) (sum_half (keyHead h)
    (fun d => scaled (m ((c : Thread nD τ).loc main_arg0)) (ix4 (member t) h (token t i) d))
    fun g d => joined (m ((c : Thread nD τ).loc main_arg1)) (m ((c : Thread nD τ).loc main_arg2)) (member t) g l d)
  rw [queries_apply, keys_apply, placed_apply]

/-- The block at point `t` is the result at the block's place. -/
theorem whole_eq (c : Dev nD) (hf : FiniteScores m c) (t : Fin cfg0.N) (i : Fin 128) (j : Fin 512) :
    whole (iblk m c 0 t) (iblk m c 1 t) (iblk m c 2 t) i j = result m c (ix3 (member t) (token t i) j) := by
  obtain ⟨hq, hc, hl⟩ := hf
  choose qr hqr using hq
  choose cr hcr using hc
  choose lr hlr using hl
  have hv : (fun l => (iblk m c 2 t : Vec Ideal S1x4352x128 .bf16) (ix3 0 l ⟨j.val / 256 * 64 + j.val % 64, by omega⟩))
      = fun l => joined (m ((c : Thread nD τ).loc main_arg3)) (m ((c : Thread nD τ).loc main_arg4)) (member t) (keyHead (head j)) l (lane j) := by
    funext l
    rw [values_apply]
    congr 1
    · apply Fin.ext
      show (j.val / 256 * 64 + j.val % 64) / 64 = j.val / 64 / 4
      omega
    · apply Fin.ext
      show (j.val / 256 * 64 + j.val % 64) % 64 = j.val % 64
      omega
  have ht : dots (iblk m c 0 t) (iblk m c 1 t) (head j) i
      = fun l => ((scoreReal qr cr lr (member t) (head j) (token t i) l / Real.log 2 : ℝ) : EReal) := by
    funext l
    rw [lanes_eq]
    simp only [scaled_apply]
    exact scaled_score_coe _ _ _ qr cr lr hqr hcr hlr _ _ _ _
  have hs : score (m ((c : Thread nD τ).loc main_arg0)) (m ((c : Thread nD τ).loc main_arg1)) (m ((c : Thread nD τ).loc main_arg2))
      (member t) (head j) (token t i) = fun l => (scoreReal qr cr lr (member t) (head j) (token t i) l : EReal) :=
    funext fun l => score_coe _ _ _ qr cr lr hqr hcr hlr _ _ _ _
  unfold whole cell result entry
  rw [ht, hv, weighedBase2_eq, ← hs]
  rfl

/-- What point `t` writes back is its block of the result. -/
theorem flushed_eq (c : Dev nD) (hf : FiniteScores m c) (t : Fin cfg0.N) :
    (dats m 0 c).flushed 3 t = ((cfg0.win 3).blk t).view.read (Elt Ideal) (result m c) := by
  rw [Value.flushed3, out_eq]
  funext y
  rw [View.read_apply]
  refine (whole_eq m c hf t (y 1) (y 2)).trans ?_
  refine congrArg (result m c) (funext fun a => Fin.ext ?_)
  obtain ⟨-, -, -, -, -, h2⟩ := places t
  have hy : (y 0 : Nat) < 1 := (y 0).isLt
  match a with
  | ⟨0, _⟩ => show win0_3.index t 0 = win0_3.index t 0 * 1 + 1 * (y 0 : Nat); omega
  | ⟨1, _⟩ => show win0_3.index t 1 * 128 + (y 1 : Nat) = win0_3.index t 1 * 128 + 1 * (y 1 : Nat); omega
  | ⟨2, _⟩ => show (y 2 : Nat) = win0_3.index t 2 * 512 + 1 * (y 2 : Nat); rw [h2]; omega

/-- The blocks cover the result array, so it ends at the result. -/
theorem final (c : Dev nD) (hf : FiniteScores m c) : (dats m 0 c).arrAt 3 cfg0.N = result m c :=
  (dats m 0 c).arrAt_eq_of_cover 3 (result m c) (fun t _ => flushed_eq m c hf t) fun i => by
    have h0 : (i 0 : Nat) < 16 := (i 0).isLt
    have h1 : (i 1 : Nat) < 4096 := (i 1).isLt
    have h2 : (i 2 : Nat) < 512 := (i 2).isLt
    obtain ⟨t, e0, e1⟩ := place_of ⟨(i 0 : Nat), h0⟩ ⟨(i 1 : Nat) / 128, by omega⟩
    obtain ⟨-, -, -, -, -, e2⟩ := places t
    refine ⟨t, flush0_3 t, ?_⟩
    show i ∈ ((View.whole main_v28).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; rw [e0]; dsimp only; omega
    | ⟨1, _⟩ => show win0_3.index t 1 * 128 ≤ (i 1 : Nat) ∧ (i 1 : Nat) < win0_3.index t 1 * 128 + 128; rw [e1]; dsimp only; omega
    | ⟨2, _⟩ => show win0_3.index t 2 * 512 ≤ (i 2 : Nat) ∧ (i 2 : Nat) < win0_3.index t 2 * 512 + 512; rw [e2]; omega

/-- The run: the result array at the result, the arguments unchanged. -/
theorem run (hf : ∀ c, FiniteScores m c) :
    θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c (hf c)), (h c).2⟩) (Value.run_blocks m ρ)

end Cert.AttendIdeal.Array

end
-- ==== Proof.Attend.Ref.lean ====
/-
  The plain attention read at an entry: the softmax of the scores, each weight divided, over the values.
-/
module

public import proofs.«01_k».proof.Proof.Attend.Terms
public import proofs.«01_k».proof.Proof.Gen.AttendRefIdeal.Run

@[expose] public section

noncomputable section

namespace Cert.AttendRefIdeal.Entry

open Cert.AttendRefIdeal Cert.AttendRefIdeal.Gen Cert.AttendTerms Idealize.ShloMosaic Idealize.ShloMosaic.TcCoe

/-! ## The steps, each over the array the one before it leaves -/

/-- The keys, or the values, of the context and of the latent tokens as one array. -/
def joinedAll (c : S16x2x256x64.Idx → EReal) (x : S16x2x4096x64.Idx → EReal) : FVec Ideal S16x2x4352x64 .f32 :=
  concatenate S16x2x4352x64 2 [⟨S16x2x256x64, c⟩, ⟨S16x2x4096x64, x⟩] concatenates_S16x2x256x64_S16x2x4096x64_S16x2x4352x64_d2

/-- All the scores. -/
def scoresAll (q : S16x8x4096x64.Idx → EReal) (k : S16x2x4352x64.Idx → EReal) : FVec Ideal S16x2x4x4096x4352 .f32 :=
  mulf (Host.dotGeneral (φ₁ := .f32) (φ₂ := .f32) dot_S16x2x4x4096x64_S16x2x4352x64_S16x2x4x4096x4352_4_3_23_2_01_01 none
      (shapeCast S16x2x4x4096x64 q shapeCasts_S16x8x4096x64_S16x2x4x4096x64) k)
    (broadcastInDim S16x2x4x4096x4352 ![] bcast_S_S16x2x4x4096x4352 (constant S_ .f32 0x3E000000#32))

/-- The greatest score of each row. -/
def greatestAll (s : FVec Ideal S16x2x4x4096x4352 .f32) : FVec Ideal S16x2x4x4096 .f32 :=
  Host.reduce (FloatOps.maximumf (F := Ideal) (φ := .f32)) s (constant (F := Ideal) S_ .f32 0xFF800000#32)
    reducesTo_S16x2x4x4096x4352_S16x2x4x4096_d4 h_S_

/-- The exponentials of the scores `s` less their rows' `g`. -/
def weightsAll (s : FVec Ideal S16x2x4x4096x4352 .f32) (g : FVec Ideal S16x2x4x4096 .f32) : FVec Ideal S16x2x4x4096x4352 .f32 :=
  Host.exp (subf s (broadcastInDim S16x2x4x4096x4352 ![0, 1, 2, 3, 4] bcast_S16x2x4x4096x1_S16x2x4x4096x4352_0_1_2_3_4
    (broadcastInDim S16x2x4x4096x1 ![0, 1, 2, 3] bcast_S16x2x4x4096_S16x2x4x4096x1_0_1_2_3
      (maximumf (broadcastInDim S16x2x4x4096 ![] bcast_S_S16x2x4x4096 (constant S_ .f32 0xFF800000#32)) g))))

/-- The exponentials over their sums. -/
def softmaxAll (w : FVec Ideal S16x2x4x4096x4352 .f32) : FVec Ideal S16x2x4x4096x4352 .f32 :=
  Host.divf w (broadcastInDim S16x2x4x4096x4352 ![0, 1, 2, 3, 4] bcast_S16x2x4x4096x1_S16x2x4x4096x4352_0_1_2_3_4
    (broadcastInDim S16x2x4x4096x1 ![0, 1, 2, 3] bcast_S16x2x4x4096_S16x2x4x4096x1_0_1_2_3
      (Host.reduceAdd w (constant S_ .f32 0x00000000#32) reducesTo_S16x2x4x4096x4352_S16x2x4x4096_d4 h_S_)))

/-- The weights over the values, the heads side by side. -/
def outAll (p : FVec Ideal S16x2x4x4096x4352 .f32) (v : S16x2x4352x64.Idx → EReal) : FVec Ideal S16x4096x512 .bf16 :=
  truncf .bf16 (shapeCast S16x4096x512 (transpose S16x4096x8x64 [0, 2, 1, 3] (shapeCast S16x8x4096x64
    (Host.dotGeneral (φ₁ := .f32) (φ₂ := .f32) dot_S16x2x4x4096x4352_S16x2x4352x64_S16x2x4x4096x64_4_2_23_3_01_01 none p v)
    shapeCasts_S16x2x4x4096x64_S16x8x4096x64) transposes_S16x8x4096x64_S16x4096x8x64_0_2_1_3) shapeCasts_S16x4096x8x64_S16x4096x512) bitsLt_bf16_f32

set_option maxRecDepth 16384 in
theorem joinedAll_apply (c : S16x2x256x64.Idx → EReal) (x : S16x2x4096x64.Idx → EReal) (b : Fin 16) (g : Fin 2) (l : Fin 4352)
    (d : Fin 64) : joinedAll c x (ix4 b g l d) = joined c x b g l d := by
  unfold joined
  pointwise [joinedAll]

set_option maxRecDepth 16384 in
theorem scoresAll_apply (q : S16x8x4096x64.Idx → EReal) (k : S16x2x4352x64.Idx → EReal)
    (b : Fin 16) (g : Fin 2) (e : Fin 4) (i : Fin 4096) (l : Fin 4352) :
    scoresAll q k (ix5 b g e i l)
      = (∑ d, q (ix4 b ⟨g.val * 4 + e.val, by omega⟩ i d) * k (ix4 b g l d)) * Ideal.ofBits FTy.f32 0x3E000000#32 := by
  pointwise [scoresAll]

set_option maxRecDepth 16384 in
theorem greatestAll_apply (s : FVec Ideal S16x2x4x4096x4352 .f32) (b : Fin 16) (g : Fin 2) (e : Fin 4) (i : Fin 4096) :
    greatestAll s (ix4 b g e i) = greatest fun x => s (ix5 b g e i x) := by
  unfold greatest
  pointwise [greatestAll]

set_option maxRecDepth 16384 in
theorem weightsAll_apply (s : FVec Ideal S16x2x4x4096x4352 .f32) (y : FVec Ideal S16x2x4x4096 .f32)
    (b : Fin 16) (g : Fin 2) (e : Fin 4) (i : Fin 4096) (l : Fin 4352) :
    weightsAll s y (ix5 b g e i l)
      = Ideal.exp (s (ix5 b g e i l) - max (Ideal.ofBits FTy.f32 0xFF800000#32) (y (ix4 b g e i))) := by
  pointwise [weightsAll]

set_option maxRecDepth 16384 in
theorem softmaxAll_apply (w : FVec Ideal S16x2x4x4096x4352 .f32)
    (b : Fin 16) (g : Fin 2) (e : Fin 4) (i : Fin 4096) (l : Fin 4352) :
    softmaxAll w (ix5 b g e i l) = Ideal.div (w (ix5 b g e i l)) (∑ x, w (ix5 b g e i x)) := by
  pointwise [softmaxAll]

set_option maxRecDepth 16384 in
theorem outAll_apply (p : FVec Ideal S16x2x4x4096x4352 .f32) (v : S16x2x4352x64.Idx → EReal) (b : Fin 16) (i : Fin 4096) (j : Fin 512) :
    outAll p v (ix3 b i j) = ∑ l, p (ix5 b ⟨j.val / 64 / 4, by omega⟩ ⟨j.val / 64 % 4, by omega⟩ i l)
        * v (ix4 b ⟨j.val / 64 / 4, by omega⟩ l ⟨j.val % 64, by omega⟩) := by
  pointwise [outAll]

/-- The result at an entry. -/
theorem result_apply (q : S16x8x4096x64.Idx → EReal) (kc : S16x2x256x64.Idx → EReal) (kl : S16x2x4096x64.Idx → EReal)
    (vc : S16x2x256x64.Idx → EReal) (vl : S16x2x4096x64.Idx → EReal) (b : Fin 16) (i : Fin 4096) (j : Fin 512) :
    outAll (softmaxAll (weightsAll (scoresAll q (joinedAll kc kl)) (greatestAll (scoresAll q (joinedAll kc kl))))) (joinedAll vc vl)
        (ix3 b i j)
      = entry q kc kl vc vl b i j := by
  have hs : (fun l => scoresAll q (joinedAll kc kl) (ix5 b ⟨j.val / 64 / 4, by omega⟩ ⟨j.val / 64 % 4, by omega⟩ i l))
      = score q kc kl b (head j) i := by
    funext l
    rw [scoresAll_apply]
    unfold score
    have hh : (⟨j.val / 64 / 4 * 4 + j.val / 64 % 4, by omega⟩ : Fin 8) = head j := Fin.ext (by show j.val / 64 / 4 * 4 + j.val / 64 % 4 = j.val / 64; omega)
    simp only [joinedAll_apply]
    rw [show (⟨(⟨j.val / 64 / 4, by omega⟩ : Fin 2).val * 4 + (⟨j.val / 64 % 4, by omega⟩ : Fin 4).val, by omega⟩ : Fin 8) = head j from hh]
    rfl
  rw [outAll_apply]
  unfold entry weighed
  refine Finset.sum_congr rfl fun l _ => ?_
  rw [joinedAll_apply, softmaxAll_apply]
  simp only [weightsAll_apply, greatestAll_apply]
  rw [hs, max_greatest]
  simp only [fun l => congrFun hs l]
  rfl

variable (m : (ℓ : Loc nD τ sig) → Buf (Elt Ideal) ℓ) (ρ : Dev nD → PrngReg)

/-- The run: the result array at these entries, the arguments unchanged. -/
theorem run : θ_run defs (onTc (τ := τ) (main (F := Ideal))) ⟨m, fun _ => 0, ρ⟩ fun r => ∀ c : Dev nD,
      r.2.mem ((c : Thread nD τ).loc main_v21) = (fun i : S16x4096x512.Idx =>
          entry (m ((c : Thread nD τ).loc main_arg0)) (m ((c : Thread nD τ).loc main_arg1)) (m ((c : Thread nD τ).loc main_arg2))
            (m ((c : Thread nD τ).loc main_arg3)) (m ((c : Thread nD τ).loc main_arg4)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (funext fun i => by
      rw [eq_ix3 i]
      exact result_apply _ _ _ _ _ (i 0) (i 1) (i 2)), (h c).2⟩) (Value.run m ρ)

end Cert.AttendRefIdeal.Entry

end
-- ==== Proof.Attend.Pre.lean ====
/-
  The precondition, read as numbers: an entry whose absolute value is below infinity is a real number.
-/
module

public import proofs.«01_k».proof.Proof.Attend.Softmax
public import proofs.«01_k».proof.Proof.Gen.Pre_scores_finite
public import Idealize.ShloMosaic.Lib.ReduceAll

@[expose] public section

noncomputable section

namespace Cert.AttendTerms

open Cert.Pre_scores_finite Cert.Pre_scores_finite.Gen Idealize.ShloMosaic

/-- The bound's word is infinity. -/
theorem bound_eq : Ideal.ofBits FTy.f32 0x7F800000#32 = ⊤ := by
  simp [Ideal.ofBits, Ideal.ieee]

/-- An absolute value below infinity is a real number's. -/
theorem real_of_check (x : EReal) (h : Ideal.cmp .olt (max x (-x)) ⊤ = 1#1) : ∃ r : ℝ, x = r := by
  induction x with
  | coe r => exact ⟨r, rfl⟩
  | bot => simp [Ideal.cmp] at h
  | top => simp [Ideal.cmp] at h

/-- The check of a whole array. -/
theorem reals_of_checks {S : Shape} {axes : List (Fin S.rank)} (x : FVec Ideal S .f32) (hb : S_.BroadcastsInDim S (![] : Fin 0 → Fin S.rank))
    (hr : S.ReducesTo axes S_) (h0 : 0 < S_.numel) (j : S_.Idx)
    (h : Host.reduce IntOp.andi (cmpf .olt (Host.absf x) (broadcastInDim S ![] hb (constant S_ .f32 0x7F800000#32))) (constantI S_ 1 1#1) hr h0 j = 1#1) :
    Reals x := fun i => by
  haveI : Subsingleton S_.Idx := ⟨fun a b => funext fun k => k.elim0⟩
  have e := Host.reduce_andi_all _ _ hr h0 j h i
  refine real_of_check _ ?_
  rw [← bound_eq]
  exact e

/-- The precondition says that the queries and the keys are real numbers. -/
theorem reals_of_pre (q : FVec Ideal S16x8x4096x64 .f32) (kc : FVec Ideal S16x2x256x64 .f32) (kl : FVec Ideal S16x2x4096x64 .f32)
    (vc : FVec Ideal S16x2x256x64 .f32) (vl : FVec Ideal S16x2x4096x64 .f32)
    (h : Cert.Pre_scores_finite.fn (F := Ideal) q kc kl vc vl = fun _ => 1#1) : Reals q ∧ Reals kc ∧ Reals kl := by
  have e := congrFun h (Shape.Idx.first Facts.h_S_)
  obtain ⟨e2, e3⟩ := IntOp.andi_eq_one.1 e
  obtain ⟨e1, e2⟩ := IntOp.andi_eq_one.1 e2
  exact ⟨reals_of_checks q Facts.bcast_S_S16x8x4096x64 Facts.reducesTo_S16x8x4096x64_S_d0_1_2_3 Facts.h_S_ _ e1,
    reals_of_checks kc Facts.bcast_S_S16x2x256x64 Facts.reducesTo_S16x2x256x64_S_d0_1_2_3 Facts.h_S_ _ e2,
    reals_of_checks kl Facts.bcast_S_S16x2x4096x64 Facts.reducesTo_S16x2x4096x64_S_d0_1_2_3 Facts.h_S_ _ e3⟩

end Cert.AttendTerms

end
-- ==== Proof.Merge.Terms.lean ====
/-
  The merge projection, entry by entry over the extended reals: the two branches' projections weighed by their
  gates, their product with the output weights added to the stream, the norm of the new stream's row, and the
  router's logits.
-/
module

public import proofs.«01_k».proof.Proof.InProj.Terms

@[expose] public section

noncomputable section

namespace Cert.MergeTerms

open Idealize.ShloMosaic Cert.InProjTerms

/-- The gate as the reference computes it: the logistic function. -/
def logistic (x : EReal) : EReal := Ideal.div 1 (1 + Ideal.exp (-x))

/-- The gate as the kernel computes it: half of the hyperbolic tangent of half, and a half. -/
def halfTanh (x : EReal) : EReal :=
  Ideal.ofBits FTy.f32 0x3F000000#32 * Ideal.tanh (Ideal.ofBits FTy.f32 0x3F000000#32 * x) + Ideal.ofBits FTy.f32 0x3F000000#32

/-- One element of the merged branches: each branch's projection times its gate. -/
def gated (σ : EReal → EReal) (za zb : EReal) (a b wa wb : Fin 512 → EReal) : EReal :=
  σ za * (∑ k, a k * wa k) + σ zb * ∑ k, b k * wb k

/-- One element of the new stream: the old one plus the gain times the merged row's product with the output weights. -/
def stream (σ : EReal → EReal) (h g1 : EReal) (za zb : Fin 1024 → EReal) (a b : Fin 512 → EReal)
    (wa wb : Fin 512 → Fin 1024 → EReal) (wo : Fin 1024 → EReal) : EReal :=
  h + g1 * ∑ k, gated σ (za k) (zb k) a b (fun l => wa l k) (fun l => wb l k) * wo k

/-- The column of the row that lane `y` of chunk `j` holds: the chunk's 128 columns of the left half, then its 128
    columns of the right half. -/
def column (j : Fin 4) (y : Fin 256) : Fin 1024 := ⟨y.val / 128 * 512 + j.val * 128 + y.val % 128, by omega⟩

/-! ## The whole arrays -/

/-- The shapes of the stream, the branches, the gates, the branches' weights, the output weights, the gain, the
    norm's scale, the two routers' weights and biases. -/
abbrev Hs : Shape := ⟨3, ![16, 4096, 1024]⟩
abbrev Bs : Shape := ⟨3, ![16, 4096, 512]⟩
abbrev Zs : Shape := ⟨3, ![16, 4096, 5376]⟩
abbrev Us : Shape := ⟨2, ![512, 1024]⟩
abbrev Os : Shape := ⟨2, ![1024, 1024]⟩
abbrev Ms : Shape := ⟨3, ![16, 1, 1024]⟩
abbrev Ns : Shape := ⟨1, ![1024]⟩
abbrev Gs : Shape := ⟨2, ![1024, 4]⟩
abbrev Es : Shape := ⟨2, ![1024, 32]⟩

section
variable (h : Hs.Idx → EReal) (a b : Bs.Idx → EReal) (z : Zs.Idx → EReal) (wa wb : Us.Idx → EReal) (wo : Os.Idx → EReal)
  (g1 : Ms.Idx → EReal) (n2 : Ns.Idx → EReal) (sc sh : Ms.Idx → EReal)

/-- The new stream of token `i` of batch member `n`. The gates are the first 2048 columns of `z`. -/
def streamAt (n : Fin 16) (i : Fin 4096) (k : Fin 1024) : EReal :=
  stream logistic (h (ix3 n i k)) (g1 (ix3 n 0 k)) (fun l => z (ix3 n i ⟨l.val, by omega⟩))
    (fun l => z (ix3 n i ⟨1024 + l.val, by omega⟩)) (fun l => a (ix3 n i l)) (fun l => b (ix3 n i l))
    (fun l k => wa (ix2 l k)) (fun l k => wb (ix2 l k)) fun l => wo (ix2 l k)

/-- Its normed row. -/
def normedAt (n : Fin 16) (i : Fin 4096) (k : Fin 1024) : EReal :=
  normed (streamAt h a b z wa wb wo g1 n i) (fun l => n2 (ix1 l)) (fun l => sc (ix3 n 0 l)) (fun l => sh (ix3 n 0 l)) k

/-- The batch member and the place in it of token `r` of all the tokens. -/
def member (r : Fin 65536) : Fin 16 := ⟨r.val / 4096, by omega⟩
def place (r : Fin 65536) : Fin 4096 := ⟨r.val % 4096, by omega⟩

/-- The normed row of token `r` in chunks. -/
def chunkAt (j : Fin 4) (r : Fin 65536) (y : Fin 256) : EReal :=
  normedAt h a b z wa wb wo g1 n2 sc sh (member r) (place r) (column j y)
end

/-- Column `j` of the routers' weights: the groups' four, the experts' 32, then zeros. -/
def routers (wg : Gs.Idx → EReal) (we : Es.Idx → EReal) (k : Fin 1024) (j : Fin 128) : EReal :=
  if hg : j.val < 4 then wg (ix2 k ⟨j.val, hg⟩) else if he : j.val < 36 then we (ix2 k ⟨j.val - 4, by omega⟩) else 0

/-- And of their biases. -/
def biases (bg : (⟨1, ![4]⟩ : Shape).Idx → EReal) (be : (⟨1, ![32]⟩ : Shape).Idx → EReal) (j : Fin 128) : EReal :=
  if hg : j.val < 4 then bg (ix1 ⟨j.val, hg⟩) else if he : j.val < 36 then be (ix1 ⟨j.val - 4, by omega⟩) else 0

/-- A logit of the row `x`. -/
def logit (x w : Fin 1024 → EReal) (β : EReal) : EReal := (∑ k, x k * w k) + β

/-- Logit `j` of token `r`, from the whole arrays. -/
def logitAt (h : Hs.Idx → EReal) (a b : Bs.Idx → EReal) (z : Zs.Idx → EReal) (wa wb : Us.Idx → EReal) (wo : Os.Idx → EReal)
    (g1 : Ms.Idx → EReal) (n2 : Ns.Idx → EReal) (sc sh : Ms.Idx → EReal) (wg : Gs.Idx → EReal) (bg : (⟨1, ![4]⟩ : Shape).Idx → EReal)
    (we : Es.Idx → EReal) (be : (⟨1, ![32]⟩ : Shape).Idx → EReal) (r : Fin 65536) (j : Fin 128) : EReal :=
  logit (normedAt h a b z wa wb wo g1 n2 sc sh (member r) (place r)) (fun k => routers wg we k j) (biases bg be j)

/-- A logit as the kernel sums it: of the row and the weights rounded, of what the rounding left of the row, and of
    what it left of the weights (over the extended reals a rounding changes nothing). -/
def logitSplit (x w : Fin 1024 → EReal) (wl : Fin 1024 → EReal) (β : EReal) : EReal :=
  (∑ k, x k * w k) + (∑ k, (x k - x k) * w k) + (∑ k, x k * wl k) + β

end Cert.MergeTerms

end
-- ==== Proof.Merge.Reals.lean ====
/-
  The kernel's gate is the logistic function; of real rows and weights the low parts of the router's product vanish;
  and from real arguments the normed rows are real, whatever the gates.
-/
module

public import proofs.«01_k».proof.Proof.Merge.Terms
public import proofs.«01_k».proof.Proof.Attend.Softmax

@[expose] public section

noncomputable section

namespace Cert.MergeTerms

open Idealize.ShloMosaic Cert.InProjTerms Cert.AttendTerms

theorem half_eq : Ideal.ofBits FTy.f32 0x3F000000#32 = ((1 / 2 : ℝ) : EReal) := by
  simp [Ideal.ofBits, Ideal.ieee, -EReal.coe_mul]
  norm_num

/-- The logistic function of a real. -/
theorem logistic_coe (r : ℝ) : logistic r = ((1 / (1 + Real.exp (-r)) : ℝ) : EReal) := by
  have h : (1 : ℝ) + Real.exp (-r) ≠ 0 := (by positivity : (0 : ℝ) < 1 + Real.exp (-r)).ne'
  unfold logistic
  rw [← EReal.coe_neg, Ideal.exp_coe, ← EReal.coe_one, ← EReal.coe_add, Ideal.div_coe h, ← EReal.coe_mul, one_mul]

theorem half_tanh_half (r : ℝ) : 1 / 2 * Real.tanh (1 / 2 * r) + 1 / 2 = 1 / (1 + Real.exp (-r)) := by
  have e : Real.exp (-r) = Real.exp (-(1 / 2 * r)) * Real.exp (-(1 / 2 * r)) := by rw [← Real.exp_add]; congr 1; ring
  have e1 : Real.exp (1 / 2 * r) * Real.exp (-(1 / 2 * r)) = 1 := by rw [← Real.exp_add]; simp
  have h1 := Real.exp_pos (1 / 2 * r)
  have h2 := Real.exp_pos (-(1 / 2 * r))
  rw [Real.tanh_eq_sinh_div_cosh, Real.sinh_eq, Real.cosh_eq, e]
  generalize Real.exp (1 / 2 * r) = u at *
  generalize Real.exp (-(1 / 2 * r)) = v at *
  field_simp
  linear_combination 2 * v * e1

theorem logistic_top : logistic ⊤ = ((1 : ℝ) : EReal) := by
  unfold logistic
  rw [EReal.neg_top, Ideal.exp_bot, add_zero, ← EReal.coe_one, Ideal.div_coe one_ne_zero]
  norm_num

theorem logistic_bot : logistic ⊥ = ((0 : ℝ) : EReal) := by
  unfold logistic
  rw [EReal.neg_bot, Ideal.exp_top]
  have : (1 : EReal) + ⊤ = ⊤ := EReal.add_top_of_ne_bot (by decide)
  rw [this]
  simp [Ideal.div]

/-- The two gates agree. -/
theorem halfTanh_eq : halfTanh = logistic := by
  funext x
  unfold halfTanh
  rw [half_eq]
  induction x with
  | coe r => rw [← EReal.coe_mul, Ideal.tanh_coe, ← EReal.coe_mul, ← EReal.coe_add, logistic_coe, half_tanh_half]
  | bot =>
    rw [logistic_bot, EReal.coe_mul_bot_of_pos (by norm_num), Ideal.tanh_bot, ← EReal.coe_one, ← EReal.coe_neg, ← EReal.coe_mul,
      ← EReal.coe_add]
    norm_num
  | top =>
    rw [logistic_top, EReal.coe_mul_top_of_pos (by norm_num), Ideal.tanh_top, ← EReal.coe_one, ← EReal.coe_mul, ← EReal.coe_add]
    norm_num

/-- A gate is a real number, whatever its argument. -/
theorem logistic_real (x : EReal) : ∃ r : ℝ, logistic x = r := by
  induction x with
  | coe r => exact ⟨_, logistic_coe r⟩
  | bot => exact ⟨_, logistic_bot⟩
  | top => exact ⟨_, logistic_top⟩

/-! ## Real numbers among the extended reals -/

/-- The number is real. -/
def IsReal (x : EReal) : Prop := ∃ r : ℝ, x = r

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.sum {ι : Type} (s : Finset ι) {f : ι → EReal} (h : ∀ k, IsReal (f k)) : IsReal (∑ k ∈ s, f k) := by
  choose g hg using h
  exact ⟨∑ k ∈ s, g k, by rw [← coe_sum]; exact Finset.sum_congr rfl fun k _ => hg k⟩

theorem IsReal.sub_self {x : EReal} (hx : IsReal x) : x - x = 0 := by
  obtain ⟨r, rfl⟩ := hx; rw [← EReal.coe_sub, _root_.sub_self, EReal.coe_zero]

theorem count_eq : Ideal.ofBits FTy.f32 1149239296#32 = ((1024 : ℝ) : EReal) := by
  simp [Ideal.ofBits, Ideal.ieee, -EReal.coe_mul]
  norm_num

theorem small_pos : ∃ ε : ℝ, 0 < ε ∧ Ideal.ofBits FTy.f32 897988541#32 = (ε : EReal) := by
  refine ⟨_, ?_, by simp [Ideal.ofBits, Ideal.ieee, -EReal.coe_mul]; rfl⟩
  positivity

/-- The root of a real row's mean square plus the small constant is real: the sum is positive. -/
theorem root_real {h : Fin 1024 → EReal} (hh : ∀ k, IsReal (h k)) :
    IsReal (Ideal.rsqrt (Ideal.div (∑ x, h x * h x) (Ideal.ofBits FTy.f32 1149239296#32) + Ideal.ofBits FTy.f32 897988541#32)) := by
  choose g hg using hh
  obtain ⟨ε, hε, e⟩ := small_pos
  rw [e, count_eq, Ideal.div_coe (by norm_num)]
  simp only [hg, ← EReal.coe_mul]
  rw [coe_sum, ← EReal.coe_mul, ← EReal.coe_add, Ideal.rsqrt_coe]
  have hp : 0 < (∑ l, g l * g l) * (1 / 1024) + ε :=
    add_pos_of_nonneg_of_pos (mul_nonneg (Finset.sum_nonneg fun l _ => mul_self_nonneg _) (by norm_num)) hε
  rw [if_neg (not_lt.2 hp.le), if_neg hp.ne']
  exact ⟨_, rfl⟩

/-- A normed row of real numbers is real. -/
theorem normed_real {h g sc sh : Fin 1024 → EReal} (hh : ∀ k, IsReal (h k)) (hg : ∀ k, IsReal (g k)) (hc : ∀ k, IsReal (sc k))
    (hs : ∀ k, IsReal (sh k)) (k : Fin 1024) : IsReal (normed h g sc sh k) :=
  ((((hh k).mul (root_real hh)).mul (hg k)).mul (IsReal.add ⟨1, EReal.coe_one.symm⟩ (hc k))).add (hs k)

/-- So is the new stream, whatever the gates. -/
theorem stream_real {h g1 : EReal} {za zb : Fin 1024 → EReal} {a b : Fin 512 → EReal} {wa wb : Fin 512 → Fin 1024 → EReal}
    {wo : Fin 1024 → EReal} (hh : IsReal h) (hg : IsReal g1) (ha : ∀ k, IsReal (a k)) (hb : ∀ k, IsReal (b k))
    (hwa : ∀ l k, IsReal (wa l k)) (hwb : ∀ l k, IsReal (wb l k)) (hwo : ∀ k, IsReal (wo k)) :
    IsReal (stream logistic h g1 za zb a b wa wb wo) :=
  hh.add (hg.mul (IsReal.sum _ fun k => IsReal.mul (IsReal.add
    (IsReal.mul (logistic_real _) (IsReal.sum _ fun l => (ha l).mul (hwa l k)))
    (IsReal.mul (logistic_real _) (IsReal.sum _ fun l => (hb l).mul (hwb l k)))) (hwo k)))

/-- Of a real row and real weights the split logit is the logit. -/
theorem logitSplit_eq {x w : Fin 1024 → EReal} (hx : ∀ k, IsReal (x k)) (hw : ∀ k, IsReal (w k)) (β : EReal) :
    logitSplit x w (fun k => w k - w k) β = logit x w β := by
  unfold logitSplit logit
  simp only [fun k => (hx k).sub_self, fun k => (hw k).sub_self, zero_mul, mul_zero, Finset.sum_const_zero, add_zero]

section
variable {h : Hs.Idx → EReal} {a b : Bs.Idx → EReal} (z : Zs.Idx → EReal) {wa wb : Us.Idx → EReal} {wo : Os.Idx → EReal}
  {g1 : Ms.Idx → EReal} {n2 : Ns.Idx → EReal} {sc sh : Ms.Idx → EReal}

/-- From real arrays every normed row is real. -/
theorem normedAt_real (hh : Reals h) (ha : Reals a) (hb : Reals b) (hwa : Reals wa) (hwb : Reals wb) (hwo : Reals wo)
    (hg : Reals g1) (hn : Reals n2) (hc : Reals sc) (hs : Reals sh) (n : Fin 16) (i : Fin 4096) (k : Fin 1024) :
    IsReal (normedAt h a b z wa wb wo g1 n2 sc sh n i k) :=
  normed_real (fun _ => stream_real (hh _) (hg _) (fun _ => ha _) (fun _ => hb _) (fun _ _ => hwa _) (fun _ _ => hwb _) fun _ => hwo _)
    (fun _ => hn _) (fun _ => hc _) (fun _ => hs _) k
end

/-- The routers' columns of real weights are real. -/
theorem routers_real {wg : Gs.Idx → EReal} {we : Es.Idx → EReal} (hg : Reals wg) (he : Reals we) (k : Fin 1024) (j : Fin 128) :
    IsReal (routers wg we k j) := by
  unfold routers
  split_ifs
  · exact hg _
  · exact he _
  · exact ⟨0, EReal.coe_zero.symm⟩

end Cert.MergeTerms

end
-- ==== Proof.Merge.SubBlock.lean ====
/-
  What one sub-block of 128 rows of the merge projection's body stores, entry by entry from the rows it loads: the new
  stream, the normed rows in chunks and the logits.
-/
module

public import proofs.«01_k».proof.Proof.Merge.Reals
public import proofs.«01_k».proof.Proof.Gen.MergeIdeal.Value
public import Idealize.ShloMosaic.Lib.Pipeline.ValueKit

@[expose] public section

noncomputable section

namespace Cert.MergeIdeal.SubBlock

open Cert.MergeIdeal Cert.MergeIdeal.Gen Cert.InProjTerms Cert.MergeTerms Idealize.ShloMosaic Idealize.ShloMosaic.TcCoe

/-! ## One sub-block, from the rows it loads -/

section
variable (a b : Vec Ideal S1x128x512 .bf16) (za zb : Vec Ideal S1x128x1024 .bf16) (wa wb : Vec Ideal S512x1024 .bf16)
  (h : Vec Ideal S1x128x1024 .f32) (g1 : Vec Ideal S1x1x1024 .f32) (wo : Vec Ideal S1024x1024 .bf16)

set_option maxRecDepth 16384 in
/-- The merged branches at an entry. -/
theorem pay2_apply (i : Fin 128) (k : Fin 1024) :
    k0_pay2 a wa b wb za zb (ix2 i k)
      = gated logistic (za (ix3 0 i k)) (zb (ix3 0 i k)) (fun l => a (ix3 0 i l)) (fun l => b (ix3 0 i l))
          (fun l => wa (ix2 l k)) (fun l => wb (ix2 l k)) := by
  rw [← halfTanh_eq]
  pointwise [k0_pay2, gated, halfTanh]

set_option maxRecDepth 16384 in
/-- The new stream at an entry, from the merged branches. -/
theorem pay3_apply (y : FVec Ideal S128x1024 .bf16) (i : Fin 128) (k : Fin 1024) :
    k0_pay3 y h g1 wo (ix2 i k) = h (ix3 0 i k) + g1 (ix3 0 0 k) * ∑ l, y (ix2 i l) * wo (ix2 l k) := by
  pointwise [k0_pay3]

/-- The new stream at an entry. -/
theorem stream_apply (i : Fin 128) (k : Fin 1024) :
    k0_pay3 (k0_pay2 a wa b wb za zb) h g1 wo (ix2 i k)
      = stream logistic (h (ix3 0 i k)) (g1 (ix3 0 0 k)) (fun l => za (ix3 0 i l)) (fun l => zb (ix3 0 i l))
          (fun l => a (ix3 0 i l)) (fun l => b (ix3 0 i l)) (fun l k => wa (ix2 l k)) (fun l k => wb (ix2 l k))
          fun l => wo (ix2 l k) := by
  rw [pay3_apply]
  simp only [pay2_apply]
  rfl

set_option maxRecDepth 16384 in
/-- The normed row at an entry, from the stream's. -/
theorem pay7_apply (y : FVec Ideal S128x1024 .bf16) (n2 : Vec Ideal S1x1024 .f32) (sc sh : Vec Ideal S1x1x1024 .f32)
    (i : Fin 128) (k : Fin 1024) :
    k0_pay7 (k0_pay5 sh) (k0_pay6 y h g1 wo n2 sc) (ix2 i k)
      = normed (fun l => k0_pay3 y h g1 wo (ix2 i l)) (fun l => n2 (ix2 0 l)) (fun l => sc (ix3 0 0 l)) (fun l => sh (ix3 0 0 l)) k := by
  pointwise [k0_pay7, k0_pay5, k0_pay6, normed]
end

section
variable (u : FVec Ideal S1x1024 .f32) (v : FVec Ideal S128x1024 .f32)

set_option maxRecDepth 16384 in
/-- The stream stored. -/
theorem pay4_apply (y : FVec Ideal S128x1024 .bf16) (h : Vec Ideal S1x128x1024 .f32) (g1 : Vec Ideal S1x1x1024 .f32)
    (wo : Vec Ideal S1024x1024 .bf16) (i : Fin 128) (k : Fin 1024) :
    k0_pay4 y h g1 wo (ix3 0 i k) = k0_pay3 y h g1 wo (ix2 i k) := by
  pointwise [k0_pay4]

set_option maxRecDepth 16384 in
/-- The first chunk stored: of the normed rows, the columns that `column 0` names. -/
theorem pay9_apply (i : Fin 128) (y : Fin 256) : k0_pay9 u v (ix3 0 i y) = k0_pay7 u v (ix2 i (column 0 y)) := by
  pointwise [k0_pay9, k0_pay8]
  have hy := y.isLt
  split_ifs <;> refine congrArg (k0_pay7 u v) (congrArg (ix2 i) (Fin.ext ?_)) <;> show _ = _ / 128 * 512 + _ + _ <;> dsimp only <;> omega

set_option maxRecDepth 16384 in
/-- The second. -/
theorem pay10_apply (i : Fin 128) (y : Fin 256) : k0_pay10 u v (ix3 0 i y) = k0_pay7 u v (ix2 i (column 1 y)) := by
  pointwise [k0_pay10, k0_pay8]
  have hy := y.isLt
  split_ifs <;> refine congrArg (k0_pay7 u v) (congrArg (ix2 i) (Fin.ext ?_)) <;> show _ = _ / 128 * 512 + _ + _ <;> dsimp only <;> omega

set_option maxRecDepth 16384 in
/-- The third. -/
theorem pay11_apply (i : Fin 128) (y : Fin 256) : k0_pay11 u v (ix3 0 i y) = k0_pay7 u v (ix2 i (column 2 y)) := by
  pointwise [k0_pay11, k0_pay8]
  have hy := y.isLt
  split_ifs <;> refine congrArg (k0_pay7 u v) (congrArg (ix2 i) (Fin.ext ?_)) <;> show _ = _ / 128 * 512 + _ + _ <;> dsimp only <;> omega

set_option maxRecDepth 16384 in
/-- The fourth. -/
theorem pay12_apply (i : Fin 128) (y : Fin 256) : k0_pay12 u v (ix3 0 i y) = k0_pay7 u v (ix2 i (column 3 y)) := by
  pointwise [k0_pay12, k0_pay8]
  have hy := y.isLt
  split_ifs <;> refine congrArg (k0_pay7 u v) (congrArg (ix2 i) (Fin.ext ?_)) <;> show _ = _ / 128 * 512 + _ + _ <;> dsimp only <;> omega

set_option maxRecDepth 16384 in
/-- The logits stored. -/
theorem pay17_apply (w0 w1 : Vec Ideal S1x1024x128 .bf16) (β : Vec Ideal S1x128 .f32) (i j : Fin 128) :
    k0_pay17 (k0_pay13 u v) (k0_pay14 u v) (k0_pay15 u v w0) (k0_pay16 w0) (constant S128x128 .f32 0#32) w1 β (ix2 i j)
      = logitSplit (fun k => k0_pay7 u v (ix2 i k)) (fun k => w0 (ix3 0 k j)) (fun k => w1 (ix3 0 k j)) (β (ix2 0 j)) := by
  pointwise [k0_pay17, k0_pay13, k0_pay14, k0_pay15, k0_pay16, logitSplit]
end

end Cert.MergeIdeal.SubBlock

end
-- ==== Proof.Merge.Block.lean ====
/-
  What the merge projection's body leaves in its three output blocks: four sub-blocks of 128 rows, each computed alike
  from its rows, which together are the new stream, the normed rows in chunks and the logits of the block's 512 rows.
-/
module

public import proofs.«01_k».proof.Proof.Merge.SubBlock

@[expose] public section

noncomputable section

namespace Cert.MergeIdeal.Block

open Cert.MergeIdeal Cert.MergeIdeal.Gen Cert.InProjTerms Cert.MergeTerms Idealize.ShloMosaic Idealize.ShloMosaic.TcCoe
open Cert.MergeIdeal.SubBlock

/-! ## The sub-blocks' rectangles lie in the blocks -/

theorem inRows3 (n w p o : Nat) (ho : o + 128 ≤ 512) (hp : p + w ≤ n) (a : Fin 3) :
    ![0, o, p] a + (⟨3, ![1, 128, w]⟩ : Shape).size a ≤ (⟨3, ![1, 512, n]⟩ : Shape).size a := by
  match a with
  | ⟨0, _⟩ => exact Nat.le_refl 1
  | ⟨1, _⟩ => exact ho
  | ⟨2, _⟩ => exact hp

theorem inChunks (j : Fin 4) (o : Nat) (ho : o + 128 ≤ 512) (a : Fin 3) : ![j.val, o, 0] a + S1x128x256.size a ≤ S4x512x256.size a := by
  match a with
  | ⟨0, _⟩ => exact j.isLt
  | ⟨1, _⟩ => exact ho
  | ⟨2, _⟩ => exact Nat.le_refl 256

theorem inLogits (o : Nat) (ho : o + 128 ≤ 512) (a : Fin 2) : ![o, 0] a + S128x128.size a ≤ S512x128.size a := by
  match a with
  | ⟨0, _⟩ => exact ho
  | ⟨1, _⟩ => exact Nat.le_refl 128

section
variable (x0 : Vec Ideal S1x512x1024 .f32) (x1 x2 : Vec Ideal S1x512x512 .bf16) (x3 : Vec Ideal S1x512x2048 .bf16)
  (x4 x5 : Vec Ideal S512x1024 .bf16) (x6 : Vec Ideal S1024x1024 .bf16) (x7 : Vec Ideal S1x1x1024 .f32)
  (x8 : Vec Ideal S1x1024 .f32) (x9 x10 : Vec Ideal S1x1x1024 .f32) (x11 : Vec Ideal S2x1024x128 .bf16) (x12 : Vec Ideal S1x128 .f32)

/-! ## The blocks as they should be -/

/-- Row `i` of the new stream. -/
def streamRow (i : Fin 512) (k : Fin 1024) : EReal :=
  stream logistic (x0 (ix3 0 i k)) (x7 (ix3 0 0 k)) (fun l => x3 (ix3 0 i ⟨l.val, by omega⟩))
    (fun l => x3 (ix3 0 i ⟨1024 + l.val, by omega⟩)) (fun l => x1 (ix3 0 i l)) (fun l => x2 (ix3 0 i l))
    (fun l k => x4 (ix2 l k)) (fun l k => x5 (ix2 l k)) fun l => x6 (ix2 l k)

/-- Row `i` normed. -/
def normedRow (i : Fin 512) (k : Fin 1024) : EReal :=
  normed (streamRow x0 x1 x2 x3 x4 x5 x6 x7 i) (fun l => x8 (ix2 0 l)) (fun l => x9 (ix3 0 0 l)) (fun l => x10 (ix3 0 0 l)) k

/-- Logit `j` of row `i`. -/
def logitRow (i : Fin 512) (j : Fin 128) : EReal :=
  logitSplit (normedRow x0 x1 x2 x3 x4 x5 x6 x7 x8 x9 x10 i) (fun k => x11 (ix3 0 k j)) (fun k => x11 (ix3 1 k j)) (x12 (ix2 0 j))

/-- The three blocks, as contents of the output windows. -/
def streamBlock : Vec Ideal S1x512x1024 .f32 := fun y => streamRow x0 x1 x2 x3 x4 x5 x6 x7 (y 1) (y 2)
def chunkBlock : Vec Ideal S4x512x256 .bf16 := fun y => normedRow x0 x1 x2 x3 x4 x5 x6 x7 x8 x9 x10 (y 1) (column (y 0) (y 2))
def logitBlock : Vec Ideal S512x128 .f32 := fun y => logitRow x0 x1 x2 x3 x4 x5 x6 x7 x8 x9 x10 x11 x12 (y 0) (y 1)

/-! ## The rows a sub-block loads -/

section
variable (o : Nat) (ho : o + 128 ≤ 512)

/-- Row `i` of the sub-block at `o`. -/
def row (i : Fin 128) : Fin 512 := ⟨o + i.val, by have := i.isLt; omega⟩

theorem loadH (i : Fin 128) (k : Fin 1024) :
    View.ld x0 (Rect.unit (s := S1x512x1024) ![0, o, 0] S1x128x1024.size (inRows3 1024 1024 0 o ho (by omega))) (ix3 0 i k) = x0 (ix3 0 (row o ho i) k) := by
  refine congrArg x0 (funext fun a => Fin.ext ?_)
  match a with
  | ⟨0, _⟩ => rfl
  | ⟨1, _⟩ => show o + 1 * i.val = o + i.val; omega
  | ⟨2, _⟩ => show 0 + 1 * k.val = k.val; omega

theorem loadB (i : Fin 128) (k : Fin 512) :
    View.ld x1 (Rect.unit (s := S1x512x512) ![0, o, 0] S1x128x512.size (inRows3 512 512 0 o ho (by omega))) (ix3 0 i k) = x1 (ix3 0 (row o ho i) k) := by
  refine congrArg x1 (funext fun a => Fin.ext ?_)
  match a with
  | ⟨0, _⟩ => rfl
  | ⟨1, _⟩ => show o + 1 * i.val = o + i.val; omega
  | ⟨2, _⟩ => show 0 + 1 * k.val = k.val; omega

theorem loadZ (i : Fin 128) (k : Fin 1024) :
    View.ld x3 (Rect.unit (s := S1x512x2048) ![0, o, 0] S1x128x1024.size (inRows3 2048 1024 0 o ho (by omega))) (ix3 0 i k) = x3 (ix3 0 (row o ho i) ⟨k.val, by omega⟩) := by
  refine congrArg x3 (funext fun a => Fin.ext ?_)
  match a with
  | ⟨0, _⟩ => rfl
  | ⟨1, _⟩ => show o + 1 * i.val = o + i.val; omega
  | ⟨2, _⟩ => show 0 + 1 * k.val = k.val; omega

theorem loadZ' (i : Fin 128) (k : Fin 1024) :
    View.ld x3 (Rect.unit (s := S1x512x2048) ![0, o, 1024] S1x128x1024.size (inRows3 2048 1024 1024 o ho (by omega))) (ix3 0 i k)
      = x3 (ix3 0 (row o ho i) ⟨1024 + k.val, by omega⟩) := by
  refine congrArg x3 (funext fun a => Fin.ext ?_)
  match a with
  | ⟨0, _⟩ => rfl
  | ⟨1, _⟩ => show o + 1 * i.val = o + i.val; omega
  | ⟨2, _⟩ => show 1024 + 1 * k.val = 1024 + k.val; omega

theorem loadW (k : Fin 1024) (j : Fin 128) :
    View.ld x11 (Rect.unit (s := S2x1024x128) ![0, 0, 0] S1x1024x128.size inb_S2x1024x128_S1x1024x128_0_0_0) (ix3 0 k j) = x11 (ix3 0 k j) := by
  refine congrArg x11 (funext fun a => Fin.ext ?_)
  match a with
  | ⟨0, _⟩ => rfl
  | ⟨1, _⟩ => show 0 + 1 * k.val = k.val; omega
  | ⟨2, _⟩ => show 0 + 1 * j.val = j.val; omega

theorem loadW' (k : Fin 1024) (j : Fin 128) :
    View.ld x11 (Rect.unit (s := S2x1024x128) ![1, 0, 0] S1x1024x128.size inb_S2x1024x128_S1x1024x128_1_0_0) (ix3 0 k j) = x11 (ix3 1 k j) := by
  refine congrArg x11 (funext fun a => Fin.ext ?_)
  match a with
  | ⟨0, _⟩ => rfl
  | ⟨1, _⟩ => show 0 + 1 * k.val = k.val; omega
  | ⟨2, _⟩ => show 0 + 1 * j.val = j.val; omega

/-! ## One sub-block -/

/-- The merged branches of the sub-block at `o`. -/
def branches : FVec Ideal S128x1024 .bf16 :=
  k0_pay2 (View.ld x1 (Rect.unit (s := S1x512x512) ![0, o, 0] S1x128x512.size (inRows3 512 512 0 o ho (by omega)))) x4
    (View.ld x2 (Rect.unit (s := S1x512x512) ![0, o, 0] S1x128x512.size (inRows3 512 512 0 o ho (by omega)))) x5
    (View.ld x3 (Rect.unit (s := S1x512x2048) ![0, o, 0] S1x128x1024.size (inRows3 2048 1024 0 o ho (by omega))))
    (View.ld x3 (Rect.unit (s := S1x512x2048) ![0, o, 1024] S1x128x1024.size (inRows3 2048 1024 1024 o ho (by omega))))

/-- Its rows of the old stream. -/
def rows : Vec Ideal S1x128x1024 .f32 := View.ld x0 (Rect.unit (s := S1x512x1024) ![0, o, 0] S1x128x1024.size (inRows3 1024 1024 0 o ho (by omega)))

/-- Its rows of the new stream. -/
theorem streamRow_apply (i : Fin 128) (k : Fin 1024) :
    k0_pay3 (branches x1 x2 x3 x4 x5 o ho) (rows x0 o ho) x7 x6 (ix2 i k)
      = streamRow x0 x1 x2 x3 x4 x5 x6 x7 (row o ho i) k := by
  unfold branches rows streamRow
  rw [stream_apply, loadH x0 o ho, funext (loadB x1 o ho i), funext (loadB x2 o ho i), funext (loadZ x3 o ho i),
    funext (loadZ' x3 o ho i)]

/-- The modulation's shift and the rest of the norm, from which the body computes the normed rows. -/
def shifts : FVec Ideal S1x1024 .f32 := k0_pay5 x10
def scaledRows : FVec Ideal S128x1024 .f32 := k0_pay6 (branches x1 x2 x3 x4 x5 o ho) (rows x0 o ho) x7 x6 x8 x9

/-- Its normed rows. -/
theorem normedRow_apply (i : Fin 128) (k : Fin 1024) :
    k0_pay7 (shifts x10) (scaledRows x0 x1 x2 x3 x4 x5 x6 x7 x8 x9 o ho) (ix2 i k)
      = normedRow x0 x1 x2 x3 x4 x5 x6 x7 x8 x9 x10 (row o ho i) k := by
  unfold shifts scaledRows normedRow
  rw [pay7_apply, funext (streamRow_apply x0 x1 x2 x3 x4 x5 x6 x7 o ho i)]

/-- The stream it stores is its part of the block. -/
theorem streamPiece (y : S1x128x1024.Idx) :
    k0_pay4 (branches x1 x2 x3 x4 x5 o ho) (rows x0 o ho) x7 x6 y
      = streamBlock x0 x1 x2 x3 x4 x5 x6 x7 ((Rect.unit (s := S1x512x1024) ![0, o, 0] S1x128x1024.size (inRows3 1024 1024 0 o ho (by omega))).emb y) := by
  idx_vars y
  obtain rfl : y0 = 0 := Subsingleton.elim _ _
  refine (pay4_apply ..).trans ((streamRow_apply x0 x1 x2 x3 x4 x5 x6 x7 o ho y1 y2).trans ?_)
  unfold streamBlock
  congr 1 <;> apply Fin.ext
  · show o + y1.val = o + 1 * y1.val; omega
  · show y2.val = 0 + 1 * y2.val; omega

/-- Each chunk it stores is its part of the block, if it holds the columns of chunk `j`. -/
theorem chunkPiece (j : Fin 4) (p : Vec Ideal S1x128x256 .bf16)
    (hp : ∀ (i : Fin 128) (y : Fin 256), p (ix3 0 i y)
      = k0_pay7 (shifts x10) (scaledRows x0 x1 x2 x3 x4 x5 x6 x7 x8 x9 o ho) (ix2 i (column j y))) (y : S1x128x256.Idx) :
    p y = chunkBlock x0 x1 x2 x3 x4 x5 x6 x7 x8 x9 x10 ((Rect.unit (s := S4x512x256) ![j.val, o, 0] S1x128x256.size (inChunks j o ho)).emb y) := by
  idx_vars y
  obtain rfl : y0 = 0 := Subsingleton.elim _ _
  refine (hp y1 y2).trans ((normedRow_apply x0 x1 x2 x3 x4 x5 x6 x7 x8 x9 x10 o ho y1 (column j y2)).trans ?_)
  unfold chunkBlock
  congr 1
  · apply Fin.ext; show o + y1.val = o + 1 * y1.val; omega
  · congr 1
    apply Fin.ext; show y2.val = 0 + 1 * y2.val; omega

/-- The rectangle of chunk `j`'s rows of the sub-block. -/
def chunkRect (j : Fin 4) : Rect S4x512x256 := Rect.unit (s := S4x512x256) ![j.val, o, 0] S1x128x256.size (inChunks j o ho)

/-- So the four chunks it stores are, before any list of parts that are. -/
theorem chunkPieces (L : List (View.Piece (Elt Ideal) S4x512x256 .bf16))
    (hL : ∀ p ∈ L, ∀ y, p.2 y = chunkBlock x0 x1 x2 x3 x4 x5 x6 x7 x8 x9 x10 (p.1.emb y)) :
    ∀ p ∈ (⟨chunkRect o ho 3, k0_pay12 (shifts x10) (scaledRows x0 x1 x2 x3 x4 x5 x6 x7 x8 x9 o ho)⟩
      :: ⟨chunkRect o ho 2, k0_pay11 (shifts x10) (scaledRows x0 x1 x2 x3 x4 x5 x6 x7 x8 x9 o ho)⟩
      :: ⟨chunkRect o ho 1, k0_pay10 (shifts x10) (scaledRows x0 x1 x2 x3 x4 x5 x6 x7 x8 x9 o ho)⟩
      :: ⟨chunkRect o ho 0, k0_pay9 (shifts x10) (scaledRows x0 x1 x2 x3 x4 x5 x6 x7 x8 x9 o ho)⟩
      :: L : List (View.Piece (Elt Ideal) S4x512x256 .bf16)),
      ∀ y, p.2 y = chunkBlock x0 x1 x2 x3 x4 x5 x6 x7 x8 x9 x10 (p.1.emb y) :=
  List.forall_mem_cons.mpr ⟨chunkPiece x0 x1 x2 x3 x4 x5 x6 x7 x8 x9 x10 o ho 3 _ (pay12_apply _ _),
    List.forall_mem_cons.mpr ⟨chunkPiece x0 x1 x2 x3 x4 x5 x6 x7 x8 x9 x10 o ho 2 _ (pay11_apply _ _),
      List.forall_mem_cons.mpr ⟨chunkPiece x0 x1 x2 x3 x4 x5 x6 x7 x8 x9 x10 o ho 1 _ (pay10_apply _ _),
        List.forall_mem_cons.mpr ⟨chunkPiece x0 x1 x2 x3 x4 x5 x6 x7 x8 x9 x10 o ho 0 _ (pay9_apply _ _), hL⟩⟩⟩⟩

/-- The logits it stores are its part of the block. -/
theorem logitPiece (y : S128x128.Idx) :
    k0_pay17 (k0_pay13 (shifts x10) (scaledRows x0 x1 x2 x3 x4 x5 x6 x7 x8 x9 o ho))
        (k0_pay14 (shifts x10) (scaledRows x0 x1 x2 x3 x4 x5 x6 x7 x8 x9 o ho))
        (k0_pay15 (shifts x10) (scaledRows x0 x1 x2 x3 x4 x5 x6 x7 x8 x9 o ho)
          (View.ld x11 (Rect.unit (s := S2x1024x128) ![0, 0, 0] S1x1024x128.size inb_S2x1024x128_S1x1024x128_0_0_0)))
        (k0_pay16 (View.ld x11 (Rect.unit (s := S2x1024x128) ![0, 0, 0] S1x1024x128.size inb_S2x1024x128_S1x1024x128_0_0_0)))
        (constant S128x128 .f32 0#32) (View.ld x11 (Rect.unit (s := S2x1024x128) ![1, 0, 0] S1x1024x128.size inb_S2x1024x128_S1x1024x128_1_0_0)) x12 y
      = logitBlock x0 x1 x2 x3 x4 x5 x6 x7 x8 x9 x10 x11 x12 ((Rect.unit (s := S512x128) ![o, 0] S128x128.size (inLogits o ho)).emb y) := by
  idx_vars y
  rw [pay17_apply]
  have e0 : (Rect.unit (s := S512x128) ![o, 0] S128x128.size (inLogits o ho)).emb (ix2 y0 y1) 0 = row o ho y0 := by
    apply Fin.ext; show o + 1 * y0.val = o + y0.val; omega
  have e1 : (Rect.unit (s := S512x128) ![o, 0] S128x128.size (inLogits o ho)).emb (ix2 y0 y1) 1 = y1 := by
    apply Fin.ext; show 0 + 1 * y1.val = y1.val; omega
  unfold logitBlock logitRow
  rw [e0, e1, funext (normedRow_apply x0 x1 x2 x3 x4 x5 x6 x7 x8 x9 x10 o ho y0), funext fun k => loadW x11 k y1,
    funext fun k => loadW' x11 k y1]
end

/-! ## The blocks the body leaves -/

variable (c : Dev nD) (t : Fin cfg0.N)

/-- Parts that are each its part of `G`, and together cover it, make up `G`. -/
theorem tiles {s : Shape} {e : EltTy} (G : Vec Ideal s e) (L : List (View.Piece (Elt Ideal) s e)) (size : Fin s.rank → Nat)
    (h : View.Piece.tiledL L size = true) (hp : ∀ p ∈ L, ∀ x, p.2 x = G (p.1.emb x)) : View.canon (Val := Elt Ideal) L = G := by
  funext y
  exact View.canon_apply_of_pieces G _ hp y (View.cover_of_tiledL L size h y)

set_option maxRecDepth 16384 in
set_option maxHeartbeats 2000000 in
/-- The stream's block. -/
theorem stream_eq : out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) x0 x1 x2 x3 x4 x5 x6 x7 x8 x9 x10 x11 x12
    = streamBlock x0 x1 x2 x3 x4 x5 x6 x7 := by
  unfold out0_A_13
  frame_out
  refine tiles _ _ S1x128x1024.size (by sl_kernel_rfl) ?_
  refine List.forall_mem_cons.mpr ⟨streamPiece x0 x1 x2 x3 x4 x5 x6 x7 384 (by omega), ?_⟩
  refine List.forall_mem_cons.mpr ⟨streamPiece x0 x1 x2 x3 x4 x5 x6 x7 256 (by omega), ?_⟩
  refine List.forall_mem_cons.mpr ⟨streamPiece x0 x1 x2 x3 x4 x5 x6 x7 128 (by omega), ?_⟩
  refine List.forall_mem_cons.mpr ⟨streamPiece x0 x1 x2 x3 x4 x5 x6 x7 0 (by omega), ?_⟩
  exact List.forall_mem_nil _

set_option maxRecDepth 16384 in
set_option maxHeartbeats 2000000 in
/-- The chunks' block. -/
theorem chunk_eq : out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) x0 x1 x2 x3 x4 x5 x6 x7 x8 x9 x10 x11 x12
    = chunkBlock x0 x1 x2 x3 x4 x5 x6 x7 x8 x9 x10 := by
  unfold out0_A_14
  frame_out
  refine tiles _ _ S1x128x256.size (by sl_kernel_rfl) ?_
  refine chunkPieces x0 x1 x2 x3 x4 x5 x6 x7 x8 x9 x10 384 (by omega) _ ?_
  refine chunkPieces x0 x1 x2 x3 x4 x5 x6 x7 x8 x9 x10 256 (by omega) _ ?_
  refine chunkPieces x0 x1 x2 x3 x4 x5 x6 x7 x8 x9 x10 128 (by omega) _ ?_
  refine chunkPieces x0 x1 x2 x3 x4 x5 x6 x7 x8 x9 x10 0 (by omega) _ ?_
  exact List.forall_mem_nil _

set_option maxRecDepth 16384 in
set_option maxHeartbeats 2000000 in
/-- The logits' block. -/
theorem logit_eq : out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) x0 x1 x2 x3 x4 x5 x6 x7 x8 x9 x10 x11 x12
    = logitBlock x0 x1 x2 x3 x4 x5 x6 x7 x8 x9 x10 x11 x12 := by
  unfold out0_A_15
  frame_out
  refine tiles _ _ S128x128.size (by sl_kernel_rfl) ?_
  refine List.forall_mem_cons.mpr ⟨logitPiece x0 x1 x2 x3 x4 x5 x6 x7 x8 x9 x10 x11 x12 384 (by omega), ?_⟩
  refine List.forall_mem_cons.mpr ⟨logitPiece x0 x1 x2 x3 x4 x5 x6 x7 x8 x9 x10 x11 x12 256 (by omega), ?_⟩
  refine List.forall_mem_cons.mpr ⟨logitPiece x0 x1 x2 x3 x4 x5 x6 x7 x8 x9 x10 x11 x12 128 (by omega), ?_⟩
  refine List.forall_mem_cons.mpr ⟨logitPiece x0 x1 x2 x3 x4 x5 x6 x7 x8 x9 x10 x11 x12 0 (by omega), ?_⟩
  exact List.forall_mem_nil _

end

end Cert.MergeIdeal.Block

end
-- ==== Proof.Merge.Host.lean ====
/-
  The arrays the merge projection's call is entered with: the two routers' weights and biases side by side padded
  with zeros, the weights beside what their rounding left, and the norm's scale as one row.
-/
module

public import proofs.«01_k».proof.Proof.Merge.Terms
public import proofs.«01_k».proof.Proof.Gen.MergeIdeal.Value
public import Idealize.ShloMosaic.Lib.Claim

@[expose] public section

noncomputable section

namespace Cert.MergeIdeal.Host

open Cert.MergeIdeal Cert.MergeIdeal.Gen Cert.MergeTerms Idealize.ShloMosaic Idealize.ShloMosaic.TcCoe

variable (m : (ℓ : Loc nD τ sig) → Buf (Elt Ideal) ℓ)

/-- The routers' weights side by side. -/
def beside (wg : S1024x4.Idx → EReal) (we : S1024x32.Idx → EReal) : FVec Ideal S1024x128 .f32 :=
  concatenate S1024x128 1 [⟨S1024x4, wg⟩, ⟨S1024x32, we⟩, ⟨S1024x92, broadcastInDim S1024x92 ![] bcast_S_S1024x92 (constant S_ .f32 0x00000000#32)⟩]
    concatenates_S1024x4_S1024x32_S1024x92_S1024x128_d1

/-- An array rounded, and beside it what the rounding left. -/
def split (w : FVec Ideal S1024x128 .f32) : FVec Ideal S2x1024x128 .bf16 :=
  concatenate S2x1024x128 0
    [⟨S1x1024x128, broadcastInDim S1x1024x128 ![1, 2] bcast_S1024x128_S1x1024x128_1_2 (truncf .bf16 w bitsLt_bf16_f32)⟩,
     ⟨S1x1024x128, broadcastInDim S1x1024x128 ![1, 2] bcast_S1024x128_S1x1024x128_1_2 (truncf .bf16 (subf w (extf .f32 (truncf .bf16 w bitsLt_bf16_f32) bitsLt_bf16_f32)) bitsLt_bf16_f32)⟩]
    concatenates_S1x1024x128_S1x1024x128_S2x1024x128_d0

/-- The biases side by side, as one row. -/
def besideBiases (bg : S4.Idx → EReal) (be : S32.Idx → EReal) : FVec Ideal S1x128 .f32 :=
  broadcastInDim S1x128 ![1] bcast_S128_S1x128_1
    (concatenate S128 0 [⟨S4, bg⟩, ⟨S32, be⟩, ⟨S92, broadcastInDim S92 ![] bcast_S_S92 (constant S_ .f32 0x00000000#32)⟩] concatenates_S4_S32_S92_S128_d0)

set_option maxHeartbeats 2000000 in
set_option maxRecDepth 65536 in
/-- The call reads the routers' weights so split. -/
theorem routers_eq (c : Dev nD) : (V m c main_v8 : S2x1024x128.Idx → EReal)
    = split (beside (m ((c : Thread nD τ).loc main_arg11)) (m ((c : Thread nD τ).loc main_arg13))) := by
  show StableHlo.after hostOps0 (fun b => m (c, b)) (Proc.devRef .tc main_v8) = _
  after_results
  rfl

set_option maxHeartbeats 2000000 in
set_option maxRecDepth 65536 in
/-- And the biases. -/
theorem biases_eq (c : Dev nD) : (V m c main_v14 : S1x128.Idx → EReal)
    = besideBiases (m ((c : Thread nD τ).loc main_arg12)) (m ((c : Thread nD τ).loc main_arg14)) := by
  show StableHlo.after hostOps0 (fun b => m (c, b)) (Proc.devRef .tc main_v14) = _
  after_results
  rfl

set_option maxRecDepth 16384 in
/-- Column `j` of the weights side by side. -/
theorem beside_apply (wg : S1024x4.Idx → EReal) (we : S1024x32.Idx → EReal) (k : Fin 1024) (j : Fin 128) :
    beside wg we (ix2 k j) = routers wg we k j := by
  pointwise [beside]
  unfold routers
  by_cases hg : j.val < 4
  · simp only [dif_pos hg]
  · by_cases he : j.val < 36
    · have he' : j.val - 4 < 32 := by omega
      simp only [dif_neg hg, dif_pos he, dif_pos he']
    · have he' : ¬ j.val - 4 < 32 := by omega
      simp only [dif_neg hg, dif_neg he, dif_neg he']

set_option maxRecDepth 16384 in
/-- The rounded part is the array. -/
theorem split_high (w : FVec Ideal S1024x128 .f32) (k : Fin 1024) (j : Fin 128) : split w (ix3 0 k j) = w (ix2 k j) := by
  pointwise [split]

set_option maxRecDepth 16384 in
/-- The rest is the difference of the array and itself. -/
theorem split_low (w : FVec Ideal S1024x128 .f32) (k : Fin 1024) (j : Fin 128) :
    split w (ix3 1 k j) = w (ix2 k j) - w (ix2 k j) := by
  pointwise [split]

set_option maxRecDepth 16384 in
/-- Column `j` of the biases' row. -/
theorem besideBiases_apply (bg : S4.Idx → EReal) (be : S32.Idx → EReal) (j : Fin 128) :
    besideBiases bg be (ix2 0 j) = biases bg be j := by
  pointwise [besideBiases]
  unfold biases
  by_cases hg : j.val < 4
  · simp only [dif_pos hg]
  · by_cases he : j.val < 36
    · have he' : j.val - 4 < 32 := by omega
      simp only [dif_neg hg, dif_pos he, dif_pos he']
    · have he' : ¬ j.val - 4 < 32 := by omega
      simp only [dif_neg hg, dif_neg he, dif_neg he']

set_option maxRecDepth 16384 in
/-- The scale's row holds the scale. -/
theorem scale_apply (c : Dev nD) (k : Fin 1024) :
    (V m c main_v15 : S1x1024.Idx → EReal) (ix2 0 k) = m ((c : Thread nD τ).loc main_arg8) (ix1 k) := by
  entry_read
  pointwise

set_option maxRecDepth 16384 in
/-- The three weights' casts hold the weights. -/
theorem left_apply (c : Dev nD) (i : Fin 512) (k : Fin 1024) :
    (V m c main_v11 : S512x1024.Idx → EReal) (ix2 i k) = m ((c : Thread nD τ).loc main_arg4) (ix2 i k) := by
  entry_read
  pointwise

set_option maxRecDepth 16384 in
theorem right_apply (c : Dev nD) (i : Fin 512) (k : Fin 1024) :
    (V m c main_v12 : S512x1024.Idx → EReal) (ix2 i k) = m ((c : Thread nD τ).loc main_arg5) (ix2 i k) := by
  entry_read
  pointwise

set_option maxRecDepth 16384 in
theorem output_apply (c : Dev nD) (i k : Fin 1024) :
    (V m c main_v13 : S1024x1024.Idx → EReal) (ix2 i k) = m ((c : Thread nD τ).loc main_arg6) (ix2 i k) := by
  entry_read
  pointwise

end Cert.MergeIdeal.Host

end
-- ==== Proof.Merge.Array.lean ====
/-
  The arrays the merge projection's call leaves: 16 × 8 blocks of 512 rows, each computed from its rows alone, together
  the whole stream, its normed rows in chunks and the logits.
-/
module

public import proofs.«01_k».proof.Proof.Merge.Block
public import proofs.«01_k».proof.Proof.Merge.Host

@[expose] public section

noncomputable section

namespace Cert.MergeIdeal.Array

open Cert.MergeIdeal Cert.MergeIdeal.Gen Cert.AttendTerms Idealize.ShloMosaic Idealize.ShloMosaic.TcCoe Idealize.SL.Sem
open Cert.MergeTerms hiding member
open Cert.MergeIdeal.Block Cert.MergeIdeal.Host

variable (m : (ℓ : Loc nD τ sig) → Buf (Elt Ideal) ℓ) (ρ : Dev nD → PrngReg)

/-- The three result arrays, entry by entry, from the argument arrays. -/
def stream (c : Dev nD) : S16x4096x1024.Idx → EReal := fun i =>
  streamAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2)

def chunks (c : Dev nD) : S4x65536x256.Idx → EReal := fun i =>
  chunkAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1) (i 2)

def logits (c : Dev nD) : S65536x128.Idx → EReal := fun i =>
  logitAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (i 0) (i 1)

/-- Every argument but the gates and the biases holds real numbers. -/
def Finite (c : Dev nD) : Prop :=
  Reals (m ((c : Thread nD τ).loc main_arg0)) ∧ Reals (m ((c : Thread nD τ).loc main_arg1)) ∧ Reals (m ((c : Thread nD τ).loc main_arg2)) ∧ Reals (m ((c : Thread nD τ).loc main_arg4)) ∧ Reals (m ((c : Thread nD τ).loc main_arg5)) ∧ Reals (m ((c : Thread nD τ).loc main_arg6)) ∧ Reals (m ((c : Thread nD τ).loc main_arg7)) ∧ Reals (m ((c : Thread nD τ).loc main_arg8)) ∧ Reals (m ((c : Thread nD τ).loc main_arg9)) ∧ Reals (m ((c : Thread nD τ).loc main_arg10)) ∧ Reals (m ((c : Thread nD τ).loc main_arg11)) ∧ Reals (m ((c : Thread nD τ).loc main_arg13))

/-! ## Where each window stands at a point -/

/-- The rows' windows stand at the stream's block. -/
theorem rowPlaces : ∀ t : Fin grid0.N,
    (win0_0.index t 0 = win0_13.index t 0 ∧ win0_0.index t 1 = win0_13.index t 1 ∧ win0_0.index t 2 = 0)
    ∧ (win0_1.index t 0 = win0_13.index t 0 ∧ win0_1.index t 1 = win0_13.index t 1 ∧ win0_1.index t 2 = 0)
    ∧ (win0_2.index t 0 = win0_13.index t 0 ∧ win0_2.index t 1 = win0_13.index t 1 ∧ win0_2.index t 2 = 0)
    ∧ (win0_3.index t 0 = win0_13.index t 0 ∧ win0_3.index t 1 = win0_13.index t 1 ∧ win0_3.index t 2 = 0) := by
  decide +kernel

/-- The modulation's stand at the block's batch member. -/
theorem memberPlaces : ∀ t : Fin grid0.N,
    (win0_7.index t 0 = win0_13.index t 0 ∧ win0_7.index t 1 = 0 ∧ win0_7.index t 2 = 0)
    ∧ (win0_9.index t 0 = win0_13.index t 0 ∧ win0_9.index t 1 = 0 ∧ win0_9.index t 2 = 0)
    ∧ (win0_10.index t 0 = win0_13.index t 0 ∧ win0_10.index t 1 = 0 ∧ win0_10.index t 2 = 0) := by
  decide +kernel

/-- The weights', the scale's and the biases' stand at the start. -/
theorem wholePlaces : ∀ t : Fin grid0.N,
    (win0_4.index t 0 = 0 ∧ win0_4.index t 1 = 0) ∧ (win0_5.index t 0 = 0 ∧ win0_5.index t 1 = 0)
    ∧ (win0_6.index t 0 = 0 ∧ win0_6.index t 1 = 0) ∧ (win0_8.index t 0 = 0 ∧ win0_8.index t 1 = 0)
    ∧ (win0_11.index t 0 = 0 ∧ win0_11.index t 1 = 0 ∧ win0_11.index t 2 = 0)
    ∧ (win0_12.index t 0 = 0 ∧ win0_12.index t 1 = 0) := by
  decide +kernel

/-- The stream's block lies in the array, the chunks' and the logits' at its rows in the list of all the tokens. -/
theorem places : ∀ t : Fin grid0.N,
    (win0_13.index t 0 < 16 ∧ win0_13.index t 1 < 8 ∧ win0_13.index t 2 = 0)
    ∧ (win0_14.index t 0 = 0 ∧ win0_14.index t 1 = win0_13.index t 0 * 8 + win0_13.index t 1 ∧ win0_14.index t 2 = 0)
    ∧ (win0_15.index t 0 = win0_13.index t 0 * 8 + win0_13.index t 1 ∧ win0_15.index t 1 = 0) := by
  decide +kernel

/-- The block at batch member `b`, row block `r` is a point's. -/
theorem place_of : ∀ (b : Fin 16) (r : Fin 8), ∃ t : Fin grid0.N, win0_13.index t 0 = b.val ∧ win0_13.index t 1 = r.val := by
  decide +kernel

/-- The batch member of point `t`'s block. -/
def batch (t : Fin grid0.N) : Fin 16 := ⟨win0_13.index t 0, (places t).1.1⟩

/-- The token of row `i` of point `t`'s block. -/
def token (t : Fin grid0.N) (i : Fin 512) : Fin 4096 :=
  ⟨win0_13.index t 1 * 512 + i.val, by have := (places t).1.2.1; have := i.isLt; omega⟩

/-- And its place in the list of all the tokens. -/
def listed (t : Fin grid0.N) (i : Fin 512) : Fin 65536 :=
  ⟨(win0_13.index t 0 * 8 + win0_13.index t 1) * 512 + i.val, by
    have := (places t).1.1; have := (places t).1.2.1; have := i.isLt; omega⟩

theorem listed_member (t : Fin grid0.N) (i : Fin 512) : MergeTerms.member (listed t i) = batch t := by
  have := (places t).1.2.1
  have := i.isLt
  apply Fin.ext
  show ((win0_13.index t 0 * 8 + win0_13.index t 1) * 512 + i.val) / 4096 = win0_13.index t 0
  omega

theorem listed_place (t : Fin grid0.N) (i : Fin 512) : place (listed t i) = token t i := by
  have := (places t).1.2.1
  have := i.isLt
  apply Fin.ext
  show ((win0_13.index t 0 * 8 + win0_13.index t 1) * 512 + i.val) % 4096 = win0_13.index t 1 * 512 + i.val
  omega

/-! ## What each window holds at a point -/

/-- The stream's rows. -/
theorem tokens_apply (c : Dev nD) (t : Fin cfg0.N) (i : Fin 512) (k : Fin 1024) :
    (iblk m c 0 t : Vec Ideal S1x512x1024 .f32) (ix3 0 i k) = m ((c : Thread nD τ).loc main_arg0) (ix3 (batch t) (token t i) k) := by
  unfold iblk
  rw [View.read_apply]
  refine Eq.trans ?_ (congrFun (V_main_arg0 m c) (ix3 (batch t) (token t i) k))
  refine congrArg (V m c main_arg0) (funext fun a => Fin.ext ?_)
  obtain ⟨⟨h0, h1, h2⟩, -⟩ := rowPlaces t
  match a with
  | ⟨0, _⟩ => show win0_0.index t 0 * 1 + 1 * 0 = win0_13.index t 0; rw [h0]; omega
  | ⟨1, _⟩ => show win0_0.index t 1 * 512 + 1 * i.val = win0_13.index t 1 * 512 + i.val; rw [h1]; omega
  | ⟨2, _⟩ => show win0_0.index t 2 * 1024 + 1 * k.val = k.val; rw [h2]; omega

/-- The left branch's. -/
theorem left_apply (c : Dev nD) (t : Fin cfg0.N) (i : Fin 512) (k : Fin 512) :
    (iblk m c 1 t : Vec Ideal S1x512x512 .bf16) (ix3 0 i k) = m ((c : Thread nD τ).loc main_arg1) (ix3 (batch t) (token t i) k) := by
  unfold iblk
  rw [View.read_apply]
  refine Eq.trans ?_ (congrFun (V_main_arg1 m c) (ix3 (batch t) (token t i) k))
  refine congrArg (V m c main_arg1) (funext fun a => Fin.ext ?_)
  obtain ⟨-, ⟨h0, h1, h2⟩, -⟩ := rowPlaces t
  match a with
  | ⟨0, _⟩ => show win0_1.index t 0 * 1 + 1 * 0 = win0_13.index t 0; rw [h0]; omega
  | ⟨1, _⟩ => show win0_1.index t 1 * 512 + 1 * i.val = win0_13.index t 1 * 512 + i.val; rw [h1]; omega
  | ⟨2, _⟩ => show win0_1.index t 2 * 512 + 1 * k.val = k.val; rw [h2]; omega

/-- The right branch's. -/
theorem right_apply (c : Dev nD) (t : Fin cfg0.N) (i : Fin 512) (k : Fin 512) :
    (iblk m c 2 t : Vec Ideal S1x512x512 .bf16) (ix3 0 i k) = m ((c : Thread nD τ).loc main_arg2) (ix3 (batch t) (token t i) k) := by
  unfold iblk
  rw [View.read_apply]
  refine Eq.trans ?_ (congrFun (V_main_arg2 m c) (ix3 (batch t) (token t i) k))
  refine congrArg (V m c main_arg2) (funext fun a => Fin.ext ?_)
  obtain ⟨-, -, ⟨h0, h1, h2⟩, -⟩ := rowPlaces t
  match a with
  | ⟨0, _⟩ => show win0_2.index t 0 * 1 + 1 * 0 = win0_13.index t 0; rw [h0]; omega
  | ⟨1, _⟩ => show win0_2.index t 1 * 512 + 1 * i.val = win0_13.index t 1 * 512 + i.val; rw [h1]; omega
  | ⟨2, _⟩ => show win0_2.index t 2 * 512 + 1 * k.val = k.val; rw [h2]; omega

/-- The gates': the first 2048 columns of their array. -/
theorem gates_apply (c : Dev nD) (t : Fin cfg0.N) (i : Fin 512) (k : Fin 2048) :
    (X0_3 m c t : Vec Ideal S1x512x2048 .bf16) (ix3 0 i k)
      = m ((c : Thread nD τ).loc main_arg3) (ix3 (batch t) (token t i) ⟨k.val, by omega⟩) := by
  unfold X0_3 Pipeline.Window.fill
  refine (dif_pos (moved0_3 t (ix3 0 i k))).trans ?_
  unfold iblk
  rw [View.read_apply]
  refine Eq.trans ?_ (congrFun (V_main_arg3 m c) (ix3 (batch t) (token t i) ⟨k.val, by omega⟩))
  refine congrArg (V m c main_arg3) (funext fun a => Fin.ext ?_)
  obtain ⟨-, -, -, ⟨h0, h1, h2⟩⟩ := rowPlaces t
  match a with
  | ⟨0, _⟩ => show win0_3.index t 0 * 1 + 1 * 0 = win0_13.index t 0; rw [h0]; omega
  | ⟨1, _⟩ => show win0_3.index t 1 * 512 + 1 * i.val = win0_13.index t 1 * 512 + i.val; rw [h1]; omega
  | ⟨2, _⟩ => show win0_3.index t 2 * 2048 + 1 * k.val = k.val; rw [h2]; omega

/-- The gain. -/
theorem gain_apply (c : Dev nD) (t : Fin cfg0.N) (k : Fin 1024) :
    (iblk m c 7 t : Vec Ideal S1x1x1024 .f32) (ix3 0 0 k) = m ((c : Thread nD τ).loc main_arg7) (ix3 (batch t) 0 k) := by
  unfold iblk
  rw [View.read_apply]
  refine Eq.trans ?_ (congrFun (V_main_arg7 m c) (ix3 (batch t) 0 k))
  refine congrArg (V m c main_arg7) (funext fun a => Fin.ext ?_)
  obtain ⟨⟨h0, h1, h2⟩, -⟩ := memberPlaces t
  match a with
  | ⟨0, _⟩ => show win0_7.index t 0 * 1 + 1 * 0 = win0_13.index t 0; rw [h0]; omega
  | ⟨1, _⟩ => show win0_7.index t 1 * 1 + 1 * 0 = 0; rw [h1]
  | ⟨2, _⟩ => show win0_7.index t 2 * 1024 + 1 * k.val = k.val; rw [h2]; omega

/-- The modulation's factor. -/
theorem factor_apply (c : Dev nD) (t : Fin cfg0.N) (k : Fin 1024) :
    (iblk m c 9 t : Vec Ideal S1x1x1024 .f32) (ix3 0 0 k) = m ((c : Thread nD τ).loc main_arg9) (ix3 (batch t) 0 k) := by
  unfold iblk
  rw [View.read_apply]
  refine Eq.trans ?_ (congrFun (V_main_arg9 m c) (ix3 (batch t) 0 k))
  refine congrArg (V m c main_arg9) (funext fun a => Fin.ext ?_)
  obtain ⟨-, ⟨h0, h1, h2⟩, -⟩ := memberPlaces t
  match a with
  | ⟨0, _⟩ => show win0_9.index t 0 * 1 + 1 * 0 = win0_13.index t 0; rw [h0]; omega
  | ⟨1, _⟩ => show win0_9.index t 1 * 1 + 1 * 0 = 0; rw [h1]
  | ⟨2, _⟩ => show win0_9.index t 2 * 1024 + 1 * k.val = k.val; rw [h2]; omega

/-- And its shift. -/
theorem shift_apply (c : Dev nD) (t : Fin cfg0.N) (k : Fin 1024) :
    (iblk m c 10 t : Vec Ideal S1x1x1024 .f32) (ix3 0 0 k) = m ((c : Thread nD τ).loc main_arg10) (ix3 (batch t) 0 k) := by
  unfold iblk
  rw [View.read_apply]
  refine Eq.trans ?_ (congrFun (V_main_arg10 m c) (ix3 (batch t) 0 k))
  refine congrArg (V m c main_arg10) (funext fun a => Fin.ext ?_)
  obtain ⟨-, -, ⟨h0, h1, h2⟩⟩ := memberPlaces t
  match a with
  | ⟨0, _⟩ => show win0_10.index t 0 * 1 + 1 * 0 = win0_13.index t 0; rw [h0]; omega
  | ⟨1, _⟩ => show win0_10.index t 1 * 1 + 1 * 0 = 0; rw [h1]
  | ⟨2, _⟩ => show win0_10.index t 2 * 1024 + 1 * k.val = k.val; rw [h2]; omega

/-- The left branch's weights. -/
theorem leftWeights_apply (c : Dev nD) (t : Fin cfg0.N) (l : Fin 512) (k : Fin 1024) :
    (iblk m c 4 t : Vec Ideal S512x1024 .bf16) (ix2 l k) = m ((c : Thread nD τ).loc main_arg4) (ix2 l k) := by
  refine Eq.trans ?_ (Host.left_apply m c l k)
  unfold iblk
  rw [View.read_apply]
  refine congrArg (V m c main_v11) (funext fun a => Fin.ext ?_)
  obtain ⟨⟨h0, h1⟩, -⟩ := wholePlaces t
  match a with
  | ⟨0, _⟩ => show win0_4.index t 0 * 512 + 1 * l.val = l.val; rw [h0]; omega
  | ⟨1, _⟩ => show win0_4.index t 1 * 1024 + 1 * k.val = k.val; rw [h1]; omega

/-- The right branch's weights. -/
theorem rightWeights_apply (c : Dev nD) (t : Fin cfg0.N) (l : Fin 512) (k : Fin 1024) :
    (iblk m c 5 t : Vec Ideal S512x1024 .bf16) (ix2 l k) = m ((c : Thread nD τ).loc main_arg5) (ix2 l k) := by
  refine Eq.trans ?_ (Host.right_apply m c l k)
  unfold iblk
  rw [View.read_apply]
  refine congrArg (V m c main_v12) (funext fun a => Fin.ext ?_)
  obtain ⟨-, ⟨h0, h1⟩, -⟩ := wholePlaces t
  match a with
  | ⟨0, _⟩ => show win0_5.index t 0 * 512 + 1 * l.val = l.val; rw [h0]; omega
  | ⟨1, _⟩ => show win0_5.index t 1 * 1024 + 1 * k.val = k.val; rw [h1]; omega

/-- The output weights. -/
theorem outputWeights_apply (c : Dev nD) (t : Fin cfg0.N) (l : Fin 1024) (k : Fin 1024) :
    (iblk m c 6 t : Vec Ideal S1024x1024 .bf16) (ix2 l k) = m ((c : Thread nD τ).loc main_arg6) (ix2 l k) := by
  refine Eq.trans ?_ (output_apply m c l k)
  unfold iblk
  rw [View.read_apply]
  refine congrArg (V m c main_v13) (funext fun a => Fin.ext ?_)
  obtain ⟨-, -, ⟨h0, h1⟩, -⟩ := wholePlaces t
  match a with
  | ⟨0, _⟩ => show win0_6.index t 0 * 1024 + 1 * l.val = l.val; rw [h0]; omega
  | ⟨1, _⟩ => show win0_6.index t 1 * 1024 + 1 * k.val = k.val; rw [h1]; omega

/-- The norm's scale. -/
theorem scales_apply (c : Dev nD) (t : Fin cfg0.N) (k : Fin 1024) :
    (iblk m c 8 t : Vec Ideal S1x1024 .f32) (ix2 0 k) = m ((c : Thread nD τ).loc main_arg8) (ix1 k) := by
  refine Eq.trans ?_ (scale_apply m c k)
  unfold iblk
  rw [View.read_apply]
  refine congrArg (V m c main_v15) (funext fun a => Fin.ext ?_)
  obtain ⟨-, -, -, ⟨h0, h1⟩, -⟩ := wholePlaces t
  match a with
  | ⟨0, _⟩ => show win0_8.index t 0 * 1 + 1 * 0 = 0; rw [h0]
  | ⟨1, _⟩ => show win0_8.index t 1 * 1024 + 1 * k.val = k.val; rw [h1]; omega

/-- The routers' weights, rounded and the rest. -/
theorem routers_apply (c : Dev nD) (t : Fin cfg0.N) (s : Fin 2) (k : Fin 1024) (j : Fin 128) :
    (iblk m c 11 t : Vec Ideal S2x1024x128 .bf16) (ix3 s k j)
      = split (beside (m ((c : Thread nD τ).loc main_arg11)) (m ((c : Thread nD τ).loc main_arg13))) (ix3 s k j) := by
  refine Eq.trans ?_ (congrFun (routers_eq m c) (ix3 s k j))
  unfold iblk
  rw [View.read_apply]
  refine congrArg (V m c main_v8) (funext fun a => Fin.ext ?_)
  obtain ⟨-, -, -, -, ⟨h0, h1, h2⟩, -⟩ := wholePlaces t
  match a with
  | ⟨0, _⟩ => show win0_11.index t 0 * 2 + 1 * s.val = s.val; rw [h0]; omega
  | ⟨1, _⟩ => show win0_11.index t 1 * 1024 + 1 * k.val = k.val; rw [h1]; omega
  | ⟨2, _⟩ => show win0_11.index t 2 * 128 + 1 * j.val = j.val; rw [h2]; omega

/-- Their biases. -/
theorem biases_apply (c : Dev nD) (t : Fin cfg0.N) (j : Fin 128) :
    (iblk m c 12 t : Vec Ideal S1x128 .f32) (ix2 0 j)
      = biases (m ((c : Thread nD τ).loc main_arg12)) (m ((c : Thread nD τ).loc main_arg14)) j := by
  refine Eq.trans ?_ ((congrFun (biases_eq m c) (ix2 0 j)).trans (besideBiases_apply _ _ j))
  unfold iblk
  rw [View.read_apply]
  refine congrArg (V m c main_v14) (funext fun a => Fin.ext ?_)
  obtain ⟨-, -, -, -, -, ⟨h0, h1⟩⟩ := wholePlaces t
  match a with
  | ⟨0, _⟩ => show win0_12.index t 0 * 1 + 1 * 0 = 0; rw [h0]
  | ⟨1, _⟩ => show win0_12.index t 1 * 128 + 1 * j.val = j.val; rw [h1]; omega

/-! ## The blocks from the arrays -/

/-- Row `i` of point `t`'s block of the stream is its token's. -/
theorem streamRow_eq (c : Dev nD) (t : Fin cfg0.N) (i : Fin 512) (k : Fin 1024) :
    streamRow (iblk m c 0 t) (iblk m c 1 t) (iblk m c 2 t) (X0_3 m c t) (iblk m c 4 t) (iblk m c 5 t) (iblk m c 6 t) (iblk m c 7 t) i k
      = streamAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batch t) (token t i) k := by
  unfold streamRow streamAt
  rw [tokens_apply m c t i k, gain_apply m c t k, funext (left_apply m c t i), funext (right_apply m c t i),
    funext fun l : Fin 1024 => gates_apply m c t i ⟨l.val, by omega⟩,
    funext fun l : Fin 1024 => gates_apply m c t i ⟨1024 + l.val, by omega⟩,
    funext fun l => funext (leftWeights_apply m c t l), funext fun l => funext (rightWeights_apply m c t l),
    funext fun l => outputWeights_apply m c t l k]

/-- And normed. -/
theorem normedRow_eq (c : Dev nD) (t : Fin cfg0.N) (i : Fin 512) (k : Fin 1024) :
    normedRow (iblk m c 0 t) (iblk m c 1 t) (iblk m c 2 t) (X0_3 m c t) (iblk m c 4 t) (iblk m c 5 t) (iblk m c 6 t) (iblk m c 7 t) (iblk m c 8 t) (iblk m c 9 t) (iblk m c 10 t) i k
      = normedAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (batch t) (token t i) k := by
  unfold normedRow normedAt
  rw [funext (streamRow_eq m c t i), funext (scales_apply m c t), funext (factor_apply m c t), funext (shift_apply m c t)]

/-- From real arrays its logits are the token's: what a rounding left is zero. -/
theorem logitRow_eq (c : Dev nD) (hf : Finite m c) (t : Fin cfg0.N) (i : Fin 512) (j : Fin 128) :
    logitRow (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) i j
      = logitAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (listed t i) j := by
  obtain ⟨hh, ha, hb, hwa, hwb, hwo, hg, hn, hc, hs, hwg, hwe⟩ := hf
  unfold logitRow logitAt
  rw [funext (normedRow_eq m c t i), biases_apply m c t j, listed_member, listed_place,
    funext fun k => (routers_apply m c t 0 k j).trans ((split_high _ k j).trans (beside_apply _ _ k j)),
    funext fun k => (routers_apply m c t 1 k j).trans ((split_low _ k j).trans (congrArg (fun x => x - x) (beside_apply _ _ k j)))]
  exact logitSplit_eq (normedAt_real _ hh ha hb hwa hwb hwo hg hn hc hs _ _) (fun k => routers_real hwg hwe k j) _

/-! ## What the points write back -/

/-- What point `t` writes back is its block of the stream. -/
theorem stream_flushed (c : Dev nD) (t : Fin cfg0.N) :
    (dats m 0 c).flushed 13 t = ((cfg0.win 13).blk t).view.read (Elt Ideal) (stream m c) := by
  rw [Value.flushed13_A, stream_eq]
  funext y
  rw [View.read_apply]
  refine (streamRow_eq m c t (y 1) (y 2)).trans ?_
  refine congrArg (stream m c) (a₁ := ix3 (batch t) (token t (y 1)) (y 2)) (funext fun a => Fin.ext ?_)
  obtain ⟨⟨-, -, h2⟩, -⟩ := places t
  have hy : (y 0 : Nat) < 1 := (y 0).isLt
  match a with
  | ⟨0, _⟩ => show win0_13.index t 0 = win0_13.index t 0 * 1 + 1 * (y 0 : Nat); omega
  | ⟨1, _⟩ => show win0_13.index t 1 * 512 + (y 1 : Nat) = win0_13.index t 1 * 512 + 1 * (y 1 : Nat); omega
  | ⟨2, _⟩ => show (y 2 : Nat) = win0_13.index t 2 * 1024 + 1 * (y 2 : Nat); rw [h2]; omega

/-- Of the chunks. -/
theorem chunks_flushed (c : Dev nD) (t : Fin cfg0.N) :
    (dats m 0 c).flushed 14 t = ((cfg0.win 14).blk t).view.read (Elt Ideal) (chunks m c) := by
  rw [Value.flushed14_A, chunk_eq]
  funext y
  rw [View.read_apply]
  refine (normedRow_eq m c t (y 1) (column (y 0) (y 2))).trans ?_
  rw [← listed_member t (y 1), ← listed_place t (y 1)]
  refine congrArg (chunks m c) (a₁ := ix3 (y 0) (listed t (y 1)) (y 2)) (funext fun a => Fin.ext ?_)
  obtain ⟨-, ⟨h0, h1, h2⟩, -⟩ := places t
  match a with
  | ⟨0, _⟩ => show (y 0 : Nat) = win0_14.index t 0 * 4 + 1 * (y 0 : Nat); rw [h0]; omega
  | ⟨1, _⟩ => show (win0_13.index t 0 * 8 + win0_13.index t 1) * 512 + (y 1 : Nat) = win0_14.index t 1 * 512 + 1 * (y 1 : Nat); rw [h1]; omega
  | ⟨2, _⟩ => show (y 2 : Nat) = win0_14.index t 2 * 256 + 1 * (y 2 : Nat); rw [h2]; omega

/-- Of the logits. -/
theorem logits_flushed (c : Dev nD) (hf : Finite m c) (t : Fin cfg0.N) :
    (dats m 0 c).flushed 15 t = ((cfg0.win 15).blk t).view.read (Elt Ideal) (logits m c) := by
  rw [Value.flushed15_A, logit_eq]
  funext y
  rw [View.read_apply]
  refine (logitRow_eq m c hf t (y 0) (y 1)).trans ?_
  refine congrArg (logits m c) (a₁ := ix2 (listed t (y 0)) (y 1)) (funext fun a => Fin.ext ?_)
  obtain ⟨-, -, ⟨h0, h1⟩⟩ := places t
  match a with
  | ⟨0, _⟩ => show (win0_13.index t 0 * 8 + win0_13.index t 1) * 512 + (y 0 : Nat) = win0_15.index t 0 * 512 + 1 * (y 0 : Nat); rw [h0]; omega
  | ⟨1, _⟩ => show (y 1 : Nat) = win0_15.index t 1 * 128 + 1 * (y 1 : Nat); rw [h1]; omega

/-! ## The blocks cover the arrays -/

theorem stream_final (c : Dev nD) : (dats m 0 c).arrAt 13 cfg0.N = stream m c :=
  (dats m 0 c).arrAt_eq_of_cover 13 (stream m c) (fun t _ => stream_flushed m c t) fun i => by
    have h0 : (i 0 : Nat) < 16 := (i 0).isLt
    have h1 : (i 1 : Nat) < 4096 := (i 1).isLt
    have h2 : (i 2 : Nat) < 1024 := (i 2).isLt
    obtain ⟨t, e0, e1⟩ := place_of ⟨(i 0 : Nat), h0⟩ ⟨(i 1 : Nat) / 512, by omega⟩
    obtain ⟨⟨-, -, e2⟩, -⟩ := places t
    refine ⟨t, flush0_13 t, ?_⟩
    show i ∈ ((View.whole main_v16_0).slice (win0_13.rect t)).set
    rw [View.set_slice_whole, Rect.mem_set_unit]
    intro a
    match a with
    | ⟨0, _⟩ => show win0_13.index t 0 * 1 ≤ (i 0 : Nat) ∧ (i 0 : Nat) < win0_13.index t 0 * 1 + 1; rw [e0]; dsimp only; omega
    | ⟨1, _⟩ => show win0_13.index t 1 * 512 ≤ (i 1 : Nat) ∧ (i 1 : Nat) < win0_13.index t 1 * 512 + 512; rw [e1]; dsimp only; omega
    | ⟨2, _⟩ => show win0_13.index t 2 * 1024 ≤ (i 2 : Nat) ∧ (i 2 : Nat) < win0_13.index t 2 * 1024 + 1024; rw [e2]; omega

theorem chunks_final (c : Dev nD) : (dats m 0 c).arrAt 14 cfg0.N = chunks m c :=
  (dats m 0 c).arrAt_eq_of_cover 14 (chunks m c) (fun t _ => chunks_flushed m c t) fun i => by
    have h0 : (i 0 : Nat) < 4 := (i 0).isLt
    have h1 : (i 1 : Nat) < 65536 := (i 1).isLt
    have h2 : (i 2 : Nat) < 256 := (i 2).isLt
    obtain ⟨t, e0, e1⟩ := place_of ⟨(i 1 : Nat) / 4096, by omega⟩ ⟨(i 1 : Nat) / 512 % 8, by omega⟩
    obtain ⟨-, ⟨f0, f1, f2⟩, -⟩ := places t
    refine ⟨t, flush0_14 t, ?_⟩
    show i ∈ ((View.whole main_v16_1).slice (win0_14.rect t)).set
    rw [View.set_slice_whole, Rect.mem_set_unit]
    intro a
    match a with
    | ⟨0, _⟩ => show win0_14.index t 0 * 4 ≤ (i 0 : Nat) ∧ (i 0 : Nat) < win0_14.index t 0 * 4 + 4; rw [f0]; omega
    | ⟨1, _⟩ => show win0_14.index t 1 * 512 ≤ (i 1 : Nat) ∧ (i 1 : Nat) < win0_14.index t 1 * 512 + 512; rw [f1, e0, e1]; dsimp only; omega
    | ⟨2, _⟩ => show win0_14.index t 2 * 256 ≤ (i 2 : Nat) ∧ (i 2 : Nat) < win0_14.index t 2 * 256 + 256; rw [f2]; omega

theorem logits_final (c : Dev nD) (hf : Finite m c) : (dats m 0 c).arrAt 15 cfg0.N = logits m c :=
  (dats m 0 c).arrAt_eq_of_cover 15 (logits m c) (fun t _ => logits_flushed m c hf t) fun i => by
    have h0 : (i 0 : Nat) < 65536 := (i 0).isLt
    have h1 : (i 1 : Nat) < 128 := (i 1).isLt
    obtain ⟨t, e0, e1⟩ := place_of ⟨(i 0 : Nat) / 4096, by omega⟩ ⟨(i 0 : Nat) / 512 % 8, by omega⟩
    obtain ⟨-, -, ⟨f0, f1⟩⟩ := places t
    refine ⟨t, flush0_15 t, ?_⟩
    show i ∈ ((View.whole main_v16_2).slice (win0_15.rect t)).set
    rw [View.set_slice_whole, Rect.mem_set_unit]
    intro a
    match a with
    | ⟨0, _⟩ => show win0_15.index t 0 * 512 ≤ (i 0 : Nat) ∧ (i 0 : Nat) < win0_15.index t 0 * 512 + 512; rw [f0, e0, e1]; dsimp only; omega
    | ⟨1, _⟩ => show win0_15.index t 1 * 128 ≤ (i 1 : Nat) ∧ (i 1 : Nat) < win0_15.index t 1 * 128 + 128; rw [f1]; omega

/-- The run: the three arrays at the results, the arguments unchanged. -/
theorem run (hf : ∀ c, Finite m c) : θ_run defs (onTc (τ := τ) (main (F := Ideal))) ⟨m, fun _ => 0, ρ⟩ fun r => ∀ c : Dev nD,
      r.2.mem ((c : Thread nD τ).loc main_v16_0) = stream m c
      ∧ r.2.mem ((c : Thread nD τ).loc main_v16_1) = chunks m c
      ∧ r.2.mem ((c : Thread nD τ).loc main_v16_2) = logits m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (stream_final m c), (h c).2.1.trans (chunks_final m c),
    (h c).2.2.1.trans (logits_final m c (hf c)), (h c).2.2.2⟩) (Value.run_blocks m ρ)

end Cert.MergeIdeal.Array

end
-- ==== Proof.Merge.Ref.lean ====
/-
  The plain merge projection read at an entry: the new stream, its normed rows in chunks and the router's logits.
-/
module

public import proofs.«01_k».proof.Proof.Merge.Terms
public import proofs.«01_k».proof.Proof.Gen.MergeRefIdeal.Run

@[expose] public section

noncomputable section

namespace Cert.MergeRefIdeal.Entry

open Cert.MergeRefIdeal Cert.MergeRefIdeal.Gen Cert.InProjTerms Cert.MergeTerms Idealize.ShloMosaic Idealize.ShloMosaic.TcCoe

/-! ## The steps, each from the arrays it reads -/

/-- The left branch's gates: the logistic function of the first 1024 columns. -/
def gatesLeft (z : S16x4096x5376.Idx → EReal) : FVec Ideal S16x4096x1024 .f32 :=
  Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (extf (φ := .bf16) .f32 (extractStridedSlice S16x4096x1024 ![0, 0, 0] z slices_S16x4096x5376_S16x4096x1024_0_0_0) bitsLt_bf16_f32))))

/-- And the right branch's: of the next 1024. -/
def gatesRight (z : S16x4096x5376.Idx → EReal) : FVec Ideal S16x4096x1024 .f32 :=
  Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (extf (φ := .bf16) .f32 (extractStridedSlice S16x4096x1024 ![0, 0, 1024] z slices_S16x4096x5376_S16x4096x1024_0_0_1024) bitsLt_bf16_f32))))

/-- A branch's projection. -/
def projection (a : S16x4096x512.Idx → EReal) (w : S512x1024.Idx → EReal) : FVec Ideal S16x4096x1024 .f32 :=
  Host.dotGeneral (φ₁ := .f32) (φ₂ := .f32) dot_S16x4096x512_S512x1024_S16x4096x1024_2_0_01_1_n_n none (extf (φ := .bf16) .f32 a bitsLt_bf16_f32) w

/-- The stream plus the merged rows' product with the output weights, scaled by the gain. -/
def added (h y : S16x4096x1024.Idx → EReal) (wo : S1024x1024.Idx → EReal) (g1 : S16x1x1024.Idx → EReal) : FVec Ideal S16x4096x1024 .f32 :=
  addf (φ := .f32) h (mulf (φ := .f32) (broadcastInDim S16x4096x1024 ![0, 1, 2] bcast_S16x1x1024_S16x4096x1024_0_1_2 g1) (Host.dotGeneral (φ₁ := .f32) (φ₂ := .f32) dot_S16x4096x1024_S1024x1024_S16x4096x1024_2_0_01_1_n_n none y wo))

/-- The new stream. -/
def streamAll (h : S16x4096x1024.Idx → EReal) (a b : S16x4096x512.Idx → EReal) (z : S16x4096x5376.Idx → EReal)
    (wa wb : S512x1024.Idx → EReal) (wo : S1024x1024.Idx → EReal) (g1 : S16x1x1024.Idx → EReal) : FVec Ideal S16x4096x1024 .f32 :=
  added h (addf (mulf (gatesLeft z) (projection a wa)) (mulf (gatesRight z) (projection b wb))) wo g1

/-- The modulated norm of a stream. -/
def normedAll (h : S16x4096x1024.Idx → EReal) (g : S1024.Idx → EReal) (sc sh : S16x1x1024.Idx → EReal) : FVec Ideal S16x4096x1024 .f32 :=
  addf (mulf (mulf (mulf h (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf h h) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))) (broadcastInDim S16x4096x1024 ![0, 1, 2] bcast_S16x1x1024_S16x4096x1024_0_1_2 (addf (broadcastInDim S16x1x1024 ![] bcast_S_S16x1x1024 (constant S_ .f32 0x3F800000#32)) sc))) (broadcastInDim S16x4096x1024 ![0, 1, 2] bcast_S16x1x1024_S16x4096x1024_0_1_2 sh)

/-- All the tokens' rows in one list. -/
def flat (x : S16x4096x1024.Idx → EReal) : FVec Ideal S65536x1024 .f32 := shapeCast _ x shapeCasts_S16x4096x1024_S65536x1024

/-- A list of rows in chunks. -/
def chunksAll (x : S65536x1024.Idx → EReal) : FVec Ideal S4x65536x256 .bf16 :=
  truncf (φ := .f32) .bf16 (shapeCast S4x65536x256 (transpose S4x65536x2x128 [2, 0, 1, 3] (shapeCast S65536x2x4x128 x shapeCasts_S65536x1024_S65536x2x4x128) transposes_S65536x2x4x128_S4x65536x2x128_2_0_1_3) shapeCasts_S4x65536x2x128_S4x65536x256) bitsLt_bf16_f32

/-- The logits of a list of rows: the groups', the experts', zeros. -/
def logitsAll (x : S65536x1024.Idx → EReal) (wg : S1024x4.Idx → EReal) (bg : S4.Idx → EReal) (we : S1024x32.Idx → EReal)
    (be : S32.Idx → EReal) : FVec Ideal S65536x128 .f32 :=
  concatenate S65536x128 1 [⟨S65536x4, addf (Host.dotGeneral (φ₁ := .f32) (φ₂ := .f32) dot_S65536x1024_S1024x4_S65536x4_1_0_0_1_n_n none x wg) (broadcastInDim S65536x4 ![0, 1] bcast_S1x4_S65536x4_0_1 (broadcastInDim S1x4 ![1] bcast_S4_S1x4_1 bg))⟩, ⟨S65536x32, addf (Host.dotGeneral (φ₁ := .f32) (φ₂ := .f32) dot_S65536x1024_S1024x32_S65536x32_1_0_0_1_n_n none x we) (broadcastInDim S65536x32 ![0, 1] bcast_S1x32_S65536x32_0_1 (broadcastInDim S1x32 ![1] bcast_S32_S1x32_1 be))⟩, ⟨S65536x92, broadcastInDim S65536x92 ![] bcast_S_S65536x92 (constant S_ .f32 0x00000000#32)⟩] concatenates_S65536x4_S65536x32_S65536x92_S65536x128_d1

/-! ## Each read at an entry -/

set_option maxRecDepth 16384 in
theorem gatesLeft_apply (z : S16x4096x5376.Idx → EReal) (n : Fin 16) (i : Fin 4096) (l : Fin 1024) :
    gatesLeft z (ix3 n i l) = MergeTerms.logistic (z (ix3 n i ⟨l.val, by omega⟩)) := by
  pointwise [gatesLeft, MergeTerms.logistic]

set_option maxRecDepth 16384 in
theorem gatesRight_apply (z : S16x4096x5376.Idx → EReal) (n : Fin 16) (i : Fin 4096) (l : Fin 1024) :
    gatesRight z (ix3 n i l) = MergeTerms.logistic (z (ix3 n i ⟨1024 + l.val, by omega⟩)) := by
  pointwise [gatesRight, MergeTerms.logistic]

set_option maxRecDepth 16384 in
theorem projection_apply (a : S16x4096x512.Idx → EReal) (w : S512x1024.Idx → EReal) (n : Fin 16) (i : Fin 4096) (l : Fin 1024) :
    projection a w (ix3 n i l) = ∑ k, a (ix3 n i k) * w (ix2 k l) := by
  pointwise [projection]

set_option maxRecDepth 16384 in
theorem added_apply (h y : S16x4096x1024.Idx → EReal) (wo : S1024x1024.Idx → EReal) (g1 : S16x1x1024.Idx → EReal)
    (n : Fin 16) (i : Fin 4096) (k : Fin 1024) :
    added h y wo g1 (ix3 n i k) = h (ix3 n i k) + g1 (ix3 n 0 k) * ∑ l, y (ix3 n i l) * wo (ix2 l k) := by
  pointwise [added]

set_option maxRecDepth 16384 in
/-- Two gated projections added, at an entry. -/
theorem gates_apply (p q x y : FVec Ideal S16x4096x1024 .f32) (i : S16x4096x1024.Idx) :
    addf (mulf p x) (mulf q y) i = p i * x i + q i * y i := rfl

/-- The new stream at an entry. -/
theorem streamAll_apply (h : S16x4096x1024.Idx → EReal) (a b : S16x4096x512.Idx → EReal) (z : S16x4096x5376.Idx → EReal)
    (wa wb : S512x1024.Idx → EReal) (wo : S1024x1024.Idx → EReal) (g1 : S16x1x1024.Idx → EReal) (n : Fin 16) (i : Fin 4096) (k : Fin 1024) :
    streamAll h a b z wa wb wo g1 (ix3 n i k) = streamAt h a b z wa wb wo g1 n i k := by
  unfold streamAll streamAt stream gated
  rw [added_apply]
  simp only [gates_apply, gatesLeft_apply, gatesRight_apply, projection_apply]

set_option maxRecDepth 16384 in
/-- The modulated norm at an entry. -/
theorem normedAll_apply (h : S16x4096x1024.Idx → EReal) (g : S1024.Idx → EReal) (sc sh : S16x1x1024.Idx → EReal)
    (n : Fin 16) (i : Fin 4096) (k : Fin 1024) :
    normedAll h g sc sh (ix3 n i k)
      = normed (fun l => h (ix3 n i l)) (fun l => g (ix1 l)) (fun l => sc (ix3 n 0 l)) (fun l => sh (ix3 n 0 l)) k := by
  pointwise [normedAll, normed]

set_option maxRecDepth 16384 in
/-- Row `r` of the list is the row at its place in its batch member. -/
theorem flat_apply (x : S16x4096x1024.Idx → EReal) (r : Fin 65536) (k : Fin 1024) :
    flat x (ix2 r k) = x (ix3 (member r) (place r) k) := by
  pointwise [flat, member, place]

set_option maxRecDepth 16384 in
/-- Lane `y` of chunk `j` is column `column j y` of the row. -/
theorem chunksAll_apply (x : S65536x1024.Idx → EReal) (j : Fin 4) (r : Fin 65536) (y : Fin 256) :
    chunksAll x (ix3 j r y) = x (ix2 r (MergeTerms.column j y)) := by
  pointwise [chunksAll, MergeTerms.column]

set_option maxRecDepth 16384 in
/-- A logit at an entry. -/
theorem logitsAll_apply (x : S65536x1024.Idx → EReal) (wg : S1024x4.Idx → EReal) (bg : S4.Idx → EReal) (we : S1024x32.Idx → EReal)
    (be : S32.Idx → EReal) (r : Fin 65536) (j : Fin 128) :
    logitsAll x wg bg we be (ix2 r j)
      = logit (fun k => x (ix2 r k)) (fun k => routers wg we k j) (biases bg be j) := by
  pointwise [logitsAll]
  unfold logit routers biases
  by_cases hg : j.val < 4
  · simp only [dif_pos hg]
  · by_cases he : j.val < 36
    · have he' : j.val - 4 < 32 := by omega
      simp only [dif_neg hg, dif_pos he, dif_pos he']
    · have he' : ¬ j.val - 4 < 32 := by omega
      simp only [dif_neg hg, dif_neg he, dif_neg he', mul_zero, Finset.sum_const_zero, add_zero]

variable (m : (ℓ : Loc nD τ sig) → Buf (Elt Ideal) ℓ) (ρ : Dev nD → PrngReg)

/-- The stream, the normed rows and the list of them from memory's arguments. -/
def streamOf (c : Dev nD) : FVec Ideal S16x4096x1024 .f32 :=
  streamAll (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

def listOf (c : Dev nD) : FVec Ideal S65536x1024 .f32 :=
  flat (normedAll (streamOf m c) (m ((c : Thread nD τ).loc main_arg8)) (m ((c : Thread nD τ).loc main_arg9)) (m ((c : Thread nD τ).loc main_arg10)))

/-- An element of the list of normed rows. -/
theorem listOf_apply (c : Dev nD) (r : Fin 65536) (k : Fin 1024) :
    listOf m c (ix2 r k)
      = normedAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (member r) (place r) k := by
  unfold listOf normedAt
  rw [flat_apply, normedAll_apply]
  unfold streamOf
  rw [funext fun l => streamAll_apply _ _ _ _ _ _ _ _ (member r) (place r) l]

set_option maxRecDepth 16384 in
/-- The second result is the list's chunks. -/
theorem chunks_eq (c : Dev nD) : Value.res_out1 m c = chunksAll (listOf m c) := rfl

set_option maxRecDepth 16384 in
/-- The third is the list's logits. -/
theorem logits_eq (c : Dev nD) : Value.res_out2 m c
    = logitsAll (listOf m c) (m ((c : Thread nD τ).loc main_arg11)) (m ((c : Thread nD τ).loc main_arg12))
        (m ((c : Thread nD τ).loc main_arg13)) (m ((c : Thread nD τ).loc main_arg14)) := rfl

/-- The run: the three results at their entries, the arguments unchanged. -/
theorem run : θ_run defs (onTc (τ := τ) (main (F := Ideal))) ⟨m, fun _ => 0, ρ⟩ fun r => ∀ c : Dev nD,
      r.2.mem ((c : Thread nD τ).loc main_v26) = (fun i : S16x4096x1024.Idx =>
          streamAt (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (i 0) (i 1) (i 2))
      ∧ r.2.mem ((c : Thread nD τ).loc main_v59) = (fun i : S4x65536x256.Idx =>
          chunkAt (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (i 0) (i 1) (i 2))
      ∧ r.2.mem ((c : Thread nD τ).loc main_v60) = (fun i : S65536x128.Idx =>
          logitAt (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11))
            (m ((c : Thread nD τ).loc main_arg12)) (m ((c : Thread nD τ).loc main_arg13)) (m ((c : Thread nD τ).loc main_arg14)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (funext fun i => by
      rw [eq_ix3 i]
      exact streamAll_apply _ _ _ _ _ _ _ _ (i 0) (i 1) (i 2)),
    (h c).2.1.trans ((chunks_eq m c).trans (funext fun i => by
      rw [eq_ix3 i]
      exact (chunksAll_apply _ (i 0) (i 1) (i 2)).trans (listOf_apply m c _ _))),
    (h c).2.2.1.trans ((logits_eq m c).trans (funext fun i => by
      rw [eq_ix2 i]
      exact (logitsAll_apply _ _ _ _ _ (i 0) (i 1)).trans
        (congrArg (logit · _ _) (funext (listOf_apply m c (i 0)))))), (h c).2.2.2⟩) (Value.run m ρ)

end Cert.MergeRefIdeal.Entry

end
-- ==== Proof.Merge.Pre.lean ====
/-
  The precondition, read as numbers: every checked array's entries are real numbers.
-/
module

public import proofs.«01_k».proof.Proof.Merge.Terms
public import proofs.«01_k».proof.Proof.Attend.Pre
public import proofs.«01_k».proof.Proof.Gen.Pre_stream_finite

@[expose] public section

noncomputable section

namespace Cert.MergeTerms

open Cert.Pre_stream_finite Cert.Pre_stream_finite.Gen Idealize.ShloMosaic Cert.AttendTerms

/-- The bound's word in the narrow format is infinity too. -/
theorem bound16_eq : Ideal.ofBits FTy.bf16 0x7F80#16 = ⊤ := by
  simp [Ideal.ofBits, Ideal.ieee]

/-- The check of a whole array in the narrow format. -/
theorem reals_of_checks16 {S : Shape} {axes : List (Fin S.rank)} (x : FVec Ideal S .bf16) (hb : S_.BroadcastsInDim S (![] : Fin 0 → Fin S.rank))
    (hr : S.ReducesTo axes S_) (h0 : 0 < S_.numel) (j : S_.Idx)
    (h : Host.reduce IntOp.andi (cmpf .olt (Host.absf x) (broadcastInDim S ![] hb (constant S_ .bf16 0x7F80#16))) (constantI S_ 1 1#1) hr h0 j = 1#1) :
    Reals x := fun i => by
  haveI : Subsingleton S_.Idx := ⟨fun a b => funext fun k => k.elim0⟩
  have e := Host.reduce_andi_all _ _ hr h0 j h i
  refine real_of_check _ ?_
  rw [← bound16_eq]
  exact e

/-- The precondition says that every array but the gates and the biases holds real numbers. -/
theorem reals_of_pre (h : FVec Ideal S16x4096x1024 .f32) (a b : FVec Ideal S16x4096x512 .bf16) (z : FVec Ideal S16x4096x5376 .bf16)
    (wa wb : FVec Ideal S512x1024 .f32) (wo : FVec Ideal S1024x1024 .f32) (g1 : FVec Ideal S16x1x1024 .f32) (n2 : FVec Ideal S1024 .f32)
    (sc sh : FVec Ideal S16x1x1024 .f32) (wg : FVec Ideal S1024x4 .f32) (bg : FVec Ideal S4 .f32) (we : FVec Ideal S1024x32 .f32)
    (be : FVec Ideal S32 .f32)
    (hp : Cert.Pre_stream_finite.fn (F := Ideal) h a b z wa wb wo g1 n2 sc sh wg bg we be = fun _ => 1#1) :
    Reals h ∧ Reals a ∧ Reals b ∧ Reals wa ∧ Reals wb ∧ Reals wo ∧ Reals g1 ∧ Reals n2 ∧ Reals sc ∧ Reals sh ∧ Reals wg ∧ Reals we := by
  have e := congrFun hp (Shape.Idx.first Facts.h_S_)
  obtain ⟨e, ewe⟩ := IntOp.andi_eq_one.1 e
  obtain ⟨e, ewg⟩ := IntOp.andi_eq_one.1 e
  obtain ⟨e, esh⟩ := IntOp.andi_eq_one.1 e
  obtain ⟨e, esc⟩ := IntOp.andi_eq_one.1 e
  obtain ⟨e, en⟩ := IntOp.andi_eq_one.1 e
  obtain ⟨e, eg⟩ := IntOp.andi_eq_one.1 e
  obtain ⟨e, ewo⟩ := IntOp.andi_eq_one.1 e
  obtain ⟨e, ewb⟩ := IntOp.andi_eq_one.1 e
  obtain ⟨e, ewa⟩ := IntOp.andi_eq_one.1 e
  obtain ⟨e, eb⟩ := IntOp.andi_eq_one.1 e
  obtain ⟨eh, ea⟩ := IntOp.andi_eq_one.1 e
  exact ⟨reals_of_checks h Facts.bcast_S_S16x4096x1024 Facts.reducesTo_S16x4096x1024_S_d0_1_2 Facts.h_S_ _ eh,
    reals_of_checks16 a Facts.bcast_S_S16x4096x512 Facts.reducesTo_S16x4096x512_S_d0_1_2 Facts.h_S_ _ ea,
    reals_of_checks16 b Facts.bcast_S_S16x4096x512 Facts.reducesTo_S16x4096x512_S_d0_1_2 Facts.h_S_ _ eb,
    reals_of_checks wa Facts.bcast_S_S512x1024 Facts.reducesTo_S512x1024_S_d0_1 Facts.h_S_ _ ewa,
    reals_of_checks wb Facts.bcast_S_S512x1024 Facts.reducesTo_S512x1024_S_d0_1 Facts.h_S_ _ ewb,
    reals_of_checks wo Facts.bcast_S_S1024x1024 Facts.reducesTo_S1024x1024_S_d0_1 Facts.h_S_ _ ewo,
    reals_of_checks g1 Facts.bcast_S_S16x1x1024 Facts.reducesTo_S16x1x1024_S_d0_1_2 Facts.h_S_ _ eg,
    reals_of_checks n2 Facts.bcast_S_S1024 Facts.reducesTo_S1024_S_d0 Facts.h_S_ _ en,
    reals_of_checks sc Facts.bcast_S_S16x1x1024 Facts.reducesTo_S16x1x1024_S_d0_1_2 Facts.h_S_ _ esc,
    reals_of_checks sh Facts.bcast_S_S16x1x1024 Facts.reducesTo_S16x1x1024_S_d0_1_2 Facts.h_S_ _ esh,
    reals_of_checks wg Facts.bcast_S_S1024x4 Facts.reducesTo_S1024x4_S_d0_1 Facts.h_S_ _ ewg,
    reals_of_checks we Facts.bcast_S_S1024x32 Facts.reducesTo_S1024x32_S_d0_1 Facts.h_S_ _ ewe⟩

end Cert.MergeTerms

end
-- ==== Proof.Combine.Terms.lean ====
/-
  One entry of the layer's last step over the extended reals: a token's row of the stream plus its two experts' rows,
  weighted, times the gain; then the row over the root of its mean square, scaled.
-/
module

public import Idealize.ShloMosaic.Lib.Pointwise

@[expose] public section

noncomputable section

namespace Cert.CombineTerms

open Idealize.ShloMosaic

/-- Element `k` of the token's row with the weighted experts' rows added. -/
def added (h g u v : Fin 1024 → EReal) (a b : EReal) (k : Fin 1024) : EReal := h k + g k * (u k * a + v k * b)

/-- Element `k` of a row after the norm: the row over the root of its mean square (plus the small constant), scaled. -/
def scaled (x f : Fin 1024 → EReal) (k : Fin 1024) : EReal :=
  x k * Ideal.rsqrt (Ideal.div (∑ l, x l * x l) (Ideal.ofBits FTy.f32 1149239296#32) + Ideal.ofBits FTy.f32 897988541#32) * f k

/-- The chunk that holds column `k` of a row, and the lane it has there: a chunk holds 128 columns of the row's first half
    and the 128 that lie 512 further on. -/
def chunk (k : Fin 1024) : Fin 4 := ⟨k.val / 128 % 4, by omega⟩
def lane (k : Fin 1024) : Fin 256 := ⟨k.val / 512 * 128 + k.val % 128, by omega⟩

/-- Where token `i` of batch member `n` stands in the list of all the tokens. -/
def listed (n : Fin 16) (i : Fin 4096) : Fin 65536 := ⟨n.val * 4096 + i.val, by omega⟩

/-- The result at token `i` of batch member `n`, column `k`, from the whole arrays: the stream, the two experts' rows in
    chunks, the table whose lanes 2 and 3 are the two weights, the gain and the scale. -/
def entry (h : (⟨3, ![16, 4096, 1024]⟩ : Shape).Idx → EReal) (y1 y2 : (⟨3, ![4, 65536, 256]⟩ : Shape).Idx → EReal)
    (w : (⟨2, ![65536, 128]⟩ : Shape).Idx → EReal) (g : (⟨3, ![16, 1, 1024]⟩ : Shape).Idx → EReal)
    (f : (⟨1, ![1024]⟩ : Shape).Idx → EReal) (n : Fin 16) (i : Fin 4096) (k : Fin 1024) : EReal :=
  scaled (added (fun l => h (ix3 n i l)) (fun l => g (ix3 n 0 l)) (fun l => y1 (ix3 (chunk l) (listed n i) (lane l)))
    (fun l => y2 (ix3 (chunk l) (listed n i) (lane l))) (w (ix2 (listed n i) 2)) (w (ix2 (listed n i) 3))) (fun l => f (ix1 l)) k

end Cert.CombineTerms

end
-- ==== Proof.Combine.Block.lean ====
/-
  What the layer's last step leaves in its output block: 512 rows, each computed from its rows alone.
-/
module

public import proofs.«01_k».proof.Proof.Combine.Terms
public import proofs.«01_k».proof.Proof.Gen.CombineIdeal.Value

@[expose] public section

noncomputable section

namespace Cert.CombineIdeal.Block

open Cert.CombineIdeal Cert.CombineIdeal.Gen Cert.CombineTerms Idealize.ShloMosaic Idealize.ShloMosaic.TcCoe

variable (x0 : Vec Ideal S1x512x1024 .f32) (x1 x2 : Vec Ideal S4x512x256 .bf16) (x3 : Vec Ideal S512x128 .f32)
  (x4 : Vec Ideal S1x1x1024 .f32) (x5 : Vec Ideal S1x1024 .f32)

/-- Row `i` of the block with the experts' rows added. -/
def addedRow (i : Fin 512) (k : Fin 1024) : EReal :=
  added (fun l => x0 (ix3 0 i l)) (fun l => x4 (ix3 0 0 l)) (fun l => x1 (ix3 (chunk l) i (lane l)))
    (fun l => x2 (ix3 (chunk l) i (lane l))) (x3 (ix2 i 2)) (x3 (ix2 i 3)) k

/-- The block, as contents of the output buffer. -/
def wholeBlock : Vec Ideal S1x512x1024 .f32 := fun y => scaled (addedRow x0 x1 x2 x3 x4 (y 1)) (fun l => x5 (ix2 0 l)) (y 2)

/-- Eight pieces of 128 columns, four from the chunks' first halves and four from their second: column `k` is the lane of
    the chunk that holds it. -/
theorem ladder (x : Vec Ideal S4x512x256 .bf16) (i : Fin 512) (k : Fin 1024) (j : Fin 4) (l : Fin 256)
    (hj : j.val = k.val / 128 % 4) (hl : l.val = k.val / 512 * 128 + k.val % 128) :
    x (ix3 j i l) = x (ix3 (chunk k) i (lane k)) :=
  congrArg₂ (fun a b => x (ix3 a i b)) (Fin.ext hj) (Fin.ext hl)

set_option maxRecDepth 16384 in
/-- The first expert's weighted rows. -/
theorem first_apply (i : Fin 512) (k : Fin 1024) :
    k0_pay6 x0 x1 x2 x3 x4 x5 (ix2 i k) = x1 (ix3 (chunk k) i (lane k)) * x3 (ix2 i 2) := by
  unfold k0_pay6
  pointwise [k0_pay2]
  refine congrArg (· * _) ?_
  split_ifs <;> refine ladder x1 i k _ _ ?_ ?_ <;> simp <;> omega

/-- The rows with the experts' added, as the body computes them. -/
def rows : FVec Ideal S512x1024 .f32 :=
  k0_pay4 (View.ld x3 r0_1) (k0_pay6 x0 x1 x2 x3 x4 x5) (k0_pay7 x0 x1 x2 x3 x4 x5) (View.ld x2 r0_3) (View.ld x2 r0_4)
    (View.ld x2 r0_5) (View.ld x2 r0_6) (View.ld x2 r0_7) (View.ld x2 r0_8) (View.ld x2 r0_9) (View.ld x0 r0_10) (View.ld x4 r0_11)

set_option maxRecDepth 16384 in
theorem rows_apply (i : Fin 512) (k : Fin 1024) : rows x0 x1 x2 x3 x4 x5 (ix2 i k) = addedRow x0 x1 x2 x3 x4 i k := by
  unfold rows k0_pay7 addedRow added
  rw [← first_apply x0 x1 x2 x3 x4 x5 i k]
  generalize k0_pay6 x0 x1 x2 x3 x4 x5 = p
  pointwise [k0_pay4, k0_pay3]
  refine congrArg (fun e => x0 (ix3 0 i k) + x4 (ix3 0 0 k) * (p (ix2 i k) + e * _)) ?_
  split_ifs <;> refine ladder x2 i k _ _ ?_ ?_ <;> simp <;> omega

/-- The norm of the rows, as the body computes it. -/
def normedRows : FVec Ideal S1x512x1024 .f32 :=
  k0_pay1 (rows x0 x1 x2 x3 x4 x5)
    (k0_pay5 (View.ld x3 r0_1) (k0_pay6 x0 x1 x2 x3 x4 x5) (k0_pay7 x0 x1 x2 x3 x4 x5) (View.ld x2 r0_3) (View.ld x2 r0_4)
      (View.ld x2 r0_5) (View.ld x2 r0_6) (View.ld x2 r0_7) (View.ld x2 r0_8) (View.ld x2 r0_9) (View.ld x0 r0_10) (View.ld x4 r0_11))
    (View.ld x5 r0_12)

set_option maxRecDepth 16384 in
theorem normedRows_apply (i : Fin 512) (k : Fin 1024) :
    normedRows x0 x1 x2 x3 x4 x5 (ix3 0 i k) = scaled (addedRow x0 x1 x2 x3 x4 i) (fun l => x5 (ix2 0 l)) k := by
  unfold normedRows k0_pay5
  rw [← funext (rows_apply x0 x1 x2 x3 x4 x5 i)]
  pointwise [k0_pay1, scaled]
  rfl

/-- The body's output block, entry by entry. -/
theorem out_eq : out0_6 x0 x1 x2 x3 x4 x5 = wholeBlock x0 x1 x2 x3 x4 x5 := by
  have hp : ∀ x : S1x512x1024.Idx, normedRows x0 x1 x2 x3 x4 x5 x = wholeBlock x0 x1 x2 x3 x4 x5 (r0_10.emb x) := fun x => by
    have hx : (x 0 : Nat) < 1 := (x 0).isLt
    have e : x = ix3 0 (x 1) (x 2) := (eq_ix3 x).trans (congrArg (ix3 · (x 1) (x 2)) (Fin.ext (by show (x 0 : Nat) = 0; omega)))
    have e' : r0_10.emb x = x := funext fun a => Fin.ext (by
      match a with
      | ⟨0, _⟩ => show 0 + 1 * (x 0 : Nat) = x 0; omega
      | ⟨1, _⟩ => show 0 + 1 * (x 1 : Nat) = x 1; omega
      | ⟨2, _⟩ => show 0 + 1 * (x 2 : Nat) = x 2; omega)
    rw [e']
    exact (congrArg _ e).trans (normedRows_apply x0 x1 x2 x3 x4 x5 (x 1) (x 2))
  funext y
  refine View.canon_apply_of_pieces (wholeBlock x0 x1 x2 x3 x4 x5) _ ?_ y (cover0_6 _ y)
  intro p h
  obtain rfl := List.mem_singleton.mp h
  exact hp

end Cert.CombineIdeal.Block

end
-- ==== Proof.Combine.Array.lean ====
/-
  The array the layer's last step leaves: 16 × 8 blocks of 512 rows, each computed from its rows alone, together the
  whole result.
-/
module

public import proofs.«01_k».proof.Proof.Combine.Block
public import Idealize.ShloMosaic.Lib.Claim

@[expose] public section

noncomputable section

namespace Cert.CombineIdeal.Array

open Cert.CombineIdeal Cert.CombineIdeal.Gen Cert.CombineTerms Idealize.ShloMosaic Idealize.ShloMosaic.TcCoe Idealize.SL.Sem
open Cert.CombineIdeal.Block

variable (m : (ℓ : Loc nD τ sig) → Buf (Elt Ideal) ℓ) (ρ : Dev nD → PrngReg)

/-- The result array, entry by entry, from the argument arrays. -/
def result (c : Dev nD) : S16x4096x1024.Idx → EReal := fun i =>
  entry (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (i 0) (i 1) (i 2)

set_option maxRecDepth 16384 in
/-- The scale's row holds the scale. -/
theorem row_apply (c : Dev nD) (k : Fin 1024) :
    (V m c main_v0 : S1x1024.Idx → EReal) (ix2 0 k) = m ((c : Thread nD τ).loc main_arg5) (ix1 k) := by
  entry_read
  pointwise

/-- Where each window stands at a point: the stream's and the result's at the same block, the chunks' and the table's at
    the same rows of the list of all tokens, the gain's at the block's batch member, the scale's at the start. -/
theorem places : ∀ t : Fin grid0.N,
    (win0_6.index t 0 < 16 ∧ win0_6.index t 1 < 8 ∧ win0_6.index t 2 = 0)
    ∧ (win0_0.index t 0 = win0_6.index t 0 ∧ win0_0.index t 1 = win0_6.index t 1 ∧ win0_0.index t 2 = 0)
    ∧ (win0_1.index t 0 = 0 ∧ win0_1.index t 1 = win0_6.index t 0 * 8 + win0_6.index t 1 ∧ win0_1.index t 2 = 0)
    ∧ (win0_2.index t 0 = 0 ∧ win0_2.index t 1 = win0_6.index t 0 * 8 + win0_6.index t 1 ∧ win0_2.index t 2 = 0)
    ∧ (win0_3.index t 0 = win0_6.index t 0 * 8 + win0_6.index t 1 ∧ win0_3.index t 1 = 0)
    ∧ (win0_4.index t 0 = win0_6.index t 0 ∧ win0_4.index t 1 = 0 ∧ win0_4.index t 2 = 0)
    ∧ (win0_5.index t 0 = 0 ∧ win0_5.index t 1 = 0) := by
  decide +kernel

/-- The block at batch member `b`, row block `r` is point `8 b + r`'s. -/
theorem place_of : ∀ (b : Fin 16) (r : Fin 8), ∃ t : Fin grid0.N, win0_6.index t 0 = b.val ∧ win0_6.index t 1 = r.val := by
  decide +kernel

/-- The batch member of point `t`'s block. -/
def member (t : Fin grid0.N) : Fin 16 := ⟨win0_6.index t 0, (places t).1.1⟩

/-- The token of row `i` of point `t`'s block. -/
def token (t : Fin grid0.N) (i : Fin 512) : Fin 4096 :=
  ⟨win0_6.index t 1 * 512 + i.val, by have := (places t).1.2.1; have := i.isLt; omega⟩

/-- The block of the stream at point `t`. -/
theorem stream_apply (c : Dev nD) (t : Fin cfg0.N) (i : Fin 512) (k : Fin 1024) :
    (iblk m c 0 t : Vec Ideal S1x512x1024 .f32) (ix3 0 i k)
      = m ((c : Thread nD τ).loc main_arg0) (ix3 (member t) (token t i) k) := by
  unfold iblk
  rw [View.read_apply]
  refine Eq.trans ?_ (congrFun (V_main_arg0 m c) (ix3 (member t) (token t i) k))
  refine congrArg (V m c main_arg0) (funext fun a => Fin.ext ?_)
  obtain ⟨-, ⟨h0, h1, h2⟩, -⟩ := places t
  match a with
  | ⟨0, _⟩ => show win0_0.index t 0 * 1 + 1 * 0 = win0_6.index t 0; rw [h0]; omega
  | ⟨1, _⟩ => show win0_0.index t 1 * 512 + 1 * i.val = win0_6.index t 1 * 512 + i.val; rw [h1]; omega
  | ⟨2, _⟩ => show win0_0.index t 2 * 1024 + 1 * k.val = k.val; rw [h2]; omega

/-- The first expert's rows at point `t`. -/
theorem first_rows_apply (c : Dev nD) (t : Fin cfg0.N) (j : Fin 4) (i : Fin 512) (l : Fin 256) :
    (iblk m c 1 t : Vec Ideal S4x512x256 .bf16) (ix3 j i l)
      = m ((c : Thread nD τ).loc main_arg1) (ix3 j (listed (member t) (token t i)) l) := by
  unfold iblk
  rw [View.read_apply]
  refine Eq.trans ?_ (congrFun (V_main_arg1 m c) (ix3 j (listed (member t) (token t i)) l))
  refine congrArg (V m c main_arg1) (funext fun a => Fin.ext ?_)
  obtain ⟨-, -, ⟨h0, h1, h2⟩, -⟩ := places t
  match a with
  | ⟨0, _⟩ => show win0_1.index t 0 * 4 + 1 * j.val = j.val; rw [h0]; omega
  | ⟨1, _⟩ =>
    show win0_1.index t 1 * 512 + 1 * i.val = win0_6.index t 0 * 4096 + (win0_6.index t 1 * 512 + i.val)
    rw [h1]; omega
  | ⟨2, _⟩ => show win0_1.index t 2 * 256 + 1 * l.val = l.val; rw [h2]; omega

/-- The second expert's rows at point `t`. -/
theorem second_rows_apply (c : Dev nD) (t : Fin cfg0.N) (j : Fin 4) (i : Fin 512) (l : Fin 256) :
    (iblk m c 2 t : Vec Ideal S4x512x256 .bf16) (ix3 j i l)
      = m ((c : Thread nD τ).loc main_arg2) (ix3 j (listed (member t) (token t i)) l) := by
  unfold iblk
  rw [View.read_apply]
  refine Eq.trans ?_ (congrFun (V_main_arg2 m c) (ix3 j (listed (member t) (token t i)) l))
  refine congrArg (V m c main_arg2) (funext fun a => Fin.ext ?_)
  obtain ⟨-, -, -, ⟨h0, h1, h2⟩, -⟩ := places t
  match a with
  | ⟨0, _⟩ => show win0_2.index t 0 * 4 + 1 * j.val = j.val; rw [h0]; omega
  | ⟨1, _⟩ =>
    show win0_2.index t 1 * 512 + 1 * i.val = win0_6.index t 0 * 4096 + (win0_6.index t 1 * 512 + i.val)
    rw [h1]; omega
  | ⟨2, _⟩ => show win0_2.index t 2 * 256 + 1 * l.val = l.val; rw [h2]; omega

/-- The table's rows at point `t`. -/
theorem table_apply (c : Dev nD) (t : Fin cfg0.N) (i : Fin 512) (l : Fin 128) :
    (iblk m c 3 t : Vec Ideal S512x128 .f32) (ix2 i l)
      = m ((c : Thread nD τ).loc main_arg3) (ix2 (listed (member t) (token t i)) l) := by
  unfold iblk
  rw [View.read_apply]
  refine Eq.trans ?_ (congrFun (V_main_arg3 m c) (ix2 (listed (member t) (token t i)) l))
  refine congrArg (V m c main_arg3) (funext fun a => Fin.ext ?_)
  obtain ⟨-, -, -, -, ⟨h0, h1⟩, -⟩ := places t
  match a with
  | ⟨0, _⟩ =>
    show win0_3.index t 0 * 512 + 1 * i.val = win0_6.index t 0 * 4096 + (win0_6.index t 1 * 512 + i.val)
    rw [h0]; omega
  | ⟨1, _⟩ => show win0_3.index t 1 * 128 + 1 * l.val = l.val; rw [h1]; omega

/-- The gain at point `t`. -/
theorem gain_apply (c : Dev nD) (t : Fin cfg0.N) (k : Fin 1024) :
    (iblk m c 4 t : Vec Ideal S1x1x1024 .f32) (ix3 0 0 k) = m ((c : Thread nD τ).loc main_arg4) (ix3 (member t) 0 k) := by
  unfold iblk
  rw [View.read_apply]
  refine Eq.trans ?_ (congrFun (V_main_arg4 m c) (ix3 (member t) 0 k))
  refine congrArg (V m c main_arg4) (funext fun a => Fin.ext ?_)
  obtain ⟨-, -, -, -, -, ⟨h0, h1, h2⟩, -⟩ := places t
  match a with
  | ⟨0, _⟩ => show win0_4.index t 0 * 1 + 1 * 0 = win0_6.index t 0; rw [h0]; omega
  | ⟨1, _⟩ => show win0_4.index t 1 * 1 + 1 * 0 = 0; rw [h1]
  | ⟨2, _⟩ => show win0_4.index t 2 * 1024 + 1 * k.val = k.val; rw [h2]; omega

/-- The norm's scale at point `t`. -/
theorem scale_apply (c : Dev nD) (t : Fin cfg0.N) (k : Fin 1024) :
    (iblk m c 5 t : Vec Ideal S1x1024 .f32) (ix2 0 k) = m ((c : Thread nD τ).loc main_arg5) (ix1 k) := by
  refine Eq.trans ?_ (row_apply m c k)
  unfold iblk
  rw [View.read_apply]
  refine congrArg (V m c main_v0) (funext fun a => Fin.ext ?_)
  obtain ⟨-, -, -, -, -, -, h0, h1⟩ := places t
  match a with
  | ⟨0, _⟩ => show win0_5.index t 0 * 1 + 1 * 0 = 0; rw [h0]
  | ⟨1, _⟩ => show win0_5.index t 1 * 1024 + 1 * k.val = k.val; rw [h1]; omega

/-- Point `t`'s block, computed from its windows, is the result at the block's place. -/
theorem block_eq (c : Dev nD) (t : Fin cfg0.N) (i : Fin 512) (k : Fin 1024) :
    scaled (addedRow (iblk m c 0 t) (iblk m c 1 t) (iblk m c 2 t) (iblk m c 3 t) (iblk m c 4 t) i)
        (fun l => (iblk m c 5 t : Vec Ideal S1x1024 .f32) (ix2 0 l)) k
      = result m c (ix3 (member t) (token t i) k) := by
  unfold result entry addedRow
  rw [funext (stream_apply m c t i), funext (gain_apply m c t), funext (scale_apply m c t),
    funext fun l => first_rows_apply m c t (chunk l) i (lane l), funext fun l => second_rows_apply m c t (chunk l) i (lane l),
    table_apply m c t i 2, table_apply m c t i 3]
  rfl

/-- What point `t` writes back is its block of the result. -/
theorem flushed_eq (c : Dev nD) (t : Fin cfg0.N) :
    (dats m 0 c).flushed 6 t = ((cfg0.win 6).blk t).view.read (Elt Ideal) (result m c) := by
  rw [Value.flushed6, out_eq]
  funext y
  rw [View.read_apply]
  refine (block_eq m c t (y 1) (y 2)).trans ?_
  refine congrArg (result m c) (funext fun a => Fin.ext ?_)
  obtain ⟨⟨-, -, h2⟩, -⟩ := places t
  have hy : (y 0 : Nat) < 1 := (y 0).isLt
  match a with
  | ⟨0, _⟩ => show win0_6.index t 0 = win0_6.index t 0 * 1 + 1 * (y 0 : Nat); omega
  | ⟨1, _⟩ => show win0_6.index t 1 * 512 + (y 1 : Nat) = win0_6.index t 1 * 512 + 1 * (y 1 : Nat); omega
  | ⟨2, _⟩ => show (y 2 : Nat) = win0_6.index t 2 * 1024 + 1 * (y 2 : Nat); rw [h2]; omega

/-- The blocks cover the result array, so it ends at the result. -/
theorem final (c : Dev nD) : (dats m 0 c).arrAt 6 cfg0.N = result m c :=
  (dats m 0 c).arrAt_eq_of_cover 6 (result m c) (fun t _ => flushed_eq m c t) fun i => by
    have h0 : (i 0 : Nat) < 16 := (i 0).isLt
    have h1 : (i 1 : Nat) < 4096 := (i 1).isLt
    have h2 : (i 2 : Nat) < 1024 := (i 2).isLt
    obtain ⟨t, e0, e1⟩ := place_of ⟨(i 0 : Nat), h0⟩ ⟨(i 1 : Nat) / 512, by omega⟩
    obtain ⟨⟨-, -, e2⟩, -⟩ := places t
    refine ⟨t, flush0_6 t, ?_⟩
    show i ∈ ((View.whole main_v1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; rw [e0]; dsimp only; omega
    | ⟨1, _⟩ => show win0_6.index t 1 * 512 ≤ (i 1 : Nat) ∧ (i 1 : Nat) < win0_6.index t 1 * 512 + 512; rw [e1]; dsimp only; omega
    | ⟨2, _⟩ => show win0_6.index t 2 * 1024 ≤ (i 2 : Nat) ∧ (i 2 : Nat) < win0_6.index t 2 * 1024 + 1024; rw [e2]; omega

/-- The run: the result array at the result, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.CombineIdeal.Array

end
-- ==== Proof.Combine.Ref.lean ====
/-
  The plain last step read at an entry: the stream plus the weighted experts' rows, normed and scaled.
-/
module

public import proofs.«01_k».proof.Proof.Combine.Terms
public import proofs.«01_k».proof.Proof.Gen.CombineRefIdeal.Run

@[expose] public section

noncomputable section

namespace Cert.CombineRefIdeal.Entry

open Cert.CombineRefIdeal Cert.CombineRefIdeal.Gen Cert.CombineTerms Idealize.ShloMosaic Idealize.ShloMosaic.TcCoe

/-! ## The steps, each from the arrays it reads -/

/-- Rows in chunks, as one array of tokens. -/
def unchunked (y : S4x65536x256.Idx → EReal) : FVec Ideal S16x4096x1024 .f32 :=
  shapeCast _ (transpose S65536x2x4x128 [1, 2, 0, 3] (shapeCast _ (extf (φ := .bf16) .f32 y bitsLt_bf16_f32) shapeCasts_S4x65536x256_S4x65536x2x128) transposes_S4x65536x2x128_S65536x2x4x128_1_2_0_3) shapeCasts_S65536x2x4x128_S16x4096x1024

/-- The weights of the first expert's rows, along each row. -/
def weightFirst (w : S65536x128.Idx → EReal) : FVec Ideal S16x4096x1024 .f32 :=
  broadcastInDim S16x4096x1024 ![0, 1, 2] bcast_S16x4096x1_S16x4096x1024_0_1_2 (extractStridedSlice S16x4096x1 ![0, 0, 0] (shapeCast _ (extractStridedSlice S65536x2 ![0, 2] w slices_S65536x128_S65536x2_0_2) shapeCasts_S65536x2_S16x4096x2) slices_S16x4096x2_S16x4096x1_0_0_0)

/-- And of the second's. -/
def weightSecond (w : S65536x128.Idx → EReal) : FVec Ideal S16x4096x1024 .f32 :=
  broadcastInDim S16x4096x1024 ![0, 1, 2] bcast_S16x4096x1_S16x4096x1024_0_1_2 (extractStridedSlice S16x4096x1 ![0, 0, 1] (shapeCast _ (extractStridedSlice S65536x2 ![0, 2] w slices_S65536x128_S65536x2_0_2) shapeCasts_S65536x2_S16x4096x2) slices_S16x4096x2_S16x4096x1_0_0_1)

/-- The stream plus the gain times the weighted rows. -/
def addedAll (h u a v b : S16x4096x1024.Idx → EReal) (g : S16x1x1024.Idx → EReal) : FVec Ideal S16x4096x1024 .f32 :=
  addf (φ := .f32) h (mulf (φ := .f32) (broadcastInDim S16x4096x1024 ![0, 1, 2] bcast_S16x1x1024_S16x4096x1024_0_1_2 g) (addf (φ := .f32) (mulf (φ := .f32) u a) (mulf (φ := .f32) v b)))

/-- The norm of a stream. -/
def scaledAll (x : S16x4096x1024.Idx → EReal) (f : S1024.Idx → EReal) : FVec Ideal S16x4096x1024 .f32 :=
  mulf (φ := .f32) (mulf (φ := .f32) x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf (φ := .f32) x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 f))

/-! ## Each read at an entry -/

set_option maxRecDepth 16384 in
theorem unchunked_apply (y : S4x65536x256.Idx → EReal) (n : Fin 16) (i : Fin 4096) (k : Fin 1024) :
    unchunked y (ix3 n i k) = y (ix3 (chunk k) (listed n i) (lane k)) := by
  pointwise [unchunked, chunk, listed, lane]

set_option maxRecDepth 16384 in
theorem weightFirst_apply (w : S65536x128.Idx → EReal) (n : Fin 16) (i : Fin 4096) (k : Fin 1024) :
    weightFirst w (ix3 n i k) = w (ix2 (listed n i) 2) := by
  pointwise [weightFirst, listed]

set_option maxRecDepth 16384 in
theorem weightSecond_apply (w : S65536x128.Idx → EReal) (n : Fin 16) (i : Fin 4096) (k : Fin 1024) :
    weightSecond w (ix3 n i k) = w (ix2 (listed n i) 3) := by
  pointwise [weightSecond, listed]

set_option maxRecDepth 16384 in
theorem addedAll_apply (h u a v b : S16x4096x1024.Idx → EReal) (g : S16x1x1024.Idx → EReal) (n : Fin 16) (i : Fin 4096) (k : Fin 1024) :
    addedAll h u a v b g (ix3 n i k)
      = h (ix3 n i k) + g (ix3 n 0 k) * (u (ix3 n i k) * a (ix3 n i k) + v (ix3 n i k) * b (ix3 n i k)) := by
  pointwise [addedAll]

set_option maxRecDepth 16384 in
theorem scaledAll_apply (x : S16x4096x1024.Idx → EReal) (f : S1024.Idx → EReal) (n : Fin 16) (i : Fin 4096) (k : Fin 1024) :
    scaledAll x f (ix3 n i k) = scaled (fun l => x (ix3 n i l)) (fun l => f (ix1 l)) k := by
  pointwise [scaledAll, scaled]

/-- The steps in one: the result at an entry. -/
theorem steps_apply (h : S16x4096x1024.Idx → EReal) (y1 y2 : S4x65536x256.Idx → EReal) (w : S65536x128.Idx → EReal)
    (g : S16x1x1024.Idx → EReal) (f : S1024.Idx → EReal) (n : Fin 16) (i : Fin 4096) (k : Fin 1024) :
    scaledAll (addedAll h (unchunked y1) (weightFirst w) (unchunked y2) (weightSecond w) g) f (ix3 n i k)
      = entry h y1 y2 w g f n i k := by
  rw [scaledAll_apply]
  unfold entry added
  simp only [addedAll_apply, unchunked_apply, weightFirst_apply, weightSecond_apply]

variable (m : (ℓ : Loc nD τ sig) → Buf (Elt Ideal) ℓ) (ρ : Dev nD → PrngReg)

set_option maxRecDepth 16384 in
/-- The result is the steps of memory's arguments. -/
theorem result_eq (c : Dev nD) : Value.res_out0 m c
    = scaledAll (addedAll (m ((c : Thread nD τ).loc main_arg0)) (unchunked (m ((c : Thread nD τ).loc main_arg1)))
        (weightFirst (m ((c : Thread nD τ).loc main_arg3))) (unchunked (m ((c : Thread nD τ).loc main_arg2)))
        (weightSecond (m ((c : Thread nD τ).loc main_arg3))) (m ((c : Thread nD τ).loc main_arg4)))
        (m ((c : Thread nD τ).loc main_arg5)) := rfl

/-- The run: the result at its entries, the arguments unchanged. -/
theorem run : θ_run defs (onTc (τ := τ) (main (F := Ideal))) ⟨m, fun _ => 0, ρ⟩ fun r => ∀ c : Dev nD,
      r.2.mem ((c : Thread nD τ).loc main_v32) = (fun i : S16x4096x1024.Idx =>
          entry (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans ((result_eq m c).trans (funext fun i => by
      rw [eq_ix3 i]
      exact steps_apply _ _ _ _ _ _ (i 0) (i 1) (i 2))), (h c).2⟩) (Value.run m ρ)

end Cert.CombineRefIdeal.Entry

end
-- ==== Proof.lean ====
/-
  The claim: the SparseCore gather of the experts' rows takes the rows `dest` names, as the reference does, bit for bit; the
  input projection computes its modulated norm and its product with the weights, as its reference does, over the extended
  reals; the attention call computes the softmax of the scores over the values, as its reference does, over the extended
  reals where the queries and keys are finite; the merge of the two mixers leaves the new stream, its modulated norm and the
  router's logits, as its reference does, over the extended reals where the stream and the weights are finite; the last
  step adds the weighted experts' rows and norms the stream, as its reference does, over the extended reals; the programs and references end with their arguments as they were and every counter at zero.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference.Run
public import proofs.«01_k».proof.Proof.Gen.Reference
public import proofs.«01_k».proof.Proof.Gen.Pre_dest_in_rows
public import proofs.«01_k».proof.Proof.Gather.Pre
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjRefIdeal
public import proofs.«01_k».proof.Proof.Gen.InProjRefIdeal.Run
public import proofs.«01_k».proof.Proof.InProj.Array
public import proofs.«01_k».proof.Proof.InProj.Ref
public import proofs.«01_k».proof.Proof.Gen.Attend
public import proofs.«01_k».proof.Proof.Gen.Attend.Frame
public import proofs.«01_k».proof.Proof.Gen.AttendIdeal
public import proofs.«01_k».proof.Proof.Gen.AttendIdeal.Value
public import proofs.«01_k».proof.Proof.Gen.AttendRefIdeal
public import proofs.«01_k».proof.Proof.Gen.AttendRefIdeal.Run
public import proofs.«01_k».proof.Proof.Gen.Pre_scores_finite
public import proofs.«01_k».proof.Proof.Attend.Array
public import proofs.«01_k».proof.Proof.Attend.Ref
public import proofs.«01_k».proof.Proof.Attend.Pre
public import proofs.«01_k».proof.Proof.Gen.MergeIdeal.Value
public import proofs.«01_k».proof.Proof.Gen.Merge
public import proofs.«01_k».proof.Proof.Gen.Merge.Frame
public import proofs.«01_k».proof.Proof.Gen.MergeIdeal
public import proofs.«01_k».proof.Proof.Gen.MergeRefIdeal
public import proofs.«01_k».proof.Proof.Gen.Pre_stream_finite
public import proofs.«01_k».proof.Proof.Gen.MergeRefIdeal.Run
public import proofs.«01_k».proof.Proof.Merge.Array
public import proofs.«01_k».proof.Proof.Merge.Ref
public import proofs.«01_k».proof.Proof.Merge.Pre
public import proofs.«01_k».proof.Proof.Gen.Combine
public import proofs.«01_k».proof.Proof.Gen.Combine.Frame
public import proofs.«01_k».proof.Proof.Gen.CombineIdeal
public import proofs.«01_k».proof.Proof.Gen.CombineIdeal.Value
public import proofs.«01_k».proof.Proof.Gen.CombineRefIdeal
public import proofs.«01_k».proof.Proof.Gen.CombineRefIdeal.Run
public import proofs.«01_k».proof.Proof.Combine.Array
public import proofs.«01_k».proof.Proof.Combine.Ref
public import Idealize.ShloMosaic.Adequacy
public import Idealize.ShloMosaic.Init

@[expose] public section

noncomputable section

namespace Cert.Proof

open Idealize.ShloMosaic Idealize.SL.Sem Cert.Kernel

open Gather (run_take inRows_of_pre REF_take)

/-! ## The frames -/

/-- The program over bit patterns keeps its arguments and leaves every counter at zero. -/
theorem frame_kernel : Cert.quiescent_Kernel := fun m ρ h =>
  (θ_run Cert.KernelIdeal.defs _ _).mono (fun _ h => ⟨fun c => (h.1 c).2, h.2⟩)
    (run_take (F := Bits) m ρ fun d => inRows_of_pre _ _ (h d))

/-- So does the program over extended reals. -/
theorem frame_kernelIdeal : Cert.quiescent_KernelIdeal := fun m ρ h =>
  (θ_run Cert.KernelIdeal.defs _ _).mono (fun _ h => ⟨fun c => (h.1 c).2, h.2⟩)
    (run_take (F := Ideal) m ρ fun d => inRows_of_pre _ _ (h d))

/-- The references keep their arguments; they declare no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

/-- Over extended reals both leave the rows `dest` names. -/
theorem algebraic : Cert.algebraic_KernelIdeal_ReferenceIdeal := fun m ρ m' ρ' hpre hargs =>
  have hy := fun d => inRows_of_pre _ _ (hpre d)
  ⟨fun c => Gather.TAKE (Gather.X m c) (Gather.Y m c), (θ_run Cert.KernelIdeal.defs _ _).mono (fun _ h => h.1) (run_take (F := Ideal) m ρ hy),
    (θ_run Cert.ReferenceIdeal.defs _ _).mono
      (fun _ h c => ⟨(h c).1.trans (by rw [(hargs c).1, (hargs c).2]; exact REF_take _ _ (hy c)), (h c).2⟩)
      (Cert.ReferenceIdeal.Value.run (F := Ideal) m' ρ')⟩

/-- Over bit patterns too: the results are equal bit for bit. -/
theorem bitexact : Cert.bitexact_Kernel_Reference := fun m ρ m' ρ' hpre hargs =>
  have hy := fun d => inRows_of_pre _ _ (hpre d)
  ⟨fun c => Gather.TAKE (Gather.X (F := Bits) m c) (Gather.Y (F := Bits) m c),
    (θ_run Cert.KernelIdeal.defs _ _).mono (fun _ h => h.1) (run_take (F := Bits) m ρ hy),
    (θ_run Cert.Reference.defs _ _).mono
      (fun _ h c => ⟨(h c).1.trans (by rw [(hargs c).1, (hargs c).2]; exact REF_take _ _ (hy c)), (h c).2⟩)
      (Cert.Reference.Value.run (F := Bits) m' ρ')⟩

/-! ## The input projection -/

/-- Its reference keeps its arguments; it declares no semaphore. -/
theorem frame_inProjRef : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- Over extended reals the blocked projection and the plain one leave the same array. -/
theorem algebraic_inProj : Cert.algebraic_InProjIdeal_InProjRefIdeal := fun m ρ m' ρ' _ hargs =>
  ⟨fun c => Cert.InProjIdeal.Array.result m c, Cert.InProjIdeal.Array.run m ρ,
    (θ_run Cert.InProjRefIdeal.defs _ _).mono
      (fun _ h c => ⟨(h c).1.trans (by
        obtain ⟨h0, h1, h2, h3, h4⟩ := hargs c
        rw [h0, h1, h2, h3, h4]
        rfl), (h c).2⟩)
      (Cert.InProjRefIdeal.Entry.run m' ρ')⟩

/-! ## The attention -/

/-- Its reference keeps its arguments; it declares no semaphore. -/
theorem frame_attendRef : Cert.quiescent_AttendRefIdeal := fun m ρ _ =>
  (θ_run Cert.AttendRefIdeal.defs _ _).mono (fun r h => ⟨fun c => (h c).2, sem_eq_zero_of_no_sems (by decide) r.2⟩)
    (Cert.AttendRefIdeal.Value.run (F := Ideal) m ρ)

/-- Over extended reals, from finite queries and keys, the blocked attention and the plain one leave the same array. -/
theorem algebraic_attend : Cert.algebraic_AttendIdeal_AttendRefIdeal_pre_scores_finite := fun m ρ m' ρ' hpre hargs =>
  ⟨fun c => Cert.AttendIdeal.Array.result m c,
    Cert.AttendIdeal.Array.run m ρ fun c => Cert.AttendTerms.reals_of_pre _ _ _ _ _ (hpre c),
    (θ_run Cert.AttendRefIdeal.defs _ _).mono
      (fun _ h c => ⟨(h c).1.trans (by
        obtain ⟨h0, h1, h2, h3, h4⟩ := hargs c
        rw [h0, h1, h2, h3, h4]
        rfl), (h c).2⟩)
      (Cert.AttendRefIdeal.Entry.run m' ρ')⟩

/-! ## The merge -/

/-- Its reference keeps its arguments; it declares no semaphore. -/
theorem frame_mergeRef : Cert.quiescent_MergeRefIdeal := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

/-- Over extended reals, from a finite stream and finite weights, the blocked merge and the plain one leave the same stream,
    the same chunks of its modulated norm and the same logits. -/
theorem algebraic_merge : Cert.algebraic_MergeIdeal_MergeRefIdeal_pre_stream_finite := fun m ρ m' ρ' hpre hargs =>
  ⟨fun c => Cert.MergeIdeal.Array.stream m c, fun c => Cert.MergeIdeal.Array.chunks m c,
    fun c => Cert.MergeIdeal.Array.logits m c,
    Cert.MergeIdeal.Array.run m ρ fun c => Cert.MergeTerms.reals_of_pre _ _ _ _ _ _ _ _ _ _ _ _ _ _ _ (hpre c),
    (θ_run Cert.MergeRefIdeal.defs _ _).mono
      (fun _ h c => ⟨(h c).1.trans (by
          obtain ⟨h0, h1, h2, h3, h4, h5, h6, h7, h8, h9, h10, h11, h12, h13, h14⟩ := hargs c
          rw [h0, h1, h2, h3, h4, h5, h6, h7]
          rfl),
        (h c).2.1.trans (by
          obtain ⟨h0, h1, h2, h3, h4, h5, h6, h7, h8, h9, h10, h11, h12, h13, h14⟩ := hargs c
          rw [h0, h1, h2, h3, h4, h5, h6, h7, h8, h9, h10]
          rfl),
        (h c).2.2.1.trans (by
          obtain ⟨h0, h1, h2, h3, h4, h5, h6, h7, h8, h9, h10, h11, h12, h13, h14⟩ := hargs c
          rw [h0, h1, h2, h3, h4, h5, h6, h7, h8, h9, h10, h11, h12, h13, h14]
          rfl),
        (h c).2.2.2⟩)
      (Cert.MergeRefIdeal.Entry.run m' ρ')⟩

/-! ## The last step -/

/-- Its reference keeps its arguments; it declares no semaphore. -/
theorem frame_combineRef : Cert.quiescent_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)

/-- Over extended reals the blocked step and the plain one leave the same array. -/
theorem algebraic_combine : Cert.algebraic_CombineIdeal_CombineRefIdeal := fun m ρ m' ρ' _ hargs =>
  ⟨fun c => Cert.CombineIdeal.Array.result m c, Cert.CombineIdeal.Array.run m ρ,
    (θ_run Cert.CombineRefIdeal.defs _ _).mono
      (fun _ h c => ⟨(h c).1.trans (by
        obtain ⟨h0, h1, h2, h3, h4, h5⟩ := hargs c
        rw [h0, h1, h2, h3, h4, h5]
        rfl), (h c).2⟩)
      (Cert.CombineRefIdeal.Entry.run m' ρ')⟩

theorem claim : Cert.Claim := ⟨Cert.Kernel.Gen.facts, Cert.KernelIdeal.Gen.facts, Cert.ReferenceIdeal.Gen.facts,
  Cert.Reference.Gen.facts, Cert.InProj.Gen.facts, Cert.InProjIdeal.Gen.facts, Cert.InProjRefIdeal.Gen.facts,
  Cert.Attend.Gen.facts, Cert.AttendIdeal.Gen.facts, Cert.AttendRefIdeal.Gen.facts,
  Cert.Merge.Gen.facts, Cert.MergeIdeal.Gen.facts, Cert.MergeRefIdeal.Gen.facts,
  Cert.Combine.Gen.facts, Cert.CombineIdeal.Gen.facts, Cert.CombineRefIdeal.Gen.facts,
  Cert.Pre_dest_in_rows.Gen.facts, Cert.Pre_scores_finite.Gen.facts, Cert.Pre_stream_finite.Gen.facts,
  frame_kernel, frame_kernelIdeal, frame_referenceIdeal, frame_reference,
  fun m ρ _ => Cert.InProj.Gen.frame m ρ, fun m ρ _ => Cert.InProjIdeal.Gen.frame m ρ, frame_inProjRef,
  fun m ρ _ => Cert.Attend.Gen.frame m ρ, fun m ρ _ => Cert.AttendIdeal.Gen.frame m ρ,
  fun m ρ _ => Cert.AttendIdeal.Gen.frame m ρ, frame_attendRef, fun m ρ _ => frame_attendRef m ρ trivial,
  fun m ρ _ => Cert.Merge.Gen.frame m ρ, fun m ρ _ => Cert.MergeIdeal.Gen.frame m ρ,
  fun m ρ _ => Cert.MergeIdeal.Gen.frame m ρ, frame_mergeRef, fun m ρ _ => frame_mergeRef m ρ trivial,
  fun m ρ _ => Cert.Combine.Gen.frame m ρ, fun m ρ _ => Cert.CombineIdeal.Gen.frame m ρ, frame_combineRef,
  trivial, algebraic, bitexact, trivial, algebraic_inProj, trivial, algebraic_attend,
  trivial, algebraic_merge, trivial, algebraic_combine⟩

end Cert.Proof

end
